-- ==== Defs.lean ====
def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_a [hPre_finite_a : Cert.Pre_finite_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_a [hPre_finite_a : Cert.Pre_finite_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))) = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_finite_c [hPre_finite_c : Cert.Pre_finite_c.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2))) = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_finite_c [hPre_finite_c : Cert.Pre_finite_c.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2))) = (fun _ => 1#1)

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_ReferencePIdeal (m : (ℓ : Loc Cert.ReferencePIdeal.nD Cert.ReferencePIdeal.τ Cert.ReferencePIdeal.sig) → Buf (Elt Ideal) ℓ) : Prop :=
  True

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_KernelAIdeal_pre_finite_a [hKernelAIdeal : Cert.KernelAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_ReferenceAIdeal_pre_finite_a [hReferenceAIdeal : Cert.ReferenceAIdeal.Facts] [hPre_finite_a : Cert.Pre_finite_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_KernelCIdeal_pre_finite_c [hKernelCIdeal : Cert.KernelCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_finite_c m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_ReferenceCIdeal_pre_finite_c [hReferenceCIdeal : Cert.ReferenceCIdeal.Facts] [hPre_finite_c : Cert.Pre_finite_c.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_finite_c m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5)
      ∧ r.2.mem ((c.tc : Thread Cert.KernelM.nD Cert.KernelM.τ).loc Cert.KernelM.main_arg6) = m ((c.tc : Thread Cert.KernelM.nD Cert.KernelM.τ).loc Cert.KernelM.main_arg6)
      ∧ r.2.mem ((c.tc : Thread Cert.KernelM.nD Cert.KernelM.τ).loc Cert.KernelM.main_arg7) = m ((c.tc : Thread Cert.KernelM.nD Cert.KernelM.τ).loc Cert.KernelM.main_arg7)
      ∧ r.2.mem ((c.tc : Thread Cert.KernelM.nD Cert.KernelM.τ).loc Cert.KernelM.main_arg8) = m ((c.tc : Thread Cert.KernelM.nD Cert.KernelM.τ).loc Cert.KernelM.main_arg8)
      ∧ r.2.mem ((c.tc : Thread Cert.KernelM.nD Cert.KernelM.τ).loc Cert.KernelM.main_arg9) = m ((c.tc : Thread Cert.KernelM.nD Cert.KernelM.τ).loc Cert.KernelM.main_arg9)
      ∧ r.2.mem ((c.tc : Thread Cert.KernelM.nD Cert.KernelM.τ).loc Cert.KernelM.main_arg10) = m ((c.tc : Thread Cert.KernelM.nD Cert.KernelM.τ).loc Cert.KernelM.main_arg10))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
      ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
      ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8)
      ∧ r.2.mem ((c.tc : Thread Cert.KernelMIdeal.nD Cert.KernelMIdeal.τ).loc Cert.KernelMIdeal.main_arg9) = m ((c.tc : Thread Cert.KernelMIdeal.nD Cert.KernelMIdeal.τ).loc Cert.KernelMIdeal.main_arg9)
      ∧ r.2.mem ((c.tc : Thread Cert.KernelMIdeal.nD Cert.KernelMIdeal.τ).loc Cert.KernelMIdeal.main_arg10) = m ((c.tc : Thread Cert.KernelMIdeal.nD Cert.KernelMIdeal.τ).loc Cert.KernelMIdeal.main_arg10))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6)
      ∧ r.2.mem ((c.tc : Thread Cert.ReferenceMIdeal.nD Cert.ReferenceMIdeal.τ).loc Cert.ReferenceMIdeal.main_arg7) = m ((c.tc : Thread Cert.ReferenceMIdeal.nD Cert.ReferenceMIdeal.τ).loc Cert.ReferenceMIdeal.main_arg7)
      ∧ r.2.mem ((c.tc : Thread Cert.ReferenceMIdeal.nD Cert.ReferenceMIdeal.τ).loc Cert.ReferenceMIdeal.main_arg8) = m ((c.tc : Thread Cert.ReferenceMIdeal.nD Cert.ReferenceMIdeal.τ).loc Cert.ReferenceMIdeal.main_arg8)
      ∧ r.2.mem ((c.tc : Thread Cert.ReferenceMIdeal.nD Cert.ReferenceMIdeal.τ).loc Cert.ReferenceMIdeal.main_arg9) = m ((c.tc : Thread Cert.ReferenceMIdeal.nD Cert.ReferenceMIdeal.τ).loc Cert.ReferenceMIdeal.main_arg9)
      ∧ r.2.mem ((c.tc : Thread Cert.ReferenceMIdeal.nD Cert.ReferenceMIdeal.τ).loc Cert.ReferenceMIdeal.main_arg10) = m ((c.tc : Thread Cert.ReferenceMIdeal.nD Cert.ReferenceMIdeal.τ).loc Cert.ReferenceMIdeal.main_arg10))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1))
      ∧ r.2.sem = fun _ => 0)

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1)
      ∧ r.2.mem ((c.tc : Thread Cert.KernelP.nD Cert.KernelP.τ).loc Cert.KernelP.main_arg2) = m ((c.tc : Thread Cert.KernelP.nD Cert.KernelP.τ).loc Cert.KernelP.main_arg2)
      ∧ r.2.mem ((c.tc : Thread Cert.KernelP.nD Cert.KernelP.τ).loc Cert.KernelP.main_arg3) = m ((c.tc : Thread Cert.KernelP.nD Cert.KernelP.τ).loc Cert.KernelP.main_arg3)
      ∧ r.2.mem ((c.tc : Thread Cert.KernelP.nD Cert.KernelP.τ).loc Cert.KernelP.main_arg4) = m ((c.tc : Thread Cert.KernelP.nD Cert.KernelP.τ).loc Cert.KernelP.main_arg4)
      ∧ r.2.mem ((c.tc : Thread Cert.KernelP.nD Cert.KernelP.τ).loc Cert.KernelP.main_arg5) = m ((c.tc : Thread Cert.KernelP.nD Cert.KernelP.τ).loc Cert.KernelP.main_arg5)
      ∧ r.2.mem ((c.tc : Thread Cert.KernelP.nD Cert.KernelP.τ).loc Cert.KernelP.main_arg6) = m ((c.tc : Thread Cert.KernelP.nD Cert.KernelP.τ).loc Cert.KernelP.main_arg6)
      ∧ r.2.mem ((c.tc : Thread Cert.KernelP.nD Cert.KernelP.τ).loc Cert.KernelP.main_arg7) = m ((c.tc : Thread Cert.KernelP.nD Cert.KernelP.τ).loc Cert.KernelP.main_arg7)
      ∧ r.2.mem ((c.tc : Thread Cert.KernelP.nD Cert.KernelP.τ).loc Cert.KernelP.main_arg8) = m ((c.tc : Thread Cert.KernelP.nD Cert.KernelP.τ).loc Cert.KernelP.main_arg8)
      ∧ r.2.mem ((c.tc : Thread Cert.KernelP.nD Cert.KernelP.τ).loc Cert.KernelP.main_arg9) = m ((c.tc : Thread Cert.KernelP.nD Cert.KernelP.τ).loc Cert.KernelP.main_arg9))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
      ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
      ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3)
      ∧ r.2.mem ((c.tc : Thread Cert.KernelPIdeal.nD Cert.KernelPIdeal.τ).loc Cert.KernelPIdeal.main_arg4) = m ((c.tc : Thread Cert.KernelPIdeal.nD Cert.KernelPIdeal.τ).loc Cert.KernelPIdeal.main_arg4)
      ∧ r.2.mem ((c.tc : Thread Cert.KernelPIdeal.nD Cert.KernelPIdeal.τ).loc Cert.KernelPIdeal.main_arg5) = m ((c.tc : Thread Cert.KernelPIdeal.nD Cert.KernelPIdeal.τ).loc Cert.KernelPIdeal.main_arg5)
      ∧ r.2.mem ((c.tc : Thread Cert.KernelPIdeal.nD Cert.KernelPIdeal.τ).loc Cert.KernelPIdeal.main_arg6) = m ((c.tc : Thread Cert.KernelPIdeal.nD Cert.KernelPIdeal.τ).loc Cert.KernelPIdeal.main_arg6)
      ∧ r.2.mem ((c.tc : Thread Cert.KernelPIdeal.nD Cert.KernelPIdeal.τ).loc Cert.KernelPIdeal.main_arg7) = m ((c.tc : Thread Cert.KernelPIdeal.nD Cert.KernelPIdeal.τ).loc Cert.KernelPIdeal.main_arg7)
      ∧ r.2.mem ((c.tc : Thread Cert.KernelPIdeal.nD Cert.KernelPIdeal.τ).loc Cert.KernelPIdeal.main_arg8) = m ((c.tc : Thread Cert.KernelPIdeal.nD Cert.KernelPIdeal.τ).loc Cert.KernelPIdeal.main_arg8)
      ∧ r.2.mem ((c.tc : Thread Cert.KernelPIdeal.nD Cert.KernelPIdeal.τ).loc Cert.KernelPIdeal.main_arg9) = m ((c.tc : Thread Cert.KernelPIdeal.nD Cert.KernelPIdeal.τ).loc Cert.KernelPIdeal.main_arg9))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1)
      ∧ r.2.mem ((c.tc : Thread Cert.ReferencePIdeal.nD Cert.ReferencePIdeal.τ).loc Cert.ReferencePIdeal.main_arg2) = m ((c.tc : Thread Cert.ReferencePIdeal.nD Cert.ReferencePIdeal.τ).loc Cert.ReferencePIdeal.main_arg2)
      ∧ r.2.mem ((c.tc : Thread Cert.ReferencePIdeal.nD Cert.ReferencePIdeal.τ).loc Cert.ReferencePIdeal.main_arg3) = m ((c.tc : Thread Cert.ReferencePIdeal.nD Cert.ReferencePIdeal.τ).loc Cert.ReferencePIdeal.main_arg3)
      ∧ r.2.mem ((c.tc : Thread Cert.ReferencePIdeal.nD Cert.ReferencePIdeal.τ).loc Cert.ReferencePIdeal.main_arg4) = m ((c.tc : Thread Cert.ReferencePIdeal.nD Cert.ReferencePIdeal.τ).loc Cert.ReferencePIdeal.main_arg4)
      ∧ r.2.mem ((c.tc : Thread Cert.ReferencePIdeal.nD Cert.ReferencePIdeal.τ).loc Cert.ReferencePIdeal.main_arg5) = m ((c.tc : Thread Cert.ReferencePIdeal.nD Cert.ReferencePIdeal.τ).loc Cert.ReferencePIdeal.main_arg5)
      ∧ r.2.mem ((c.tc : Thread Cert.ReferencePIdeal.nD Cert.ReferencePIdeal.τ).loc Cert.ReferencePIdeal.main_arg6) = m ((c.tc : Thread Cert.ReferencePIdeal.nD Cert.ReferencePIdeal.τ).loc Cert.ReferencePIdeal.main_arg6)
      ∧ r.2.mem ((c.tc : Thread Cert.ReferencePIdeal.nD Cert.ReferencePIdeal.τ).loc Cert.ReferencePIdeal.main_arg7) = m ((c.tc : Thread Cert.ReferencePIdeal.nD Cert.ReferencePIdeal.τ).loc Cert.ReferencePIdeal.main_arg7)
      ∧ r.2.mem ((c.tc : Thread Cert.ReferencePIdeal.nD Cert.ReferencePIdeal.τ).loc Cert.ReferencePIdeal.main_arg8) = m ((c.tc : Thread Cert.ReferencePIdeal.nD Cert.ReferencePIdeal.τ).loc Cert.ReferencePIdeal.main_arg8)
      ∧ r.2.mem ((c.tc : Thread Cert.ReferencePIdeal.nD Cert.ReferencePIdeal.τ).loc Cert.ReferencePIdeal.main_arg9) = m ((c.tc : Thread Cert.ReferencePIdeal.nD Cert.ReferencePIdeal.τ).loc Cert.ReferencePIdeal.main_arg9))
      ∧ r.2.sem = fun _ => 0)

def preserves_KernelA_KernelAIdeal : Prop :=
  True

def algebraic_KernelAIdeal_ReferenceAIdeal_pre_finite_a [hKernelAIdeal : Cert.KernelAIdeal.Facts] [hReferenceAIdeal : Cert.ReferenceAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v0)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v28) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelB_KernelBIdeal : Prop :=
  True

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v0)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v0) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v27) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelC_KernelCIdeal : Prop :=
  True

def algebraic_KernelCIdeal_ReferenceCIdeal_pre_finite_c [hKernelCIdeal : Cert.KernelCIdeal.Facts] [hReferenceCIdeal : Cert.ReferenceCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_finite_c m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)) →
    ∃ (v0 : (c : Dev Cert.KernelCIdeal.nD) → Buf (Elt Ideal) ((c.tc : Thread Cert.KernelCIdeal.nD Cert.KernelCIdeal.τ).loc Cert.KernelCIdeal.main_v0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v27) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)
      ∧ m' ((c.tc : Thread Cert.ReferenceMIdeal.nD Cert.ReferenceMIdeal.τ).loc Cert.ReferenceMIdeal.main_arg6) = m ((c.tc : Thread Cert.KernelMIdeal.nD Cert.KernelMIdeal.τ).loc Cert.KernelMIdeal.main_arg6)
      ∧ m' ((c.tc : Thread Cert.ReferenceMIdeal.nD Cert.ReferenceMIdeal.τ).loc Cert.ReferenceMIdeal.main_arg7) = m ((c.tc : Thread Cert.KernelMIdeal.nD Cert.KernelMIdeal.τ).loc Cert.KernelMIdeal.main_arg7)
      ∧ m' ((c.tc : Thread Cert.ReferenceMIdeal.nD Cert.ReferenceMIdeal.τ).loc Cert.ReferenceMIdeal.main_arg8) = m ((c.tc : Thread Cert.KernelMIdeal.nD Cert.KernelMIdeal.τ).loc Cert.KernelMIdeal.main_arg8)
      ∧ m' ((c.tc : Thread Cert.ReferenceMIdeal.nD Cert.ReferenceMIdeal.τ).loc Cert.ReferenceMIdeal.main_arg9) = m ((c.tc : Thread Cert.KernelMIdeal.nD Cert.KernelMIdeal.τ).loc Cert.KernelMIdeal.main_arg9)
      ∧ m' ((c.tc : Thread Cert.ReferenceMIdeal.nD Cert.ReferenceMIdeal.τ).loc Cert.ReferenceMIdeal.main_arg10) = m ((c.tc : Thread Cert.KernelMIdeal.nD Cert.KernelMIdeal.τ).loc Cert.KernelMIdeal.main_arg10)) →
    ∃ (v0 : (c : Dev Cert.KernelMIdeal.nD) → Buf (Elt Ideal) ((c.tc : Thread Cert.KernelMIdeal.nD Cert.KernelMIdeal.τ).loc Cert.KernelMIdeal.main_v5)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v5) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
          ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
          ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
          ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8)
          ∧ r.2.mem ((c.tc : Thread Cert.KernelMIdeal.nD Cert.KernelMIdeal.τ).loc Cert.KernelMIdeal.main_arg9) = m ((c.tc : Thread Cert.KernelMIdeal.nD Cert.KernelMIdeal.τ).loc Cert.KernelMIdeal.main_arg9)
          ∧ r.2.mem ((c.tc : Thread Cert.KernelMIdeal.nD Cert.KernelMIdeal.τ).loc Cert.KernelMIdeal.main_arg10) = m ((c.tc : Thread Cert.KernelMIdeal.nD Cert.KernelMIdeal.τ).loc Cert.KernelMIdeal.main_arg10))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v50) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5)
          ∧ r.2.mem ((c.tc : Thread Cert.ReferenceMIdeal.nD Cert.ReferenceMIdeal.τ).loc Cert.ReferenceMIdeal.main_arg6) = m' ((c.tc : Thread Cert.ReferenceMIdeal.nD Cert.ReferenceMIdeal.τ).loc Cert.ReferenceMIdeal.main_arg6)
          ∧ r.2.mem ((c.tc : Thread Cert.ReferenceMIdeal.nD Cert.ReferenceMIdeal.τ).loc Cert.ReferenceMIdeal.main_arg7) = m' ((c.tc : Thread Cert.ReferenceMIdeal.nD Cert.ReferenceMIdeal.τ).loc Cert.ReferenceMIdeal.main_arg7)
          ∧ r.2.mem ((c.tc : Thread Cert.ReferenceMIdeal.nD Cert.ReferenceMIdeal.τ).loc Cert.ReferenceMIdeal.main_arg8) = m' ((c.tc : Thread Cert.ReferenceMIdeal.nD Cert.ReferenceMIdeal.τ).loc Cert.ReferenceMIdeal.main_arg8)
          ∧ r.2.mem ((c.tc : Thread Cert.ReferenceMIdeal.nD Cert.ReferenceMIdeal.τ).loc Cert.ReferenceMIdeal.main_arg9) = m' ((c.tc : Thread Cert.ReferenceMIdeal.nD Cert.ReferenceMIdeal.τ).loc Cert.ReferenceMIdeal.main_arg9)
          ∧ r.2.mem ((c.tc : Thread Cert.ReferenceMIdeal.nD Cert.ReferenceMIdeal.τ).loc Cert.ReferenceMIdeal.main_arg10) = m' ((c.tc : Thread Cert.ReferenceMIdeal.nD Cert.ReferenceMIdeal.τ).loc Cert.ReferenceMIdeal.main_arg10))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)) →
    ∃ (v0 : (c : Dev Cert.KernelNIdeal.nD) → Buf (Elt Ideal) ((c.tc : Thread Cert.KernelNIdeal.nD Cert.KernelNIdeal.τ).loc Cert.KernelNIdeal.main_v1)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v1) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v12) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1))

def preserves_KernelP_KernelPIdeal : Prop :=
  True

def algebraic_KernelPIdeal_ReferencePIdeal [hKernelPIdeal : Cert.KernelPIdeal.Facts] [hReferencePIdeal : Cert.ReferencePIdeal.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)
      ∧ m' ((c.tc : Thread Cert.ReferencePIdeal.nD Cert.ReferencePIdeal.τ).loc Cert.ReferencePIdeal.main_arg2) = m ((c.tc : Thread Cert.KernelPIdeal.nD Cert.KernelPIdeal.τ).loc Cert.KernelPIdeal.main_arg2)
      ∧ m' ((c.tc : Thread Cert.ReferencePIdeal.nD Cert.ReferencePIdeal.τ).loc Cert.ReferencePIdeal.main_arg3) = m ((c.tc : Thread Cert.KernelPIdeal.nD Cert.KernelPIdeal.τ).loc Cert.KernelPIdeal.main_arg3)
      ∧ m' ((c.tc : Thread Cert.ReferencePIdeal.nD Cert.ReferencePIdeal.τ).loc Cert.ReferencePIdeal.main_arg4) = m ((c.tc : Thread Cert.KernelPIdeal.nD Cert.KernelPIdeal.τ).loc Cert.KernelPIdeal.main_arg4)
      ∧ m' ((c.tc : Thread Cert.ReferencePIdeal.nD Cert.ReferencePIdeal.τ).loc Cert.ReferencePIdeal.main_arg5) = m ((c.tc : Thread Cert.KernelPIdeal.nD Cert.KernelPIdeal.τ).loc Cert.KernelPIdeal.main_arg5)
      ∧ m' ((c.tc : Thread Cert.ReferencePIdeal.nD Cert.ReferencePIdeal.τ).loc Cert.ReferencePIdeal.main_arg6) = m ((c.tc : Thread Cert.KernelPIdeal.nD Cert.KernelPIdeal.τ).loc Cert.KernelPIdeal.main_arg6)
      ∧ m' ((c.tc : Thread Cert.ReferencePIdeal.nD Cert.ReferencePIdeal.τ).loc Cert.ReferencePIdeal.main_arg7) = m ((c.tc : Thread Cert.KernelPIdeal.nD Cert.KernelPIdeal.τ).loc Cert.KernelPIdeal.main_arg7)
      ∧ m' ((c.tc : Thread Cert.ReferencePIdeal.nD Cert.ReferencePIdeal.τ).loc Cert.ReferencePIdeal.main_arg8) = m ((c.tc : Thread Cert.KernelPIdeal.nD Cert.KernelPIdeal.τ).loc Cert.KernelPIdeal.main_arg8)
      ∧ m' ((c.tc : Thread Cert.ReferencePIdeal.nD Cert.ReferencePIdeal.τ).loc Cert.ReferencePIdeal.main_arg9) = m ((c.tc : Thread Cert.KernelPIdeal.nD Cert.KernelPIdeal.τ).loc Cert.KernelPIdeal.main_arg9)) →
    ∃ (v0 : (c : Dev Cert.KernelPIdeal.nD) → Buf (Elt Ideal) ((c.tc : Thread Cert.KernelPIdeal.nD Cert.KernelPIdeal.τ).loc Cert.KernelPIdeal.main_v100_2)) (v1 : (c : Dev Cert.KernelPIdeal.nD) → Buf (Elt Ideal) ((c.tc : Thread Cert.KernelPIdeal.nD Cert.KernelPIdeal.τ).loc Cert.KernelPIdeal.main_v100_3)) (v2 : (c : Dev Cert.KernelPIdeal.nD) → Buf (Elt Ideal) ((c.tc : Thread Cert.KernelPIdeal.nD Cert.KernelPIdeal.τ).loc Cert.KernelPIdeal.main_v100_4)) (v3 : (c : Dev Cert.KernelPIdeal.nD) → Buf (Elt Ideal) ((c.tc : Thread Cert.KernelPIdeal.nD Cert.KernelPIdeal.τ).loc Cert.KernelPIdeal.main_v100_5)) (v4 : (c : Dev Cert.KernelPIdeal.nD) → Buf (Elt Ideal) ((c.tc : Thread Cert.KernelPIdeal.nD Cert.KernelPIdeal.τ).loc Cert.KernelPIdeal.main_v100_8)) (v5 : (c : Dev Cert.KernelPIdeal.nD) → Buf (Elt Ideal) ((c.tc : Thread Cert.KernelPIdeal.nD Cert.KernelPIdeal.τ).loc Cert.KernelPIdeal.main_v100_9)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v100_2) = v0 c
          ∧ r.2.mem ((c.tc : Thread Cert.KernelPIdeal.nD Cert.KernelPIdeal.τ).loc Cert.KernelPIdeal.main_v100_3) = v1 c
          ∧ r.2.mem ((c.tc : Thread Cert.KernelPIdeal.nD Cert.KernelPIdeal.τ).loc Cert.KernelPIdeal.main_v100_4) = v2 c
          ∧ r.2.mem ((c.tc : Thread Cert.KernelPIdeal.nD Cert.KernelPIdeal.τ).loc Cert.KernelPIdeal.main_v100_5) = v3 c
          ∧ r.2.mem ((c.tc : Thread Cert.KernelPIdeal.nD Cert.KernelPIdeal.τ).loc Cert.KernelPIdeal.main_v100_8) = v4 c
          ∧ r.2.mem ((c.tc : Thread Cert.KernelPIdeal.nD Cert.KernelPIdeal.τ).loc Cert.KernelPIdeal.main_v100_9) = v5 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
          ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
          ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3)
          ∧ r.2.mem ((c.tc : Thread Cert.KernelPIdeal.nD Cert.KernelPIdeal.τ).loc Cert.KernelPIdeal.main_arg4) = m ((c.tc : Thread Cert.KernelPIdeal.nD Cert.KernelPIdeal.τ).loc Cert.KernelPIdeal.main_arg4)
          ∧ r.2.mem ((c.tc : Thread Cert.KernelPIdeal.nD Cert.KernelPIdeal.τ).loc Cert.KernelPIdeal.main_arg5) = m ((c.tc : Thread Cert.KernelPIdeal.nD Cert.KernelPIdeal.τ).loc Cert.KernelPIdeal.main_arg5)
          ∧ r.2.mem ((c.tc : Thread Cert.KernelPIdeal.nD Cert.KernelPIdeal.τ).loc Cert.KernelPIdeal.main_arg6) = m ((c.tc : Thread Cert.KernelPIdeal.nD Cert.KernelPIdeal.τ).loc Cert.KernelPIdeal.main_arg6)
          ∧ r.2.mem ((c.tc : Thread Cert.KernelPIdeal.nD Cert.KernelPIdeal.τ).loc Cert.KernelPIdeal.main_arg7) = m ((c.tc : Thread Cert.KernelPIdeal.nD Cert.KernelPIdeal.τ).loc Cert.KernelPIdeal.main_arg7)
          ∧ r.2.mem ((c.tc : Thread Cert.KernelPIdeal.nD Cert.KernelPIdeal.τ).loc Cert.KernelPIdeal.main_arg8) = m ((c.tc : Thread Cert.KernelPIdeal.nD Cert.KernelPIdeal.τ).loc Cert.KernelPIdeal.main_arg8)
          ∧ r.2.mem ((c.tc : Thread Cert.KernelPIdeal.nD Cert.KernelPIdeal.τ).loc Cert.KernelPIdeal.main_arg9) = m ((c.tc : Thread Cert.KernelPIdeal.nD Cert.KernelPIdeal.τ).loc Cert.KernelPIdeal.main_arg9))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v142) = v0 c
          ∧ r.2.mem ((c.tc : Thread Cert.ReferencePIdeal.nD Cert.ReferencePIdeal.τ).loc Cert.ReferencePIdeal.main_v143) = v1 c
          ∧ r.2.mem ((c.tc : Thread Cert.ReferencePIdeal.nD Cert.ReferencePIdeal.τ).loc Cert.ReferencePIdeal.main_v144) = v2 c
          ∧ r.2.mem ((c.tc : Thread Cert.ReferencePIdeal.nD Cert.ReferencePIdeal.τ).loc Cert.ReferencePIdeal.main_v145) = v3 c
          ∧ r.2.mem ((c.tc : Thread Cert.ReferencePIdeal.nD Cert.ReferencePIdeal.τ).loc Cert.ReferencePIdeal.main_v146) = v4 c
          ∧ r.2.mem ((c.tc : Thread Cert.ReferencePIdeal.nD Cert.ReferencePIdeal.τ).loc Cert.ReferencePIdeal.main_v147) = v5 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1)
          ∧ r.2.mem ((c.tc : Thread Cert.ReferencePIdeal.nD Cert.ReferencePIdeal.τ).loc Cert.ReferencePIdeal.main_arg2) = m' ((c.tc : Thread Cert.ReferencePIdeal.nD Cert.ReferencePIdeal.τ).loc Cert.ReferencePIdeal.main_arg2)
          ∧ r.2.mem ((c.tc : Thread Cert.ReferencePIdeal.nD Cert.ReferencePIdeal.τ).loc Cert.ReferencePIdeal.main_arg3) = m' ((c.tc : Thread Cert.ReferencePIdeal.nD Cert.ReferencePIdeal.τ).loc Cert.ReferencePIdeal.main_arg3)
          ∧ r.2.mem ((c.tc : Thread Cert.ReferencePIdeal.nD Cert.ReferencePIdeal.τ).loc Cert.ReferencePIdeal.main_arg4) = m' ((c.tc : Thread Cert.ReferencePIdeal.nD Cert.ReferencePIdeal.τ).loc Cert.ReferencePIdeal.main_arg4)
          ∧ r.2.mem ((c.tc : Thread Cert.ReferencePIdeal.nD Cert.ReferencePIdeal.τ).loc Cert.ReferencePIdeal.main_arg5) = m' ((c.tc : Thread Cert.ReferencePIdeal.nD Cert.ReferencePIdeal.τ).loc Cert.ReferencePIdeal.main_arg5)
          ∧ r.2.mem ((c.tc : Thread Cert.ReferencePIdeal.nD Cert.ReferencePIdeal.τ).loc Cert.ReferencePIdeal.main_arg6) = m' ((c.tc : Thread Cert.ReferencePIdeal.nD Cert.ReferencePIdeal.τ).loc Cert.ReferencePIdeal.main_arg6)
          ∧ r.2.mem ((c.tc : Thread Cert.ReferencePIdeal.nD Cert.ReferencePIdeal.τ).loc Cert.ReferencePIdeal.main_arg7) = m' ((c.tc : Thread Cert.ReferencePIdeal.nD Cert.ReferencePIdeal.τ).loc Cert.ReferencePIdeal.main_arg7)
          ∧ r.2.mem ((c.tc : Thread Cert.ReferencePIdeal.nD Cert.ReferencePIdeal.τ).loc Cert.ReferencePIdeal.main_arg8) = m' ((c.tc : Thread Cert.ReferencePIdeal.nD Cert.ReferencePIdeal.τ).loc Cert.ReferencePIdeal.main_arg8)
          ∧ r.2.mem ((c.tc : Thread Cert.ReferencePIdeal.nD Cert.ReferencePIdeal.τ).loc Cert.ReferencePIdeal.main_arg9) = m' ((c.tc : Thread Cert.ReferencePIdeal.nD Cert.ReferencePIdeal.τ).loc Cert.ReferencePIdeal.main_arg9))

def Claim : Prop :=
  ∃ (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelM : Cert.KernelM.Facts) (hKernelMIdeal : Cert.KernelMIdeal.Facts) (hReferenceMIdeal : Cert.ReferenceMIdeal.Facts) (hKernelN : Cert.KernelN.Facts) (hKernelNIdeal : Cert.KernelNIdeal.Facts) (hReferenceNIdeal : Cert.ReferenceNIdeal.Facts) (hKernelP : Cert.KernelP.Facts) (hKernelPIdeal : Cert.KernelPIdeal.Facts) (hReferencePIdeal : Cert.ReferencePIdeal.Facts) (hPre_finite_a : Cert.Pre_finite_a.Facts) (hPre_finite_b : Cert.Pre_finite_b.Facts) (hPre_finite_c : Cert.Pre_finite_c.Facts),
    quiescent_KernelA (hKernelA := hKernelA)
    ∧ quiescent_KernelAIdeal (hKernelAIdeal := hKernelAIdeal)
    ∧ quiescent_KernelAIdeal_pre_finite_a (hKernelAIdeal := hKernelAIdeal) (hPre_finite_a := hPre_finite_a)
    ∧ quiescent_ReferenceAIdeal (hReferenceAIdeal := hReferenceAIdeal)
    ∧ quiescent_ReferenceAIdeal_pre_finite_a (hReferenceAIdeal := hReferenceAIdeal) (hPre_finite_a := hPre_finite_a)
    ∧ quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelC (hKernelC := hKernelC)
    ∧ quiescent_KernelCIdeal (hKernelCIdeal := hKernelCIdeal)
    ∧ quiescent_KernelCIdeal_pre_finite_c (hKernelCIdeal := hKernelCIdeal) (hPre_finite_c := hPre_finite_c)
    ∧ quiescent_ReferenceCIdeal (hReferenceCIdeal := hReferenceCIdeal)
    ∧ quiescent_ReferenceCIdeal_pre_finite_c (hReferenceCIdeal := hReferenceCIdeal) (hPre_finite_c := hPre_finite_c)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelP (hKernelP := hKernelP)
    ∧ quiescent_KernelPIdeal (hKernelPIdeal := hKernelPIdeal)
    ∧ quiescent_ReferencePIdeal (hReferencePIdeal := hReferencePIdeal)
    ∧ preserves_KernelA_KernelAIdeal
    ∧ algebraic_KernelAIdeal_ReferenceAIdeal_pre_finite_a (hKernelAIdeal := hKernelAIdeal) (hReferenceAIdeal := hReferenceAIdeal) (hPre_finite_a := hPre_finite_a)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
    ∧ preserves_KernelC_KernelCIdeal
    ∧ algebraic_KernelCIdeal_ReferenceCIdeal_pre_finite_c (hKernelCIdeal := hKernelCIdeal) (hReferenceCIdeal := hReferenceCIdeal) (hPre_finite_c := hPre_finite_c)
    ∧ preserves_KernelM_KernelMIdeal
    ∧ algebraic_KernelMIdeal_ReferenceMIdeal (hKernelMIdeal := hKernelMIdeal) (hReferenceMIdeal := hReferenceMIdeal)
    ∧ preserves_KernelN_KernelNIdeal
    ∧ algebraic_KernelNIdeal_ReferenceNIdeal (hKernelNIdeal := hKernelNIdeal) (hReferenceNIdeal := hReferenceNIdeal)
    ∧ preserves_KernelP_KernelPIdeal
    ∧ algebraic_KernelPIdeal_ReferencePIdeal (hKernelPIdeal := hKernelPIdeal) (hReferencePIdeal := hReferencePIdeal)
-- ==== Pre_finite_a.lean ====
abbrev S81920x1024 : Shape := ⟨2, ![81920, 1024]⟩
abbrev S81920x256 : Shape := ⟨2, ![81920, 256]⟩
abbrev S2x81920x64 : Shape := ⟨3, ![2, 81920, 64]⟩
abbrev S_ : Shape := ⟨0, ![]⟩

class Facts : Prop where
  bitsLt_bf16_f32 : FTy.bits .bf16 < FTy.bits .f32
  bcast_S_S81920x1024 : S_.BroadcastsInDim S81920x1024 (![] : Fin 0 → Fin S81920x1024.rank)
  reducesTo_S81920x1024_S_d0_1 : S81920x1024.ReducesTo [0, 1] S_
  h_S_ : 0 < S_.numel
  bcast_S_S81920x256 : S_.BroadcastsInDim S81920x256 (![] : Fin 0 → Fin S81920x256.rank)
  reducesTo_S81920x256_S_d0_1 : S81920x256.ReducesTo [0, 1] S_

variable [Facts]

def fn {F : FTy → Type} [FloatOps F] (main_arg0 : FVec F S81920x1024 .bf16) (main_arg1 : FVec F S81920x256 .bf16) (main_arg2 : FVec F S2x81920x64 .bf16) : IVec S_ 1 :=
  let main_v0 : FVec F S81920x1024 .f32 := (extf .f32 · bitsLt_bf16_f32) main_arg0
  let main_v1 : FVec F S81920x1024 .f32 := Host.absf main_v0
  let main_cst : FVec F S_ .f32 := constant S_ .f32 0x7F800000#32
  let main_v2 : FVec F S81920x1024 .f32 := broadcastInDim S81920x1024 ![] bcast_S_S81920x1024 main_cst
  let main_v3 : IVec S81920x1024 1 := cmpf .olt main_v1 main_v2
  let main_c : IVec S_ 1 := constantI S_ 1 1#1
  let main_v4 : IVec S_ 1 := (fun x v => Host.reduce IntOp.andi x v reducesTo_S81920x1024_S_d0_1 h_S_) main_v3 main_c
  let main_v5 : FVec F S81920x256 .f32 := (extf .f32 · bitsLt_bf16_f32) main_arg1
  let main_v6 : FVec F S81920x256 .f32 := Host.absf main_v5
  let main_cst_0 : FVec F S_ .f32 := constant S_ .f32 0x7F800000#32
  let main_v7 : FVec F S81920x256 .f32 := broadcastInDim S81920x256 ![] bcast_S_S81920x256 main_cst_0
  let main_v8 : IVec S81920x256 1 := cmpf .olt main_v6 main_v7
  let main_c_1 : IVec S_ 1 := constantI S_ 1 1#1
  let main_v9 : IVec S_ 1 := (fun x v => Host.reduce IntOp.andi x v reducesTo_S81920x256_S_d0_1 h_S_) main_v8 main_c_1
  let main_v10 : IVec S_ 1 := andi main_v4 main_v9
  main_v10
-- ==== Pre_finite_b.lean ====
abbrev S81920x1024 : Shape := ⟨2, ![81920, 1024]⟩
abbrev S81920x512 : Shape := ⟨2, ![81920, 512]⟩
abbrev S_ : Shape := ⟨0, ![]⟩

class Facts : Prop where
  bitsLt_bf16_f32 : FTy.bits .bf16 < FTy.bits .f32
  bcast_S_S81920x1024 : S_.BroadcastsInDim S81920x1024 (![] : Fin 0 → Fin S81920x1024.rank)
  reducesTo_S81920x1024_S_d0_1 : S81920x1024.ReducesTo [0, 1] S_
  h_S_ : 0 < S_.numel
  bcast_S_S81920x512 : S_.BroadcastsInDim S81920x512 (![] : Fin 0 → Fin S81920x512.rank)
  reducesTo_S81920x512_S_d0_1 : S81920x512.ReducesTo [0, 1] S_

variable [Facts]

def fn {F : FTy → Type} [FloatOps F] (main_arg0 : FVec F S81920x1024 .bf16) (main_arg1 : FVec F S81920x512 .bf16) (main_arg2 : FVec F S81920x512 .bf16) : IVec S_ 1 :=
  let main_v0 : FVec F S81920x1024 .f32 := (extf .f32 · bitsLt_bf16_f32) main_arg0
  let main_v1 : FVec F S81920x1024 .f32 := Host.absf main_v0
  let main_cst : FVec F S_ .f32 := constant S_ .f32 0x7F800000#32
  let main_v2 : FVec F S81920x1024 .f32 := broadcastInDim S81920x1024 ![] bcast_S_S81920x1024 main_cst
  let main_v3 : IVec S81920x1024 1 := cmpf .olt main_v1 main_v2
  let main_c : IVec S_ 1 := constantI S_ 1 1#1
  let main_v4 : IVec S_ 1 := (fun x v => Host.reduce IntOp.andi x v reducesTo_S81920x1024_S_d0_1 h_S_) main_v3 main_c
  let main_v5 : FVec F S81920x512 .f32 := (extf .f32 · bitsLt_bf16_f32) main_arg1
  let main_v6 : FVec F S81920x512 .f32 := Host.absf main_v5
  let main_cst_0 : FVec F S_ .f32 := constant S_ .f32 0x7F800000#32
  let main_v7 : FVec F S81920x512 .f32 := broadcastInDim S81920x512 ![] bcast_S_S81920x512 main_cst_0
  let main_v8 : IVec S81920x512 1 := cmpf .olt main_v6 main_v7
  let main_c_1 : IVec S_ 1 := constantI S_ 1 1#1
  let main_v9 : IVec S_ 1 := (fun x v => Host.reduce IntOp.andi x v reducesTo_S81920x512_S_d0_1 h_S_) main_v8 main_c_1
  let main_v10 : IVec S_ 1 := andi main_v4 main_v9
  main_v10
-- ==== Pre_finite_c.lean ====
abbrev S81920x1024 : Shape := ⟨2, ![81920, 1024]⟩
abbrev S8x81920x64 : Shape := ⟨3, ![8, 81920, 64]⟩
abbrev S_ : Shape := ⟨0, ![]⟩

class Facts : Prop where
  bitsLt_bf16_f32 : FTy.bits .bf16 < FTy.bits .f32
  bcast_S_S81920x1024 : S_.BroadcastsInDim S81920x1024 (![] : Fin 0 → Fin S81920x1024.rank)
  reducesTo_S81920x1024_S_d0_1 : S81920x1024.ReducesTo [0, 1] S_
  h_S_ : 0 < S_.numel

variable [Facts]

def fn {F : FTy → Type} [FloatOps F] (main_arg0 : FVec F S81920x1024 .bf16) (main_arg1 : FVec F S81920x1024 .bf16) (main_arg2 : FVec F S8x81920x64 .bf16) : IVec S_ 1 :=
  let main_v0 : FVec F S81920x1024 .f32 := (extf .f32 · bitsLt_bf16_f32) main_arg0
  let main_v1 : FVec F S81920x1024 .f32 := Host.absf main_v0
  let main_cst : FVec F S_ .f32 := constant S_ .f32 0x7F800000#32
  let main_v2 : FVec F S81920x1024 .f32 := broadcastInDim S81920x1024 ![] bcast_S_S81920x1024 main_cst
  let main_v3 : IVec S81920x1024 1 := cmpf .olt main_v1 main_v2
  let main_c : IVec S_ 1 := constantI S_ 1 1#1
  let main_v4 : IVec S_ 1 := (fun x v => Host.reduce IntOp.andi x v reducesTo_S81920x1024_S_d0_1 h_S_) main_v3 main_c
  let main_v5 : FVec F S81920x1024 .f32 := (extf .f32 · bitsLt_bf16_f32) main_arg1
  let main_v6 : FVec F S81920x1024 .f32 := Host.absf main_v5
  let main_cst_0 : FVec F S_ .f32 := constant S_ .f32 0x7F800000#32
  let main_v7 : FVec F S81920x1024 .f32 := broadcastInDim S81920x1024 ![] bcast_S_S81920x1024 main_cst_0
  let main_v8 : IVec S81920x1024 1 := cmpf .olt main_v6 main_v7
  let main_c_1 : IVec S_ 1 := constantI S_ 1 1#1
  let main_v9 : IVec S_ 1 := (fun x v => Host.reduce IntOp.andi x v reducesTo_S81920x1024_S_d0_1 h_S_) main_v8 main_c_1
  let main_v10 : IVec S_ 1 := andi main_v4 main_v9
  main_v10
-- ==== KernelA.lean ====
abbrev S81920x1024 : Shape := ⟨2, ![81920, 1024]⟩
abbrev S81920x256 : Shape := ⟨2, ![81920, 256]⟩
abbrev S2x81920x64 : Shape := ⟨3, ![2, 81920, 64]⟩
abbrev S512x65536 : Shape := ⟨2, ![512, 65536]⟩
abbrev S2048x128 : Shape := ⟨2, ![2048, 128]⟩
abbrev S4096x128 : Shape := ⟨2, ![4096, 128]⟩
abbrev S1x4096x64 : Shape := ⟨3, ![1, 4096, 64]⟩
abbrev S64x2048 : Shape := ⟨2, ![64, 2048]⟩
abbrev S1x2048 : Shape := ⟨2, ![1, 2048]⟩
abbrev S512x128 : Shape := ⟨2, ![512, 128]⟩
abbrev S512x2048 : Shape := ⟨2, ![512, 2048]⟩
abbrev S2048 : Shape := ⟨1, ![2048]⟩
abbrev S1x512x64 : Shape := ⟨3, ![1, 512, 64]⟩
abbrev S512x64 : Shape := ⟨2, ![512, 64]⟩

abbrev nBuf : Space → Nat
  | .hbm => 4
  | .vmem => 8
  | .smem => 0
  | _ => 0

abbrev bufTy : (tb : Table) → Fin (tcTables nBuf tb) → BufTy
  | .hbm, ⟨0, _⟩ => ⟨S81920x1024, .bf16⟩
  | .hbm, ⟨1, _⟩ => ⟨S81920x256, .bf16⟩
  | .hbm, ⟨2, _⟩ => ⟨S2x81920x64, .bf16⟩
  | .hbm, ⟨3, _⟩ => ⟨S512x65536, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S1x4096x64, .bf16⟩
  | .local _ .vmem, ⟨5, _⟩ => ⟨S1x4096x64, .bf16⟩
  | .local _ .vmem, ⟨6, _⟩ => ⟨S64x2048, .bf16⟩
  | .local _ .vmem, ⟨7, _⟩ => ⟨S64x2048, .bf16⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c4_i32_0 : BitVec 32 := 4#32
  let v1 : BitVec 32 := Scalar.divsi arg1 c4_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v0.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 arg0
  let c0_i32_5 : BitVec 32 := 0#32
  let c0_i32_6 : BitVec 32 := 0#32
  ![v16.toNat, v17.toNat, c0_i32_5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceAIdeal.lean ====
abbrev S81920x1024 : Shape := ⟨2, ![81920, 1024]⟩
abbrev S81920x256 : Shape := ⟨2, ![81920, 256]⟩
abbrev S2x81920x64 : Shape := ⟨3, ![2, 81920, 64]⟩
abbrev S65536x1024 : Shape := ⟨2, ![65536, 1024]⟩
abbrev S16x4096x2x4x128 : Shape := ⟨5, ![16, 4096, 2, 4, 128]⟩
abbrev S65536x256 : Shape := ⟨2, ![65536, 256]⟩
abbrev S16x4096x2x128 : Shape := ⟨4, ![16, 4096, 2, 128]⟩
abbrev S2x65536x64 : Shape := ⟨3, ![2, 65536, 64]⟩
abbrev S2x16x4096x64 : Shape := ⟨4, ![2, 16, 4096, 64]⟩
abbrev S16x2x4096x4096x4 : Shape := ⟨5, ![16, 2, 4096, 4096, 4]⟩
abbrev S16x2x4x4096x4096 : Shape := ⟨5, ![16, 2, 4, 4096, 4096]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S2x16x64x4x4096 : Shape := ⟨5, ![2, 16, 64, 4, 4096]⟩
abbrev S2x4x64x16x4096 : Shape := ⟨5, ![2, 4, 64, 16, 4096]⟩
abbrev S512x65536 : Shape := ⟨2, ![512, 65536]⟩

abbrev nBuf : Space → Nat
  | .hbm => 36
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S81920x256, .bf16⟩
  | .hbm, ⟨2, _⟩ => ⟨S2x81920x64, .bf16⟩
  | .hbm, ⟨3, _⟩ => ⟨S65536x1024, .bf16⟩
  | .hbm, ⟨4, _⟩ => ⟨S65536x1024, .f32⟩
  | .hbm, ⟨5, _⟩ => ⟨S16x4096x2x4x128, .f32⟩
  | .hbm, ⟨6, _⟩ => ⟨S65536x256, .bf16⟩
  | .hbm, ⟨7, _⟩ => ⟨S65536x256, .f32⟩
  | .hbm, ⟨8, _⟩ => ⟨S16x4096x2x128, .f32⟩
  | .hbm, ⟨9, _⟩ => ⟨S2x65536x64, .bf16⟩
  | .hbm, ⟨10, _⟩ => ⟨S2x65536x64, .f32⟩
  | .hbm, ⟨11, _⟩ => ⟨S2x16x4096x64, .f32⟩
  | .hbm, ⟨12, _⟩ => ⟨S16x2x4096x4096x4, .f32⟩
  | .hbm, ⟨13, _⟩ => ⟨S16x2x4x4096x4096, .f32⟩
  | .hbm, ⟨14, _⟩ => ⟨S_, .f32⟩
  | .hbm, ⟨15, _⟩ => ⟨S_, .f32⟩
  | .hbm, ⟨16, _⟩ => ⟨S16x2x4x4096x4096, .f32⟩
  | .hbm, ⟨17, _⟩ => ⟨S16x2x4x4096x4096, .f32⟩
  | .hbm, ⟨18, _⟩ => ⟨S_, .f32⟩
  | .hbm, ⟨19, _⟩ => ⟨S16x2x4x4096, .f32⟩
  | .hbm, ⟨20, _⟩ => ⟨S_, .f32⟩
  | .hbm, ⟨21, _⟩ => ⟨S16x2x4x4096, .f32⟩
  | .hbm, ⟨22, _⟩ => ⟨S16x2x4x4096, .f32⟩
  | .hbm, ⟨23, _⟩ => ⟨S16x2x4x4096x1, .f32⟩
  | .hbm, ⟨24, _⟩ => ⟨S16x2x4x4096x4096, .f32⟩
  | .hbm, ⟨25, _⟩ => ⟨S16x2x4x4096x4096, .f32⟩
  | .hbm, ⟨26, _⟩ => ⟨S16x2x4x4096x4096, .f32⟩
  | .hbm, ⟨27, _⟩ => ⟨S_, .f32⟩
  | .hbm, ⟨28, _⟩ => ⟨S16x2x4x4096, .f32⟩
  | .hbm, ⟨29, _⟩ => ⟨S16x2x4x4096x1, .f32⟩
  | .hbm, ⟨30, _⟩ => ⟨S16x2x4x4096x4096, .f32⟩
  | .hbm, ⟨31, _⟩ => ⟨S16x2x4x4096x4096, .f32⟩
  | .hbm, ⟨32, _⟩ => ⟨S2x16x64x4x4096, .f32⟩
  | .hbm, ⟨33, _⟩ => ⟨S2x4x64x16x4096, .f32⟩
  | .hbm, ⟨34, _⟩ => ⟨S512x65536, .f32⟩
  | .hbm, ⟨35, _⟩ => ⟨S512x65536, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== KernelB.lean ====
abbrev S81920x1024 : Shape := ⟨2, ![81920, 1024]⟩
abbrev S81920x512 : Shape := ⟨2, ![81920, 512]⟩
abbrev S1024x65536 : Shape := ⟨2, ![1024, 65536]⟩
abbrev S2048x128 : Shape := ⟨2, ![2048, 128]⟩
abbrev S4096x128 : Shape := ⟨2, ![4096, 128]⟩
abbrev S128x2048 : Shape := ⟨2, ![128, 2048]⟩
abbrev S1x2048 : Shape := ⟨2, ![1, 2048]⟩
abbrev S512x128 : Shape := ⟨2, ![512, 128]⟩
abbrev S512x2048 : Shape := ⟨2, ![512, 2048]⟩
abbrev S2048 : Shape := ⟨1, ![2048]⟩

abbrev nBuf : Space → Nat
  | .hbm => 4
  | .vmem => 8
  | .smem => 0
  | _ => 0

abbrev bufTy : (tb : Table) → Fin (tcTables nBuf tb) → BufTy
  | .hbm, ⟨0, _⟩ => ⟨S81920x1024, .bf16⟩
  | .hbm, ⟨1, _⟩ => ⟨S81920x512, .bf16⟩
  | .hbm, ⟨2, _⟩ => ⟨S81920x512, .bf16⟩
  | .hbm, ⟨3, _⟩ => ⟨S1024x65536, .f32⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S128x2048, .f32⟩
  | .local _ .vmem, ⟨7, _⟩ => ⟨S128x2048, .f32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceBIdeal.lean ====
abbrev S81920x1024 : Shape := ⟨2, ![81920, 1024]⟩
abbrev S81920x512 : Shape := ⟨2, ![81920, 512]⟩
abbrev S65536x1024 : Shape := ⟨2, ![65536, 1024]⟩
abbrev S16x4096x4x2x128 : Shape := ⟨5, ![16, 4096, 4, 2, 128]⟩
abbrev S65536x512 : Shape := ⟨2, ![65536, 512]⟩
abbrev S16x4096x4x128 : Shape := ⟨4, ![16, 4096, 4, 128]⟩
abbrev S16x4x4096x4096x2 : Shape := ⟨5, ![16, 4, 4096, 4096, 2]⟩
abbrev S16x4x2x4096x4096 : Shape := ⟨5, ![16, 4, 2, 4096, 4096]⟩
abbrev S_ : Shape := ⟨0, ![]⟩
abbrev S16x4x2x4096 : Shape := ⟨4, ![16, 4, 2, 4096]⟩
abbrev S16x4x2x4096x1 : Shape := ⟨5, ![16, 4, 2, 4096, 1]⟩
abbrev S4x16x128x2x4096 : Shape := ⟨5, ![4, 16, 128, 2, 4096]⟩
abbrev S4x2x128x16x4096 : Shape := ⟨5, ![4, 2, 128, 16, 4096]⟩
abbrev S1024x65536 : Shape := ⟨2, ![1024, 65536]⟩

abbrev nBuf : Space → Nat
  | .hbm => 35
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S81920x512, .bf16⟩
  | .hbm, ⟨2, _⟩ => ⟨S81920x512, .bf16⟩
  | .hbm, ⟨3, _⟩ => ⟨S65536x1024, .bf16⟩
  | .hbm, ⟨4, _⟩ => ⟨S65536x1024, .f32⟩
  | .hbm, ⟨5, _⟩ => ⟨S16x4096x4x2x128, .f32⟩
  | .hbm, ⟨6, _⟩ => ⟨S65536x512, .bf16⟩
  | .hbm, ⟨7, _⟩ => ⟨S65536x512, .f32⟩
  | .hbm, ⟨8, _⟩ => ⟨S16x4096x4x128, .f32⟩
  | .hbm, ⟨9, _⟩ => ⟨S65536x512, .bf16⟩
  | .hbm, ⟨10, _⟩ => ⟨S65536x512, .f32⟩
  | .hbm, ⟨11, _⟩ => ⟨S16x4096x4x128, .f32⟩
  | .hbm, ⟨12, _⟩ => ⟨S16x4x4096x4096x2, .f32⟩
  | .hbm, ⟨13, _⟩ => ⟨S16x4x2x4096x4096, .f32⟩
  | .hbm, ⟨14, _⟩ => ⟨S_, .f32⟩
  | .hbm, ⟨15, _⟩ => ⟨S_, .f32⟩
  | .hbm, ⟨16, _⟩ => ⟨S16x4x2x4096x4096, .f32⟩
  | .hbm, ⟨17, _⟩ => ⟨S16x4x2x4096x4096, .f32⟩
  | .hbm, ⟨18, _⟩ => ⟨S_, .f32⟩
  | .hbm, ⟨19, _⟩ => ⟨S16x4x2x4096, .f32⟩
  | .hbm, ⟨20, _⟩ => ⟨S_, .f32⟩
  | .hbm, ⟨21, _⟩ => ⟨S16x4x2x4096, .f32⟩
  | .hbm, ⟨22, _⟩ => ⟨S16x4x2x4096, .f32⟩
  | .hbm, ⟨23, _⟩ => ⟨S16x4x2x4096x1, .f32⟩
  | .hbm, ⟨24, _⟩ => ⟨S16x4x2x4096x4096, .f32⟩
  | .hbm, ⟨25, _⟩ => ⟨S16x4x2x4096x4096, .f32⟩
  | .hbm, ⟨26, _⟩ => ⟨S16x4x2x4096x4096, .f32⟩
  | .hbm, ⟨27, _⟩ => ⟨S_, .f32⟩
  | .hbm, ⟨28, _⟩ => ⟨S16x4x2x4096, .f32⟩
  | .hbm, ⟨29, _⟩ => ⟨S16x4x2x4096x1, .f32⟩
  | .hbm, ⟨30, _⟩ => ⟨S16x4x2x4096x4096, .f32⟩
  | .hbm, ⟨31, _⟩ => ⟨S16x4x2x4096x4096, .f32⟩
  | .hbm, ⟨32, _⟩ => ⟨S4x16x128x2x4096, .f32⟩
  | .hbm, ⟨33, _⟩ => ⟨S4x2x128x16x4096, .f32⟩
  | .hbm, ⟨34, _⟩ => ⟨S1024x65536, .f32⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== KernelC.lean ====
abbrev S81920x1024 : Shape := ⟨2, ![81920, 1024]⟩
abbrev S8x81920x64 : Shape := ⟨3, ![8, 81920, 64]⟩
abbrev S512x65536 : Shape := ⟨2, ![512, 65536]⟩
abbrev S2048x128 : Shape := ⟨2, ![2048, 128]⟩
abbrev S4096x128 : Shape := ⟨2, ![4096, 128]⟩
abbrev S1x4096x64 : Shape := ⟨3, ![1, 4096, 64]⟩
abbrev S64x2048 : Shape := ⟨2, ![64, 2048]⟩
abbrev S1x2048 : Shape := ⟨2, ![1, 2048]⟩
abbrev S512x128 : Shape := ⟨2, ![512, 128]⟩
abbrev S512x2048 : Shape := ⟨2, ![512, 2048]⟩
abbrev S2048 : Shape := ⟨1, ![2048]⟩
abbrev S1x512x64 : Shape := ⟨3, ![1, 512, 64]⟩
abbrev S512x64 : Shape := ⟨2, ![512, 64]⟩

abbrev nBuf : Space → Nat
  | .hbm => 4
  | .vmem => 8
  | .smem => 0
  | _ => 0

abbrev bufTy : (tb : Table) → Fin (tcTables nBuf tb) → BufTy
  | .hbm, ⟨0, _⟩ => ⟨S81920x1024, .bf16⟩
  | .hbm, ⟨1, _⟩ => ⟨S81920x1024, .bf16⟩
  | .hbm, ⟨2, _⟩ => ⟨S8x81920x64, .bf16⟩
  | .hbm, ⟨3, _⟩ => ⟨S512x65536, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S1x4096x64, .bf16⟩
  | .local _ .vmem, ⟨5, _⟩ => ⟨S1x4096x64, .bf16⟩
  | .local _ .vmem, ⟨6, _⟩ => ⟨S64x2048, .bf16⟩
  | .local _ .vmem, ⟨7, _⟩ => ⟨S64x2048, .bf16⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.addi c8_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 arg0
  let c0_i32_5 : BitVec 32 := 0#32
  let c0_i32_6 : BitVec 32 := 0#32
  ![v16.toNat, v17.toNat, c0_i32_5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceCIdeal.lean ====
abbrev S81920x1024 : Shape := ⟨2, ![81920, 1024]⟩
abbrev S8x81920x64 : Shape := ⟨3, ![8, 81920, 64]⟩
abbrev S65536x1024 : Shape := ⟨2, ![65536, 1024]⟩
abbrev S16x4096x8x128 : Shape := ⟨4, ![16, 4096, 8, 128]⟩
abbrev S8x65536x64 : Shape := ⟨3, ![8, 65536, 64]⟩
abbrev S8x16x4096x64 : Shape := ⟨4, ![8, 16, 4096, 64]⟩
abbrev S16x8x4096x4096 : Shape := ⟨4, ![16, 8, 4096, 4096]⟩
abbrev S_ : Shape := ⟨0, ![]⟩
abbrev S16x8x4096 : Shape := ⟨3, ![16, 8, 4096]⟩
abbrev S16x8x4096x1 : Shape := ⟨4, ![16, 8, 4096, 1]⟩
abbrev S8x16x64x4096 : Shape := ⟨4, ![8, 16, 64, 4096]⟩
abbrev S8x64x16x4096 : Shape := ⟨4, ![8, 64, 16, 4096]⟩
abbrev S512x65536 : Shape := ⟨2, ![512, 65536]⟩

abbrev nBuf : Space → Nat
  | .hbm => 35
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S81920x1024, .bf16⟩
  | .hbm, ⟨2, _⟩ => ⟨S8x81920x64, .bf16⟩
  | .hbm, ⟨3, _⟩ => ⟨S65536x1024, .bf16⟩
  | .hbm, ⟨4, _⟩ => ⟨S65536x1024, .f32⟩
  | .hbm, ⟨5, _⟩ => ⟨S16x4096x8x128, .f32⟩
  | .hbm, ⟨6, _⟩ => ⟨S65536x1024, .bf16⟩
  | .hbm, ⟨7, _⟩ => ⟨S65536x1024, .f32⟩
  | .hbm, ⟨8, _⟩ => ⟨S16x4096x8x128, .f32⟩
  | .hbm, ⟨9, _⟩ => ⟨S8x65536x64, .bf16⟩
  | .hbm, ⟨10, _⟩ => ⟨S8x65536x64, .f32⟩
  | .hbm, ⟨11, _⟩ => ⟨S8x16x4096x64, .f32⟩
  | .hbm, ⟨12, _⟩ => ⟨S16x8x4096x4096, .f32⟩
  | .hbm, ⟨13, _⟩ => ⟨S_, .f32⟩
  | .hbm, ⟨14, _⟩ => ⟨S_, .f32⟩
  | .hbm, ⟨15, _⟩ => ⟨S16x8x4096x4096, .f32⟩
  | .hbm, ⟨16, _⟩ => ⟨S16x8x4096x4096, .f32⟩
  | .hbm, ⟨17, _⟩ => ⟨S_, .f32⟩
  | .hbm, ⟨18, _⟩ => ⟨S16x8x4096, .f32⟩
  | .hbm, ⟨19, _⟩ => ⟨S_, .f32⟩
  | .hbm, ⟨20, _⟩ => ⟨S16x8x4096, .f32⟩
  | .hbm, ⟨21, _⟩ => ⟨S16x8x4096, .f32⟩
  | .hbm, ⟨22, _⟩ => ⟨S16x8x4096x1, .f32⟩
  | .hbm, ⟨23, _⟩ => ⟨S16x8x4096x4096, .f32⟩
  | .hbm, ⟨24, _⟩ => ⟨S16x8x4096x4096, .f32⟩
  | .hbm, ⟨25, _⟩ => ⟨S16x8x4096x4096, .f32⟩
  | .hbm, ⟨26, _⟩ => ⟨S_, .f32⟩
  | .hbm, ⟨27, _⟩ => ⟨S16x8x4096, .f32⟩
  | .hbm, ⟨28, _⟩ => ⟨S16x8x4096x1, .f32⟩
  | .hbm, ⟨29, _⟩ => ⟨S16x8x4096x4096, .f32⟩
  | .hbm, ⟨30, _⟩ => ⟨S16x8x4096x4096, .f32⟩
  | .hbm, ⟨31, _⟩ => ⟨S8x16x64x4096, .f32⟩
  | .hbm, ⟨32, _⟩ => ⟨S8x64x16x4096, .f32⟩
  | .hbm, ⟨33, _⟩ => ⟨S512x65536, .f32⟩
  | .hbm, ⟨34, _⟩ => ⟨S512x65536, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== KernelM.lean ====
abbrev S2 : Shape := ⟨1, ![2]⟩
abbrev S81920x1024 : Shape := ⟨2, ![81920, 1024]⟩
abbrev S512x81920 : Shape := ⟨2, ![512, 81920]⟩
abbrev S1024x81920 : Shape := ⟨2, ![1024, 81920]⟩
abbrev S81920x3072 : Shape := ⟨2, ![81920, 3072]⟩
abbrev S128 : Shape := ⟨1, ![128]⟩
abbrev S512x1024 : Shape := ⟨2, ![512, 1024]⟩
abbrev S1024x1024 : Shape := ⟨2, ![1024, 1024]⟩
abbrev S128x1 : Shape := ⟨2, ![128, 1]⟩
abbrev S512x512 : Shape := ⟨2, ![512, 512]⟩
abbrev S1024x512 : Shape := ⟨2, ![1024, 512]⟩
abbrev S512x3072 : Shape := ⟨2, ![512, 3072]⟩
abbrev S1 : Shape := ⟨1, ![1]⟩
abbrev S128x512 : Shape := ⟨2, ![128, 512]⟩
abbrev S512 : Shape := ⟨1, ![512]⟩
abbrev S1x512 : Shape := ⟨2, ![1, 512]⟩

abbrev nBuf : Space → Nat
  | .hbm => 17
  | .vmem => 17
  | .smem => 1
  | _ => 0

abbrev bufTy : (tb : Table) → Fin (tcTables nBuf tb) → BufTy
  | .hbm, ⟨0, _⟩ => ⟨S2, .f32⟩
  | .hbm, ⟨1, _⟩ => ⟨S81920x1024, .f32⟩
  | .hbm, ⟨2, _⟩ => ⟨S512x81920, .bf16⟩
  | .hbm, ⟨3, _⟩ => ⟨S1024x81920, .f32⟩
  | .hbm, ⟨4, _⟩ => ⟨S512x81920, .bf16⟩
  | .hbm, ⟨5, _⟩ => ⟨S81920x3072, .bf16⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S128x1, .f32⟩
  | .hbm, ⟨16, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S128x1, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMIdeal.lean ====
abbrev S2 : Shape := ⟨1, ![2]⟩
abbrev S81920x1024 : Shape := ⟨2, ![81920, 1024]⟩
abbrev S512x81920 : Shape := ⟨2, ![512, 81920]⟩
abbrev S1024x81920 : Shape := ⟨2, ![1024, 81920]⟩
abbrev S81920x3072 : Shape := ⟨2, ![81920, 3072]⟩
abbrev S128 : Shape := ⟨1, ![128]⟩
abbrev S512x1024 : Shape := ⟨2, ![512, 1024]⟩
abbrev S1024x1024 : Shape := ⟨2, ![1024, 1024]⟩
abbrev S1 : Shape := ⟨1, ![1]⟩
abbrev S_ : Shape := ⟨0, ![]⟩
abbrev S81920x4x2x128 : Shape := ⟨4, ![81920, 4, 2, 128]⟩
abbrev S81920x512 : Shape := ⟨2, ![81920, 512]⟩
abbrev S81920x4x1x128 : Shape := ⟨4, ![81920, 4, 1, 128]⟩
abbrev S81920x4x128 : Shape := ⟨3, ![81920, 4, 128]⟩
abbrev S81920x4 : Shape := ⟨2, ![81920, 4]⟩
abbrev S81920x4x1 : Shape := ⟨3, ![81920, 4, 1]⟩
abbrev S1x1x128 : Shape := ⟨3, ![1, 1, 128]⟩
abbrev S81920x3x1024 : Shape := ⟨3, ![81920, 3, 1024]⟩
abbrev S81920x1x1024 : Shape := ⟨3, ![81920, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2, .f32⟩
  | .hbm, ⟨1, _⟩ => ⟨S81920x1024, .f32⟩
  | .hbm, ⟨2, _⟩ => ⟨S512x81920, .bf16⟩
  | .hbm, ⟨3, _⟩ => ⟨S1024x81920, .f32⟩
  | .hbm, ⟨4, _⟩ => ⟨S512x81920, .bf16⟩
  | .hbm, ⟨5, _⟩ => ⟨S81920x3072, .bf16⟩
  | .hbm, ⟨6, _⟩ => ⟨S128, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S81920x1024, .f32⟩
  | .hbm, ⟨16, _⟩ => ⟨S81920x4x2x128, .f32⟩
  | .hbm, ⟨17, _⟩ => ⟨S81920x512, .bf16⟩
  | .hbm, ⟨18, _⟩ => ⟨S81920x512, .f32⟩
  | .hbm, ⟨19, _⟩ => ⟨S81920x4x1x128, .f32⟩
  | .hbm, ⟨20, _⟩ => ⟨S81920x4x128, .f32⟩
  | .hbm, ⟨21, _⟩ => ⟨S81920x4x1x128, .f32⟩
  | .hbm, ⟨22, _⟩ => ⟨S81920x4x128, .f32⟩
  | .hbm, ⟨23, _⟩ => ⟨S81920x4x128, .f32⟩
  | .hbm, ⟨24, _⟩ => ⟨S81920x4x128, .f32⟩
  | .hbm, ⟨25, _⟩ => ⟨S81920x4x128, .f32⟩
  | .hbm, ⟨26, _⟩ => ⟨S81920x4x128, .f32⟩
  | .hbm, ⟨27, _⟩ => ⟨S_, .f32⟩
  | .hbm, ⟨28, _⟩ => ⟨S81920x4, .f32⟩
  | .hbm, ⟨29, _⟩ => ⟨S81920x4x1, .f32⟩
  | .hbm, ⟨30, _⟩ => ⟨S_, .f32⟩
  | .hbm, ⟨31, _⟩ => ⟨S81920x4x1, .f32⟩
  | .hbm, ⟨32, _⟩ => ⟨S81920x4x1, .f32⟩
  | .hbm, ⟨33, _⟩ => ⟨S_, .f32⟩
  | .hbm, ⟨34, _⟩ => ⟨S81920x4x1, .f32⟩
  | .hbm, ⟨35, _⟩ => ⟨S81920x4x1, .f32⟩
  | .hbm, ⟨36, _⟩ => ⟨S81920x4x1, .f32⟩
  | .hbm, ⟨37, _⟩ => ⟨S81920x4x128, .f32⟩
  | .hbm, ⟨38, _⟩ => ⟨S81920x4x128, .f32⟩
  | .hbm, ⟨39, _⟩ => ⟨S1x1x128, .f32⟩
  | .hbm, ⟨40, _⟩ => ⟨S81920x4x128, .f32⟩
  | .hbm, ⟨41, _⟩ => ⟨S81920x4x128, .f32⟩
  | .hbm, ⟨42, _⟩ => ⟨S81920x4x128, .f32⟩
  | .hbm, ⟨43, _⟩ => ⟨S81920x4x128, .f32⟩
  | .hbm, ⟨44, _⟩ => ⟨S81920x512, .f32⟩
  | .hbm, ⟨45, _⟩ => ⟨S81920x512, .bf16⟩
  | .hbm, ⟨46, _⟩ => ⟨S81920x512, .f32⟩
  | .hbm, ⟨47, _⟩ => ⟨S81920x3072, .f32⟩
  | .hbm, ⟨48, _⟩ => ⟨S81920x3x1024, .f32⟩
  | .hbm, ⟨49, _⟩ => ⟨S81920x1x1024, .f32⟩
  | .hbm, ⟨50, _⟩ => ⟨S81920x1024, .f32⟩
  | .hbm, ⟨51, _⟩ => ⟨S81920x1024, .f32⟩
  | .hbm, ⟨52, _⟩ => ⟨S81920x1024, .f32⟩
  | .hbm, ⟨53, _⟩ => ⟨S81920x1x1024, .f32⟩
  | .hbm, ⟨54, _⟩ => ⟨S81920x1024, .f32⟩
  | .hbm, ⟨55, _⟩ => ⟨S81920x1024, .f32⟩
  | .hbm, ⟨56, _⟩ => ⟨S81920x1024, .f32⟩
  | .hbm, ⟨57, _⟩ => ⟨S81920x1024, .f32⟩
  | .hbm, ⟨58, _⟩ => ⟨S81920x1x1024, .f32⟩
  | .hbm, ⟨59, _⟩ => ⟨S81920x1024, .f32⟩
  | .hbm, ⟨60, _⟩ => ⟨S81920x1024, .f32⟩
  | .hbm, ⟨61, _⟩ => ⟨S81920x1024, .f32⟩
  | .hbm, ⟨62, _⟩ => ⟨S81920x1024, .f32⟩
  | .hbm, ⟨63, _⟩ => ⟨S81920x1024, .f32⟩
  | .hbm, ⟨64, _⟩ => ⟨S81920x1024, .f32⟩
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== KernelN.lean ====
abbrev S81920x1024 : Shape := ⟨2, ![81920, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S81920x1024, .f32⟩
  | .hbm, ⟨1, _⟩ => ⟨S1024, .f32⟩
  | .hbm, ⟨2, _⟩ => ⟨S1x1024, .f32⟩
  | .hbm, ⟨3, _⟩ => ⟨S81920x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNIdeal.lean ====
abbrev S81920x1024 : Shape := ⟨2, ![81920, 1024]⟩
abbrev S1024 : Shape := ⟨1, ![1024]⟩
abbrev S_ : Shape := ⟨0, ![]⟩
abbrev S81920 : Shape := ⟨1, ![81920]⟩
abbrev S81920x1 : Shape := ⟨2, ![81920, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S1024, .f32⟩
  | .hbm, ⟨2, _⟩ => ⟨S81920x1024, .f32⟩
  | .hbm, ⟨3, _⟩ => ⟨S_, .f32⟩
  | .hbm, ⟨4, _⟩ => ⟨S81920, .f32⟩
  | .hbm, ⟨5, _⟩ => ⟨S81920x1, .f32⟩
  | .hbm, ⟨6, _⟩ => ⟨S_, .f32⟩
  | .hbm, ⟨7, _⟩ => ⟨S81920x1, .f32⟩
  | .hbm, ⟨8, _⟩ => ⟨S81920x1, .f32⟩
  | .hbm, ⟨9, _⟩ => ⟨S_, .f32⟩
  | .hbm, ⟨10, _⟩ => ⟨S81920x1, .f32⟩
  | .hbm, ⟨11, _⟩ => ⟨S81920x1, .f32⟩
  | .hbm, ⟨12, _⟩ => ⟨S81920x1, .f32⟩
  | .hbm, ⟨13, _⟩ => ⟨S81920x1024, .f32⟩
  | .hbm, ⟨14, _⟩ => ⟨S81920x1024, .f32⟩
  | .hbm, ⟨15, _⟩ => ⟨S1x1024, .f32⟩
  | .hbm, ⟨16, _⟩ => ⟨S81920x1024, .f32⟩
  | .hbm, ⟨17, _⟩ => ⟨S81920x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelP.lean ====
abbrev S81920x1024 : Shape := ⟨2, ![81920, 1024]⟩
abbrev S1024 : Shape := ⟨1, ![1024]⟩
abbrev S1024x6272 : Shape := ⟨2, ![1024, 6272]⟩
abbrev S8x128 : Shape := ⟨2, ![8, 128]⟩
abbrev S512x512 : Shape := ⟨2, ![512, 512]⟩
abbrev S384 : Shape := ⟨1, ![384]⟩
abbrev S384x2048 : Shape := ⟨2, ![384, 2048]⟩
abbrev S256 : Shape := ⟨1, ![256]⟩
abbrev S256x1536 : Shape := ⟨2, ![256, 1536]⟩
abbrev S3072 : Shape := ⟨1, ![3072]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x128 : Shape := ⟨2, ![4096, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x32 : Shape := ⟨2, ![4096, 32]⟩
abbrev S4096x768 : Shape := ⟨2, ![4096, 768]⟩
abbrev S1x1024 : Shape := ⟨2, ![1, 1024]⟩
abbrev S1x384 : Shape := ⟨2, ![1, 384]⟩
abbrev S1x256 : Shape := ⟨2, ![1, 256]⟩
abbrev S1x3072 : Shape := ⟨2, ![1, 3072]⟩
abbrev S81920x256 : Shape := ⟨2, ![81920, 256]⟩
abbrev S2x81920x64 : Shape := ⟨3, ![2, 81920, 64]⟩
abbrev S81920x512 : Shape := ⟨2, ![81920, 512]⟩
abbrev S8x81920x64 : Shape := ⟨3, ![8, 81920, 64]⟩
abbrev S81920x3072 : Shape := ⟨2, ![81920, 3072]⟩
abbrev S512x1024 : Shape := ⟨2, ![512, 1024]⟩
abbrev S512x768 : Shape := ⟨2, ![512, 768]⟩
abbrev S512x256 : Shape := ⟨2, ![512, 256]⟩
abbrev S2x512x64 : Shape := ⟨3, ![2, 512, 64]⟩
abbrev S8x512x64 : Shape := ⟨3, ![8, 512, 64]⟩
abbrev S512x3072 : Shape := ⟨2, ![512, 3072]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S1024x512 : Shape := ⟨2, ![1024, 512]⟩
abbrev S1024x256 : Shape := ⟨2, ![1024, 256]⟩
abbrev S256x256 : Shape := ⟨2, ![256, 256]⟩
abbrev S1024x128 : Shape := ⟨2, ![1024, 128]⟩
abbrev S512x64 : Shape := ⟨2, ![512, 64]⟩
abbrev S1x512x64 : Shape := ⟨3, ![1, 512, 64]⟩
abbrev S1024x384 : Shape := ⟨2, ![1024, 384]⟩
abbrev S512x384 : Shape := ⟨2, ![512, 384]⟩
abbrev S512x2048 : Shape := ⟨2, ![512, 2048]⟩
abbrev S512x1536 : Shape := ⟨2, ![512, 1536]⟩
abbrev S1024x3072 : Shape := ⟨2, ![1024, 3072]⟩

abbrev nBuf : Space → Nat
  | .hbm => 148
  | .vmem => 33
  | .smem => 0
  | _ => 0

abbrev hbmTy0_0 (i : Nat) : BufTy := match i % 128 with
  | 0 => ⟨S81920x1024, .f32⟩
  | 1 => ⟨S1024, .f32⟩
  | 2 => ⟨S1024x6272, .bf16⟩
  | 3 => ⟨S8x128, .f32⟩
  | 4 => ⟨S512x512, .bf16⟩
  | 5 => ⟨S384, .f32⟩
  | 6 => ⟨S384x2048, .bf16⟩
  | 7 => ⟨S256, .f32⟩
  | 8 => ⟨S256x1536, .bf16⟩
  | 9 => ⟨S3072, .f32⟩
  | 10 => ⟨S4096, .f32⟩
  | 11 => ⟨S_, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S4096, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S4096x1, .f32⟩
  | 36 => ⟨S1x16, .f32⟩
  | 37 => ⟨S4096x16, .f32⟩
  | 38 => ⟨S4096x16, .f32⟩
  | 39 => ⟨S4096x16, .f32⟩
  | 40 => ⟨S4096x16, .f32⟩
  | 41 => ⟨S4096x16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S4096x16, .f32⟩
  | 64 => ⟨S4096x16, .f32⟩
  | 65 => ⟨S4096x128, .f32⟩
  | 66 => ⟨S4096x16, .f32⟩
  | 67 => ⟨S4096x16, .f32⟩
  | 68 => ⟨S4096x128, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S4096x1, .f32⟩
  | 86 => ⟨S1x8, .f32⟩
  | 87 => ⟨S4096x8, .f32⟩
  | 88 => ⟨S4096x8, .f32⟩
  | 89 => ⟨S4096x8, .f32⟩
  | 90 => ⟨S4096x8, .f32⟩
  | 91 => ⟨S4096x8, .f32⟩
  | 92 => ⟨S_, .f32⟩
  | 93 => ⟨S4096x48, .f32⟩
  | 94 => ⟨S4096x128, .f32⟩
  | 95 => ⟨S4096x8, .f32⟩
  | 96 => ⟨S_, .f32⟩
  | 97 => ⟨S4096x48, .f32⟩
  | 98 => ⟨S4096x128, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S4096x1, .f32⟩
  | 116 => ⟨S1x16, .f32⟩
  | 117 => ⟨S4096x16, .f32⟩
  | 118 => ⟨S4096x16, .f32⟩
  | 119 => ⟨S4096x16, .f32⟩
  | 120 => ⟨S4096x16, .f32⟩
  | 121 => ⟨S4096x16, .f32⟩
  | 122 => ⟨S_, .f32⟩
  | 123 => ⟨S4096x64, .f32⟩
  | 124 => ⟨S_, .f32⟩
  | 125 => ⟨S4096x32, .f32⟩
  | 126 => ⟨S4096x128, .f32⟩
  | 127 => ⟨S_, .f32⟩
  | _ => ⟨S81920x1024, .f32⟩

abbrev hbmTy0_1 (i : Nat) : BufTy := match i % 128 with
  | 0 => ⟨S4096x64, .f32⟩
  | 1 => ⟨S4096x16, .f32⟩
  | 2 => ⟨S_, .f32⟩
  | 3 => ⟨S4096x32, .f32⟩
  | 4 => ⟨S4096x128, .f32⟩
  | 5 => ⟨S4096x768, .f32⟩
  | 6 => ⟨S1x1024, .f32⟩
  | 7 => ⟨S1x384, .f32⟩
  | 8 => ⟨S1x256, .f32⟩
  | 9 => ⟨S1x3072, .f32⟩
  | 10 => ⟨S81920x1024, .bf16⟩
  | 11 => ⟨S81920x256, .bf16⟩
  | 12 => ⟨S2x81920x64, .bf16⟩
  | 13 => ⟨S81920x1024, .bf16⟩
  | 14 => ⟨S81920x512, .bf16⟩
  | 15 => ⟨S81920x512, .bf16⟩
  | 16 => ⟨S81920x1024, .bf16⟩
  | 17 => ⟨S81920x1024, .bf16⟩
  | 18 => ⟨S8x81920x64, .bf16⟩
  | 19 => ⟨S81920x3072, .bf16⟩
  | _ => ⟨S81920x1024, .f32⟩

abbrev hbmTy (i : Nat) : BufTy := match i / 128 with
  | 0 => hbmTy0_0 i
  | 1 => hbmTy0_1 i
  | _ => ⟨S81920x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6272, .bf16⟩
  | .local _ .vmem, ⟨4, _⟩ => ⟨S512x768, .f32⟩
  | .local _ .vmem, ⟨5, _⟩ => ⟨S512x768, .f32⟩
  | .local _ .vmem, ⟨6, _⟩ => ⟨S8x128, .f32⟩
  | .local _ .vmem, ⟨7, _⟩ => ⟨S512x512, .bf16⟩
  | .local _ .vmem, ⟨8, _⟩ => ⟨S1x384, .f32⟩
  | .local _ .vmem, ⟨9, _⟩ => ⟨S384x2048, .bf16⟩
  | .local _ .vmem, ⟨10, _⟩ => ⟨S1x256, .f32⟩
  | .local _ .vmem, ⟨11, _⟩ => ⟨S256x1536, .bf16⟩
  | .local _ .vmem, ⟨12, _⟩ => ⟨S1x3072, .f32⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S2x512x64, .bf16⟩
  | .local _ .vmem, ⟨18, _⟩ => ⟨S2x512x64, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S8x512x64, .bf16⟩
  | .local _ .vmem, ⟨30, _⟩ => ⟨S8x512x64, .bf16⟩
  | .local _ .vmem, ⟨31, _⟩ => ⟨S512x3072, .bf16⟩
  | .local _ .vmem, ⟨32, _⟩ => ⟨S512x3072, .bf16⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_18 : Ref sig .tc := ⟨.hbm, 100, rfl⟩
abbrev main_v71 : Ref sig .tc := ⟨.hbm, 101, rfl⟩
abbrev main_v72 : Ref sig .tc := ⟨.hbm, 102, rfl⟩
abbrev main_cst_19 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_cst_21 : Ref sig .tc := ⟨.hbm, 109, rfl⟩
abbrev main_v77 : Ref sig .tc := ⟨.hbm, 110, rfl⟩
abbrev main_v78 : Ref sig .tc := ⟨.hbm, 111, rfl⟩
abbrev main_cst_22 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_23 : Ref sig .tc := ⟨.hbm, 122, rfl⟩
abbrev main_v88 : Ref sig .tc := ⟨.hbm, 123, rfl⟩
abbrev main_cst_24 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100_0 : Ref sig .tc := ⟨.hbm, 138, rfl⟩
abbrev main_v100_1 : Ref sig .tc := ⟨.hbm, 139, rfl⟩
abbrev main_v100_2 : Ref sig .tc := ⟨.hbm, 140, rfl⟩
abbrev main_v100_3 : Ref sig .tc := ⟨.hbm, 141, rfl⟩
abbrev main_v100_4 : Ref sig .tc := ⟨.hbm, 142, rfl⟩
abbrev main_v100_5 : Ref sig .tc := ⟨.hbm, 143, rfl⟩
abbrev main_v100_6 : Ref sig .tc := ⟨.hbm, 144, rfl⟩
abbrev main_v100_7 : Ref sig .tc := ⟨.hbm, 145, rfl⟩
abbrev main_v100_8 : Ref sig .tc := ⟨.hbm, 146, rfl⟩
abbrev main_v100_9 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 1 := Scalar.cmpi .sge v0 c0_i32_0
  let c4_i32 : BitVec 32 := 4#32
  let c0_i32_1 : BitVec 32 := 0#32
  let v2 : BitVec 1 := Scalar.cmpi .eq c4_i32 c0_i32_1
  let c1_i32 : BitVec 32 := 1#32
  let v3 : BitVec 32 := Scalar.select v2 c1_i32 c4_i32
  let v4 : BitVec 32 := Scalar.remsi v0 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let v12 : BitVec 32 := Scalar.select v1 v11 c0_i32_5
  let c32_i32 : BitVec 32 := 32#32
  let v13 : BitVec 32 := Scalar.subi arg0 c32_i32
  let c0_i32_6 : BitVec 32 := 0#32
  let v14 : BitVec 1 := Scalar.cmpi .sge v13 c0_i32_6
  let c8_i32 : BitVec 32 := 8#32
  let c0_i32_7 : BitVec 32 := 0#32
  let v15 : BitVec 1 := Scalar.cmpi .eq c8_i32 c0_i32_7
  let c1_i32_8 : BitVec 32 := 1#32
  let v16 : BitVec 32 := Scalar.select v15 c1_i32_8 c8_i32
  let v17 : BitVec 32 := Scalar.remsi v13 v16
  let c0_i32_9 : BitVec 32 := 0#32
  let v18 : BitVec 1 := Scalar.cmpi .ne v17 c0_i32_9
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let v22 : BitVec 1 := Scalar.andi v21 v18
  let v23 : BitVec 32 := Scalar.addi v17 v16
  let v24 : BitVec 32 := Scalar.select v22 v23 v17
  let v25 : BitVec 32 := Scalar.select v14 v24 v12
  let c0_i32_12 : BitVec 32 := 0#32
  let c0_i32_13 : BitVec 32 := 0#32
  ![v25.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferencePIdeal.lean ====
abbrev S81920x1024 : Shape := ⟨2, ![81920, 1024]⟩
abbrev S1024 : Shape := ⟨1, ![1024]⟩
abbrev S1024x6272 : Shape := ⟨2, ![1024, 6272]⟩
abbrev S8x128 : Shape := ⟨2, ![8, 128]⟩
abbrev S512x512 : Shape := ⟨2, ![512, 512]⟩
abbrev S384 : Shape := ⟨1, ![384]⟩
abbrev S384x2048 : Shape := ⟨2, ![384, 2048]⟩
abbrev S256 : Shape := ⟨1, ![256]⟩
abbrev S256x1536 : Shape := ⟨2, ![256, 1536]⟩
abbrev S3072 : Shape := ⟨1, ![3072]⟩
abbrev S_ : Shape := ⟨0, ![]⟩
abbrev S81920 : Shape := ⟨1, ![81920]⟩
abbrev S81920x1 : Shape := ⟨2, ![81920, 1]⟩
abbrev S1x1024 : Shape := ⟨2, ![1, 1024]⟩
abbrev S81920x6272 : Shape := ⟨2, ![81920, 6272]⟩
abbrev S81920x128 : Shape := ⟨2, ![81920, 128]⟩
abbrev S81920x2x64 : Shape := ⟨3, ![81920, 2, 64]⟩
abbrev S2x81920x64 : Shape := ⟨3, ![2, 81920, 64]⟩
abbrev S81920x512 : Shape := ⟨2, ![81920, 512]⟩
abbrev S81920x4x2x64 : Shape := ⟨4, ![81920, 4, 2, 64]⟩
abbrev S2048 : Shape := ⟨1, ![2048]⟩
abbrev S8x2048 : Shape := ⟨2, ![8, 2048]⟩
abbrev S16384 : Shape := ⟨1, ![16384]⟩
abbrev S4096 : Shape := ⟨1, ![4096]⟩
abbrev S16x4096 : Shape := ⟨2, ![16, 4096]⟩
abbrev S65536 : Shape := ⟨1, ![65536]⟩
abbrev S8 : Shape := ⟨1, ![8]⟩
abbrev S1x8 : Shape := ⟨2, ![1, 8]⟩
abbrev S81920x8 : Shape := ⟨2, ![81920, 8]⟩
abbrev S81920x1x1x8 : Shape := ⟨4, ![81920, 1, 1, 8]⟩
abbrev S81920x4x2x8 : Shape := ⟨4, ![81920, 4, 2, 8]⟩
abbrev S81920x4x2x48 : Shape := ⟨4, ![81920, 4, 2, 48]⟩
abbrev S81920x4x64 : Shape := ⟨3, ![81920, 4, 64]⟩
abbrev S81920x4x1x64 : Shape := ⟨4, ![81920, 4, 1, 64]⟩
abbrev S81920x4x256 : Shape := ⟨3, ![81920, 4, 256]⟩
abbrev S81920x256 : Shape := ⟨2, ![81920, 256]⟩
abbrev S1x256 : Shape := ⟨2, ![1, 256]⟩
abbrev S256x512 : Shape := ⟨2, ![256, 512]⟩
abbrev S81920x8x64 : Shape := ⟨3, ![81920, 8, 64]⟩
abbrev S8x81920x64 : Shape := ⟨3, ![8, 81920, 64]⟩
abbrev S81920x3072 : Shape := ⟨2, ![81920, 3072]⟩
abbrev S1x3072 : Shape := ⟨2, ![1, 3072]⟩

abbrev nBuf : Space → Nat
  | .hbm => 178
  | .vmem => 0
  | .smem => 0
  | _ => 0

abbrev hbmTy0_0 (i : Nat) : BufTy := match i % 128 with
  | 0 => ⟨S81920x1024, .f32⟩
  | 1 => ⟨S1024, .f32⟩
  | 2 => ⟨S1024x6272, .bf16⟩
  | 3 => ⟨S8x128, .f32⟩
  | 4 => ⟨S512x512, .bf16⟩
  | 5 => ⟨S384, .f32⟩
  | 6 => ⟨S384x2048, .bf16⟩
  | 7 => ⟨S256, .f32⟩
  | 8 => ⟨S256x1536, .bf16⟩
  | 9 => ⟨S3072, .f32⟩
  | 10 => ⟨S81920x1024, .f32⟩
  | 11 => ⟨S_, .f32⟩
  | 12 => ⟨S81920, .f32⟩
  | 13 => ⟨S81920x1, .f32⟩
  | 14 => ⟨S_, .f32⟩
  | 15 => ⟨S81920x1, .f32⟩
  | 16 => ⟨S81920x1, .f32⟩
  | 17 => ⟨S_, .f32⟩
  | 18 => ⟨S81920x1, .f32⟩
  | 19 => ⟨S81920x1, .f32⟩
  | 20 => ⟨S81920x1, .f32⟩
  | 21 => ⟨S81920x1024, .f32⟩
  | 22 => ⟨S81920x1024, .f32⟩
  | 23 => ⟨S1x1024, .f32⟩
  | 24 => ⟨S81920x1024, .f32⟩
  | 25 => ⟨S81920x1024, .f32⟩
  | 26 => ⟨S1024x6272, .f32⟩
  | 27 => ⟨S81920x6272, .f32⟩
  | 28 => ⟨S81920x128, .f32⟩
  | 29 => ⟨S81920x2x64, .f32⟩
  | 30 => ⟨S2x81920x64, .f32⟩
  | 31 => ⟨S81920x512, .f32⟩
  | 32 => ⟨S81920x4x2x64, .f32⟩
  | 33 => ⟨S2048, .f32⟩
  | 34 => ⟨S8x2048, .f32⟩
  | 35 => ⟨S16384, .f32⟩
  | 36 => ⟨S4096, .f32⟩
  | 37 => ⟨S16x4096, .f32⟩
  | 38 => ⟨S65536, .f32⟩
  | 39 => ⟨S81920, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S81920x1, .f32⟩
  | 57 => ⟨S1x8, .f32⟩
  | 58 => ⟨S81920x8, .f32⟩
  | 59 => ⟨S81920x8, .f32⟩
  | 60 => ⟨S81920x8, .f32⟩
  | 61 => ⟨S81920x1x1x8, .f32⟩
  | 62 => ⟨S81920x1x1x8, .f32⟩
  | 63 => ⟨S81920x1x1x8, .f32⟩
  | 64 => ⟨S81920x4x2x8, .f32⟩
  | 65 => ⟨S81920x4x2x8, .f32⟩
  | 66 => ⟨S81920x4x2x8, .f32⟩
  | 67 => ⟨S81920x4x2x8, .f32⟩
  | 68 => ⟨S81920x4x2x8, .f32⟩
  | 69 => ⟨S81920x4x2x8, .f32⟩
  | 70 => ⟨S81920x4x2x8, .f32⟩
  | 71 => ⟨S81920x4x2x8, .f32⟩
  | 72 => ⟨S81920x4x2x8, .f32⟩
  | 73 => ⟨S81920x4x2x8, .f32⟩
  | 74 => ⟨S81920x4x2x8, .f32⟩
  | 75 => ⟨S81920x4x2x8, .f32⟩
  | 76 => ⟨S81920x4x2x48, .f32⟩
  | 77 => ⟨S81920x4x2x64, .f32⟩
  | 78 => ⟨S_, .f32⟩
  | 79 => ⟨S81920x4x2x64, .f32⟩
  | 80 => ⟨S81920x4x2x64, .f32⟩
  | 81 => ⟨S_, .f32⟩
  | 82 => ⟨S81920x4x64, .f32⟩
  | 83 => ⟨S81920x4x1x64, .f32⟩
  | 84 => ⟨S81920x4x64, .f32⟩
  | 85 => ⟨S81920x4x1x64, .f32⟩
  | 86 => ⟨S81920x4x64, .f32⟩
  | 87 => ⟨S81920x4x256, .f32⟩
  | 88 => ⟨S81920x1024, .f32⟩
  | 89 => ⟨S81920x512, .f32⟩
  | 90 => ⟨S81920x4x2x64, .f32⟩
  | 91 => ⟨S2048, .f32⟩
  | 92 => ⟨S8x2048, .f32⟩
  | 93 => ⟨S16384, .f32⟩
  | 94 => ⟨S4096, .f32⟩
  | 95 => ⟨S16x4096, .f32⟩
  | 96 => ⟨S65536, .f32⟩
  | 97 => ⟨S81920, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S81920x1, .f32⟩
  | 115 => ⟨S1x8, .f32⟩
  | 116 => ⟨S81920x8, .f32⟩
  | 117 => ⟨S81920x8, .f32⟩
  | 118 => ⟨S81920x8, .f32⟩
  | 119 => ⟨S81920x1x1x8, .f32⟩
  | 120 => ⟨S81920x1x1x8, .f32⟩
  | 121 => ⟨S81920x1x1x8, .f32⟩
  | 122 => ⟨S81920x4x2x8, .f32⟩
  | 123 => ⟨S81920x4x2x8, .f32⟩
  | 124 => ⟨S81920x4x2x8, .f32⟩
  | 125 => ⟨S81920x4x2x8, .f32⟩
  | 126 => ⟨S81920x4x2x8, .f32⟩
  | 127 => ⟨S81920x4x2x8, .f32⟩
  | _ => ⟨S81920x1024, .f32⟩

abbrev hbmTy0_1 (i : Nat) : BufTy := match i % 128 with
  | 0 => ⟨S81920x4x2x8, .f32⟩
  | 1 => ⟨S81920x4x2x8, .f32⟩
  | 2 => ⟨S81920x4x2x8, .f32⟩
  | 3 => ⟨S81920x4x2x8, .f32⟩
  | 4 => ⟨S81920x4x2x8, .f32⟩
  | 5 => ⟨S81920x4x2x8, .f32⟩
  | 6 => ⟨S81920x4x2x48, .f32⟩
  | 7 => ⟨S81920x4x2x64, .f32⟩
  | 8 => ⟨S81920x512, .f32⟩
  | 9 => ⟨S81920x512, .f32⟩
  | 10 => ⟨S81920x256, .f32⟩
  | 11 => ⟨S81920x256, .f32⟩
  | 12 => ⟨S_, .f32⟩
  | 13 => ⟨S81920, .f32⟩
  | 14 => ⟨S81920x1, .f32⟩
  | 15 => ⟨S_, .f32⟩
  | 16 => ⟨S81920x1, .f32⟩
  | 17 => ⟨S81920x1, .f32⟩
  | 18 => ⟨S_, .f32⟩
  | 19 => ⟨S81920x1, .f32⟩
  | 20 => ⟨S81920x1, .f32⟩
  | 21 => ⟨S81920x1, .f32⟩
  | 22 => ⟨S81920x256, .f32⟩
  | 23 => ⟨S81920x256, .f32⟩
  | 24 => ⟨S1x256, .f32⟩
  | 25 => ⟨S81920x256, .f32⟩
  | 26 => ⟨S81920x256, .f32⟩
  | 27 => ⟨S256x512, .bf16⟩
  | 28 => ⟨S256x512, .f32⟩
  | 29 => ⟨S81920x512, .f32⟩
  | 30 => ⟨S81920x8x64, .f32⟩
  | 31 => ⟨S8x81920x64, .f32⟩
  | 32 => ⟨S81920x3072, .f32⟩
  | 33 => ⟨S1x3072, .f32⟩
  | 34 => ⟨S81920x3072, .f32⟩
  | 35 => ⟨S81920x3072, .f32⟩
  | 36 => ⟨S81920x3072, .f32⟩
  | 37 => ⟨S81920x3072, .f32⟩
  | 38 => ⟨S_, .f32⟩
  | 39 => ⟨S81920x3072, .f32⟩
  | 40 => ⟨S81920x3072, .f32⟩
  | 41 => ⟨S_, .f32⟩
  | 42 => ⟨S81920x3072, .f32⟩
  | 43 => ⟨S81920x3072, .f32⟩
  | 44 => ⟨S2x81920x64, .bf16⟩
  | 45 => ⟨S81920x1024, .bf16⟩
  | 46 => ⟨S81920x512, .bf16⟩
  | 47 => ⟨S81920x512, .bf16⟩
  | 48 => ⟨S8x81920x64, .bf16⟩
  | 49 => ⟨S81920x3072, .bf16⟩
  | _ => ⟨S81920x1024, .f32⟩

abbrev hbmTy (i : Nat) : BufTy := match i / 128 with
  | 0 => hbmTy0_0 i
  | 1 => hbmTy0_1 i
  | _ => ⟨S81920x1024, .f32⟩

abbrev bufTy : (tb : Table) → Fin (tcTables nBuf tb) → BufTy
  | .hbm, ⟨i, _⟩ => hbmTy i
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_9 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_cst_12 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_14 : Ref sig .tc := ⟨.hbm, 140, rfl⟩
abbrev main_v115 : Ref sig .tc := ⟨.hbm, 141, rfl⟩
abbrev main_v116 : Ref sig .tc := ⟨.hbm, 142, rfl⟩
abbrev main_cst_15 : Ref sig .tc := ⟨.hbm, 143, rfl⟩
abbrev main_v117 : Ref sig .tc := ⟨.hbm, 144, rfl⟩
abbrev main_v118 : Ref sig .tc := ⟨.hbm, 145, rfl⟩
abbrev main_cst_16 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_17 : Ref sig .tc := ⟨.hbm, 166, rfl⟩
abbrev main_v138 : Ref sig .tc := ⟨.hbm, 167, rfl⟩
abbrev main_v139 : Ref sig .tc := ⟨.hbm, 168, rfl⟩
abbrev main_cst_18 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩

abbrev nD : Nat := 1
abbrev τ : Topo := Topo.v7x

variable {F : FTy → Type} [FloatOps F]
-- ==== Proof.Online.lean ====
/- Softmax computed chunk by chunk. A row of scores is cut into chunks of `n` keys; a running maximum, a running sum of
   exponentials (base two) and a running weighted sum of the values are kept, and at each chunk the two sums are rescaled
   by the change of the maximum. This module defines that recursion on the extended reals and proves that, for finite
   scores, its quotient is the softmax-weighted sum of the values over all keys at once. The values are arbitrary
   extended reals. -/
module

public import Idealize.ShloMosaic.PureOps.Ideal
public import Idealize.ShloMosaic.Lib.Pointwise

@[expose] public section

noncomputable section

namespace Cert.Online

open Idealize.ShloMosaic

variable {n : ℕ}

/-- The largest score of one chunk (`⊥` for an empty one). -/
def top (f : Fin n → EReal) : EReal := Finset.univ.fold max ⊥ f

/-- The running maximum before chunk `c`. -/
def mAt (x : ℕ → Fin n → EReal) : ℕ → EReal
  | 0 => ⊥
  | c + 1 => max (mAt x c) (top (x c))

/-- The running sum of exponentials before chunk `c`. -/
def lAt (x : ℕ → Fin n → EReal) : ℕ → EReal
  | 0 => 0
  | c + 1 => Ideal.exp2 (mAt x c - mAt x (c + 1)) * lAt x c + ∑ j, Ideal.exp2 (x c j - mAt x (c + 1))

/-- The running weighted sum of the values before chunk `c`. -/
def aAt (x v : ℕ → Fin n → EReal) : ℕ → EReal
  | 0 => 0
  | c + 1 => Ideal.exp2 (mAt x c - mAt x (c + 1)) * aAt x v c + ∑ j, v c j * Ideal.exp2 (x c j - mAt x (c + 1))

/-- The softmax-weighted sum of the values `v` over `K` keys at once, of scores `y` given divided by `ln 2`: the largest
    score is subtracted before the exponential, as softmax is usually computed. -/
def attend {K : ℕ} (y v : Fin K → EReal) : EReal :=
  ∑ k, v k * Ideal.div (Ideal.exp (y k * (Real.log 2 : ℝ) - top fun k' => y k' * (Real.log 2 : ℝ)))
    (∑ k', Ideal.exp (y k' * (Real.log 2 : ℝ) - top fun k'' => y k'' * (Real.log 2 : ℝ)))

/-- The running sum of exponentials is the weighted sum of ones. -/
theorem lAt_eq (x : ℕ → Fin n → EReal) (c : ℕ) : lAt x c = aAt x (fun _ _ => 1) c := by
  induction c with
  | zero => rfl
  | succ c ih => simp only [lAt, aAt, ih, one_mul]

/-- The largest of finitely many, at least one, real numbers is a real number. -/
theorem top_coe (hn : 0 < n) (r : Fin n → ℝ) : ∃ μ : ℝ, top (fun j => (r j : EReal)) = μ := by
  obtain ⟨i, -, hi⟩ := Finset.exists_mem_eq_sup (Finset.univ : Finset (Fin n)) ⟨⟨0, hn⟩, Finset.mem_univ _⟩ (fun j => (r j : EReal))
  exact ⟨r i, hi⟩

/-- A nonnegative real factor goes inside a sum of extended reals. -/
theorem mul_sum {ι : Type*} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A finite sum of real numbers is the same real number among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential base two of a real number is the real power. -/
theorem exp2_real (t : ℝ) : Ideal.exp2 (t : EReal) = ((2 ^ t : ℝ) : EReal) := rfl

/-- What the recursion holds after at least one chunk of finite scores: a real maximum `μ`, and the sum over all keys so
    far of the values weighted by `2 ^ (score - μ)`. -/
theorem aAt_eq (hn : 0 < n) (r : ℕ → Fin n → ℝ) (c : ℕ) :
    ∃ μ : ℝ, mAt (fun c j => (r c j : EReal)) (c + 1) = μ ∧ ∀ v : ℕ → Fin n → EReal,
      aAt (fun c j => (r c j : EReal)) v (c + 1) = ∑ i ∈ Finset.range (c + 1), ∑ j, v i j * ((2 ^ (r i j - μ) : ℝ) : EReal) := by
  have step (i : ℕ) (j : Fin n) (μ : ℝ) : Ideal.exp2 ((r i j : EReal) - (μ : EReal)) = ((2 ^ (r i j - μ) : ℝ) : EReal) := by
    rw [← EReal.coe_sub, exp2_real]
  induction c with
  | zero =>
    obtain ⟨μ, hμ⟩ := top_coe hn (r 0)
    have hm : mAt (fun c j => (r c j : EReal)) 1 = μ := by simp [mAt, hμ]
    refine ⟨μ, hm, fun v => ?_⟩
    simp only [aAt, hm, mul_zero, zero_add, Finset.range_one, Finset.sum_singleton, step]
  | succ c ih =>
    obtain ⟨μ, hm, ha⟩ := ih
    obtain ⟨τ, hτ⟩ := top_coe hn (r (c + 1))
    have hm' : mAt (fun c j => (r c j : EReal)) (c + 1 + 1) = (max μ τ : ℝ) := by
      rw [mAt, hm, hτ]; exact (EReal.coe_strictMono.monotone.map_max).symm
    refine ⟨max μ τ, hm', fun v => ?_⟩
    rw [aAt, hm', ha v, Finset.sum_range_succ _ (c + 1), hm, ← EReal.coe_sub, exp2_real, mul_sum _ _ (Real.rpow_nonneg (by norm_num) _)]
    congr 1
    · refine Finset.sum_congr rfl fun i _ => ?_
      rw [mul_sum _ _ (Real.rpow_nonneg (by norm_num) _)]
      refine Finset.sum_congr rfl fun j _ => ?_
      rw [mul_left_comm, ← EReal.coe_mul]
      congr 2
      rw [← Real.rpow_add (by norm_num)]; congr 1; ring

/-- A sum over all keys, chunk by chunk. -/
theorem sum_chunks {M : Type*} [AddCommMonoid M] (n C : ℕ) (f : ℕ → M) :
    ∑ i ∈ Finset.range C, ∑ j : Fin n, f (i * n + j) = ∑ k : Fin (C * n), f k := by
  rw [Fin.sum_univ_eq_sum_range]
  induction C with
  | zero => simp
  | succ C ih => rw [Finset.sum_range_succ, ih, Nat.succ_mul, Finset.sum_range_add, Fin.sum_univ_eq_sum_range (fun j => f (C * n + j))]

/-- Softmax weights do not see what is subtracted in the exponent: `2 ^ (r - μ)` over its sum is `exp (r ln 2 - ν)` over its
    sum. -/
theorem weight_eq {K : ℕ} (r : Fin K → ℝ) (μ ν : ℝ) (k : Fin K) :
    (2 : ℝ) ^ (r k - μ) * (1 / ∑ k', (2 : ℝ) ^ (r k' - μ))
      = Real.exp (r k * Real.log 2 - ν) * (1 / ∑ k', Real.exp (r k' * Real.log 2 - ν)) := by
  have h (k : Fin K) : (2 : ℝ) ^ (r k - μ) = Real.exp (ν - μ * Real.log 2) * Real.exp (r k * Real.log 2 - ν) := by
    rw [Real.rpow_def_of_pos (by norm_num), ← Real.exp_add]; congr 1; ring
  simp only [h, ← Finset.mul_sum]
  have h0 := Real.exp_pos (ν - μ * Real.log 2)
  have h1 : 0 < ∑ k', Real.exp (r k' * Real.log 2 - ν) := Finset.sum_pos (fun _ _ => Real.exp_pos _) ⟨k, Finset.mem_univ _⟩
  field_simp

/-- THE EQUATION: over `C` chunks of `n` finite scores, the quotient of the recursion is the softmax-weighted sum over all
    `C * n` keys. -/
theorem online_eq {C : ℕ} (hn : 0 < n) (hC : 0 < C) (r : ℕ → ℝ) (v : ℕ → EReal) :
    aAt (fun c (j : Fin n) => ((r (c * n + j) : ℝ) : EReal)) (fun c j => v (c * n + j)) C
        * Ideal.div 1 (lAt (fun c (j : Fin n) => ((r (c * n + j) : ℝ) : EReal)) C)
      = attend (K := C * n) (fun k => (r k : EReal)) (fun k => v k) := by
  obtain ⟨C, rfl⟩ : ∃ c, C = c + 1 := ⟨C - 1, by omega⟩
  obtain ⟨μ, -, ha⟩ := aAt_eq hn (fun c j => r (c * n + j)) C
  have hK : 0 < (C + 1) * n := Nat.mul_pos hC hn
  obtain ⟨ν, hν⟩ := top_coe hK (fun k => r k * Real.log 2)
  have hν' : (top fun k : Fin ((C + 1) * n) => (r k : EReal) * (Real.log 2 : ℝ)) = ν := by
    rw [← hν]; congr 1
  have hpos : 0 < ∑ k : Fin ((C + 1) * n), (2 : ℝ) ^ (r k - μ) :=
    Finset.sum_pos (fun _ _ => Real.rpow_pos_of_pos (by norm_num) _) ⟨⟨0, hK⟩, Finset.mem_univ _⟩
  have hpos' : 0 < ∑ k : Fin ((C + 1) * n), Real.exp (r k * Real.log 2 - ν) :=
    Finset.sum_pos (fun _ _ => Real.exp_pos _) ⟨⟨0, hK⟩, Finset.mem_univ _⟩
  have hl : lAt (fun c (j : Fin n) => ((r (c * n + j) : ℝ) : EReal)) (C + 1) = ((∑ k : Fin ((C + 1) * n), (2 : ℝ) ^ (r k - μ) : ℝ) : EReal) := by
    rw [lAt_eq, ha, sum_chunks n (C + 1) (fun k => (1 : EReal) * ((2 ^ (r k - μ) : ℝ) : EReal)), coe_sum]
    simp only [one_mul]
  have he (k : Fin ((C + 1) * n)) : Ideal.exp ((r k : EReal) * (Real.log 2 : ℝ) - (ν : EReal)) = (Real.exp (r k * Real.log 2 - ν) : ℝ) := by
    rw [← EReal.coe_mul, ← EReal.coe_sub, Ideal.exp_coe]
  rw [hl, ha, sum_chunks n (C + 1) (fun k => v k * ((2 ^ (r k - μ) : ℝ) : EReal)), Ideal.div_coe hpos.ne', one_mul, mul_comm,
    mul_sum _ _ (by positivity)]
  unfold attend
  simp only [hν', he]
  refine Finset.sum_congr rfl fun k _ => ?_
  rw [← coe_sum, Ideal.div_coe hpos'.ne', ← EReal.coe_mul, ← weight_eq (fun k => r k) μ ν k, mul_left_comm, ← EReal.coe_mul, mul_comm (1 / _)]

end Cert.Online

end
-- ==== Proof.Chunk.lean ====
/- One block of the attention kernels, as arrays: 2048 queries against 4096 keys, the keys taken in eight chunks of 512. The
   running maxima and the running sums of exponentials, one per query, and what they are at a query: the recursion of
   `Online`. The three kernels compute these arrays alike; they are stated over mixer A's names of the shapes. -/
module

public import proofs.«01_k».proof.Proof.Gen.KernelAIdeal.Frame
public import proofs.«01_k».proof.Proof.Online
public import Idealize.ShloMosaic.Lib.Pointwise

@[expose] public section

set_option maxRecDepth 16384

noncomputable section

namespace Cert.Flash

open Cert.KernelAIdeal Cert.KernelAIdeal.Gen Idealize.ShloMosaic

/-- The scores of a chunk's keys (rows) against the block's queries (columns). -/
def sc (q : Vec Ideal S2048x128 .bf16) (k : Vec Ideal S512x128 .bf16) : FVec Ideal S512x2048 .f32 :=
  matmul (φ₁ := .bf16) (φ₂ := .bf16) dot_S512x128_S2048x128_S512x2048_1_1_0_0_n_n none k q (constant S512x2048 .f32 0x00000000#32)

/-- The rows of the eight chunks of a block of 4096 rows. -/
def rows (k : Vec Ideal S4096x128 .bf16) : ℕ → Vec Ideal S512x128 .bf16
  | 0 => View.ld k r0_1
  | 1 => View.ld k r0_2
  | 2 => View.ld k r0_4
  | 3 => View.ld k r0_6
  | 4 => View.ld k r0_8
  | 5 => View.ld k r0_10
  | 6 => View.ld k r0_12
  | _ => View.ld k r0_14

/-- The scores of the chunks. -/
def scores (q : Vec Ideal S2048x128 .bf16) (k : Vec Ideal S4096x128 .bf16) (c : ℕ) : FVec Ideal S512x2048 .f32 :=
  sc (View.ld q r0_0) (rows k c)

/-- The maximum after a chunk of scores `s`. -/
def mNext (m : FVec Ideal S1x2048 .f32) (s : FVec Ideal S512x2048 .f32) : FVec Ideal S1x2048 .f32 :=
  maximumf m (shapeCast S1x2048 (multiReduction .maximumf [0] S2048 s 0xFF800000#32 reduces_S512x2048_S2048 (.inl rfl) rfl) shapeCasts_S2048_S1x2048)

/-- The factor the sums are rescaled by when the maximum goes from `m` to `m'`. -/
def alpha (m m' : FVec Ideal S1x2048 .f32) : FVec Ideal S1x2048 .f32 := exp2 (subf m m')

/-- The exponentials of a chunk. -/
def expo (s : FVec Ideal S512x2048 .f32) (m' : FVec Ideal S1x2048 .f32) : FVec Ideal S512x2048 .f32 :=
  exp2 (subf s (broadcastTo S512x2048 m' broadcasts_S1x2048_S512x2048))

/-- The sum of exponentials after a chunk: the sum before, rescaled, and the chunk's exponentials `p`. -/
def lNext (α l : FVec Ideal S1x2048 .f32) (p : FVec Ideal S512x2048 .f32) : FVec Ideal S1x2048 .f32 :=
  addf (mulf α l) (shapeCast S1x2048 (multiReduction .add [0] S2048 p 0x00000000#32 reduces_S512x2048_S2048 (.inl rfl) rfl) shapeCasts_S2048_S1x2048)

/-- The maxima before chunk `c`. -/
def mArr (s : ℕ → FVec Ideal S512x2048 .f32) : ℕ → FVec Ideal S1x2048 .f32
  | 0 => broadcast S1x2048 (Scalar.ofBits (F := Ideal) .f32 0xFF800000#32)
  | c + 1 => mNext (mArr s c) (s c)

/-- The sums of exponentials before chunk `c`. -/
def lArr (s : ℕ → FVec Ideal S512x2048 .f32) : ℕ → FVec Ideal S1x2048 .f32
  | 0 => broadcast S1x2048 (Scalar.ofBits (F := Ideal) .f32 0x00000000#32)
  | c + 1 => lNext (alpha (mArr s c) (mArr s (c + 1))) (lArr s c) (expo (s c) (mArr s (c + 1)))

/-- The bits of minus infinity. -/
theorem ofBits_bot : Ideal.ofBits .f32 0xFF800000#32 = ⊥ := by simp [Ideal.ofBits, Ideal.ieee]

/-- The bits of zero. -/
theorem ofBits_zero : Ideal.ofBits .f32 0x00000000#32 = 0 := by simp [Ideal.ofBits, Ideal.ieee]

/-- The bits of one. -/
theorem ofBits_one : Ideal.ofBits .f32 0x3F800000#32 = 1 := by
  simp [Ideal.ofBits, Ideal.ieee, -EReal.coe_mul]; try norm_num

/-- The key that chunk `c` has at position `j`. -/
def key (c : ℕ) (j : Fin 512) : Fin 4096 := Fin.ofNat 4096 (c * 512 + j)

/-- A chunk's rows are the block's rows of the chunk's keys. -/
theorem rows_at (k : Vec Ideal S4096x128 .bf16) {c : ℕ} (hc : c < 8) (j : Fin 512) (d : Fin 128) :
    rows k c (ix2 j d) = k (ix2 (key c j) d) := by
  have hj := j.2
  interval_cases c <;> unfold rows <;> pointwise <;> congr 2 <;> apply Fin.ext <;> simp only [key, Fin.val_ofNat] <;> omega

/-- The scores of a chunk, at a key of the chunk and a query: the dot product of the two rows. -/
theorem sc_at (q : Vec Ideal S2048x128 .bf16) (k : Vec Ideal S512x128 .bf16) (j : Fin 512) (i : Fin 2048) :
    sc q k (ix2 j i) = ∑ d : Fin 128, k (ix2 j d) * q (ix2 i d) := by
  unfold sc
  pointwise

/-- The block's queries are read whole. -/
theorem ld_q (q : Vec Ideal S2048x128 .bf16) (i : Fin 2048) (d : Fin 128) :
    (View.ld (Val := Elt Ideal) q r0_0 : Vec Ideal S2048x128 .bf16) (ix2 i d) = q (ix2 i d) := by
  pointwise

/-- The scores, at a chunk's key and a query. -/
theorem scores_at (q : Vec Ideal S2048x128 .bf16) (k : Vec Ideal S4096x128 .bf16) {c : ℕ} (hc : c < 8) (j : Fin 512) (i : Fin 2048) :
    scores q k c (ix2 j i) = ∑ d : Fin 128, k (ix2 (key c j) d) * q (ix2 i d) := by
  rw [scores, sc_at]
  exact Finset.sum_congr rfl fun d _ => by rw [rows_at k hc]; exact congrArg _ (ld_q q i d)

/-- The largest score of a chunk, at a query. -/
theorem max_at (s : FVec Ideal S512x2048 .f32) (i : Fin 2048) :
    multiReduction .maximumf [0] S2048 s 0xFF800000#32 reduces_S512x2048_S2048 (.inl rfl) rfl (ix1 i)
      = Finset.univ.fold max (Ideal.ofBits .f32 0xFF800000#32) fun j : Fin 512 => s (ix2 j i) := by
  pointwise

/-- The larger of a row and of a vector laid out as a row, at a query. -/
theorem maxRow_at (m : FVec Ideal S1x2048 .f32) (r : FVec Ideal S2048 .f32) (i : Fin 2048) :
    maximumf m (shapeCast S1x2048 r shapeCasts_S2048_S1x2048) (ix2 0 i) = max (m (ix2 0 i)) (r (ix1 i)) := by
  pointwise

/-- The maximum after a chunk, at a query. -/
theorem mNext_at (m : FVec Ideal S1x2048 .f32) (s : FVec Ideal S512x2048 .f32) (i : Fin 2048) :
    mNext m s (ix2 0 i) = max (m (ix2 0 i)) (Online.top fun j => s (ix2 j i)) := by
  rw [mNext, maxRow_at, max_at, ofBits_bot, Online.top]

/-- The rescaling factor, at a query. -/
theorem alpha_at (m m' : FVec Ideal S1x2048 .f32) (i : Fin 2048) :
    alpha m m' (ix2 0 i) = Ideal.exp2 (m (ix2 0 i) - m' (ix2 0 i)) := rfl

/-- An exponential of a chunk, at a key of the chunk and a query. -/
theorem expo_at (s : FVec Ideal S512x2048 .f32) (m' : FVec Ideal S1x2048 .f32) (j : Fin 512) (i : Fin 2048) :
    expo s m' (ix2 j i) = Ideal.exp2 (s (ix2 j i) - m' (ix2 0 i)) := by
  unfold expo
  pointwise
  rfl

/-- The sum of exponentials after a chunk, at a query. -/
theorem lNext_at (α l : FVec Ideal S1x2048 .f32) (p : FVec Ideal S512x2048 .f32) (i : Fin 2048) :
    lNext α l p (ix2 0 i) = α (ix2 0 i) * l (ix2 0 i) + ∑ j : Fin 512, p (ix2 j i) := by
  unfold lNext
  pointwise

/-- The maxima are the recursion's. -/
theorem mArr_at (s : ℕ → FVec Ideal S512x2048 .f32) (i : Fin 2048) (c : ℕ) :
    mArr s c (ix2 0 i) = Online.mAt (fun c j => s c (ix2 j i)) c := by
  induction c with
  | zero => exact ofBits_bot
  | succ c ih => rw [mArr, mNext_at, ih]; rfl

/-- The sums of exponentials are the recursion's. -/
theorem lArr_at (s : ℕ → FVec Ideal S512x2048 .f32) (i : Fin 2048) (c : ℕ) :
    lArr s c (ix2 0 i) = Online.lAt (fun c j => s c (ix2 j i)) c := by
  induction c with
  | zero => exact ofBits_zero
  | succ c ih =>
    rw [lArr, lNext_at, alpha_at, ih, mArr_at, mArr_at, Online.lAt]
    simp only [expo_at, mArr_at]

end Cert.Flash

end
-- ==== Proof.Chunk64.lean ====
/- The running weighted sums of the values, 64 rows of them, and the block the attention kernel stores of them: at a row and a
   query the quotient of the recursion of `Online`. -/
module

public import proofs.«01_k».proof.Proof.Gen.KernelAIdeal.Frame
public import proofs.«01_k».proof.Proof.Chunk

@[expose] public section

set_option maxRecDepth 16384

noncomputable section

namespace Cert.Flash64

open Cert.KernelAIdeal Cert.KernelAIdeal.Gen Idealize.ShloMosaic
open Cert.Flash (mArr lArr alpha expo scores)

/-- The values of the eight chunks of a block of 4096 keys. -/
def vals (v : Vec Ideal S1x4096x64 .bf16) : ℕ → Vec Ideal S1x512x64 .bf16
  | 0 => View.ld v r0_3
  | 1 => View.ld v r0_5
  | 2 => View.ld v r0_7
  | 3 => View.ld v r0_9
  | 4 => View.ld v r0_11
  | 5 => View.ld v r0_13
  | 6 => View.ld v r0_15
  | _ => View.ld v r0_16

/-- A chunk's values are the block's values of the chunk's keys. -/
theorem vals_at (v : Vec Ideal S1x4096x64 .bf16) {c : ℕ} (hc : c < 8) (j : Fin 512) (d : Fin 64) :
    vals v c (ix3 0 j d) = v (ix3 0 (Flash.key c j) d) := by
  have hj := j.2
  interval_cases c <;> unfold vals <;> pointwise <;> congr 2 <;> apply Fin.ext <;> simp only [Flash.key, Fin.val_ofNat] <;> omega

/-- The weighted sums after a chunk of values `v`: the sums before, rescaled, and the chunk's, with weights `p`. -/
def aNext (α : FVec Ideal S1x2048 .f32) (a : FVec Ideal S64x2048 .f32) (p : FVec Ideal S512x2048 .f32) (v : Vec Ideal S1x512x64 .bf16) :
    FVec Ideal S64x2048 .f32 :=
  addf (mulf (broadcastTo S64x2048 α broadcasts_S1x2048_S64x2048) a)
    (matmul (φ₁ := .bf16) (φ₂ := .bf16) dot_S512x64_S512x2048_S64x2048_0_0_1_1_n_n none (shapeCast (α := Ideal .bf16) S512x64 v shapeCasts_S1x512x64_S512x64)
      (truncf .bf16 p bitsLt_bf16_f32) (constant S64x2048 .f32 0x00000000#32))

/-- The weighted sums before chunk `c`. -/
def aArr (s : ℕ → FVec Ideal S512x2048 .f32) (v : ℕ → Vec Ideal S1x512x64 .bf16) : ℕ → FVec Ideal S64x2048 .f32
  | 0 => broadcast S64x2048 (Scalar.ofBits (F := Ideal) .f32 0x00000000#32)
  | c + 1 => aNext (alpha (mArr s c) (mArr s (c + 1))) (aArr s v c) (expo (s c) (mArr s (c + 1))) (v c)

/-- What is stored: the weighted sums times the reciprocals of the sums of exponentials. -/
def fin (a : FVec Ideal S64x2048 .f32) (l : FVec Ideal S1x2048 .f32) : FVec Ideal S64x2048 .bf16 :=
  truncf .bf16 (mulf a (broadcastTo S64x2048 (divf (broadcast S1x2048 (Scalar.ofBits (F := Ideal) .f32 0x3F800000#32)) l) broadcasts_S1x2048_S64x2048)) bitsLt_bf16_f32

/-- The block stored for a block of queries, of keys and of values. -/
def out (q : Vec Ideal S2048x128 .bf16) (k : Vec Ideal S4096x128 .bf16) (v : Vec Ideal S1x4096x64 .bf16) : FVec Ideal S64x2048 .bf16 :=
  fin (aArr (scores q k) (vals v) 8) (lArr (scores q k) 8)

/-- The weighted sum after a chunk, at a row and a query. -/
theorem aNext_at (α : FVec Ideal S1x2048 .f32) (a : FVec Ideal S64x2048 .f32) (p : FVec Ideal S512x2048 .f32) (v : Vec Ideal S1x512x64 .bf16)
    (d : Fin 64) (i : Fin 2048) :
    aNext α a p v (ix2 d i) = α (ix2 0 i) * a (ix2 d i) + ∑ j : Fin 512, v (ix3 0 j d) * p (ix2 j i) := by
  unfold aNext
  pointwise

/-- The weighted sums are the recursion's. -/
theorem aArr_at (s : ℕ → FVec Ideal S512x2048 .f32) (v : ℕ → Vec Ideal S1x512x64 .bf16) (d : Fin 64) (i : Fin 2048) (c : ℕ) :
    aArr s v c (ix2 d i) = Online.aAt (fun c j => s c (ix2 j i)) (fun c j => v c (ix3 0 j d)) c := by
  induction c with
  | zero => exact Flash.ofBits_zero
  | succ c ih =>
    rw [aArr, aNext_at, Flash.alpha_at, ih, Flash.mArr_at, Flash.mArr_at, Online.aAt]
    simp only [Flash.expo_at, Flash.mArr_at]

/-- What is stored, at a row and a query. -/
theorem fin_at (a : FVec Ideal S64x2048 .f32) (l : FVec Ideal S1x2048 .f32) (d : Fin 64) (i : Fin 2048) :
    fin a l (ix2 d i) = a (ix2 d i) * Ideal.div 1 (l (ix2 0 i)) := by
  unfold fin
  rw [← Flash.ofBits_one]
  pointwise

/-- The stored block, at a row and a query: the recursion's quotient over the eight chunks. -/
theorem out_at (q : Vec Ideal S2048x128 .bf16) (k : Vec Ideal S4096x128 .bf16) (v : Vec Ideal S1x4096x64 .bf16) (d : Fin 64) (i : Fin 2048) :
    out q k v (ix2 d i)
      = Online.aAt (fun c j => scores q k c (ix2 j i)) (fun c j => vals v c (ix3 0 j d)) 8
        * Ideal.div 1 (Online.lAt (fun c j => scores q k c (ix2 j i)) 8) := by
  rw [out, fin_at, aArr_at, Flash.lArr_at]

end Cert.Flash64

end
-- ==== Proof.BodyA.lean ====
/- What the kernel of mixer A's attention stores of one block is the eight chunks' recursion over arrays, written out. -/
module

public import proofs.«01_k».proof.Proof.Gen.KernelAIdeal.Frame
public import proofs.«01_k».proof.Proof.Chunk64

@[expose] public section

set_option maxRecDepth 16384

noncomputable section

namespace Cert.FlashA

open Cert.KernelAIdeal Cert.KernelAIdeal.Gen Idealize.ShloMosaic

set_option maxRecDepth 200000 in
/-- The body's result is the recursion's: both are the same operations in the same order. -/
theorem out_eq (q : Vec Ideal S2048x128 .bf16) (k : Vec Ideal S4096x128 .bf16) (v : Vec Ideal S1x4096x64 .bf16) :
    out0_3 q k v = View.canon [⟨r0_17, Flash64.out q k v⟩] := by
  unfold_out out0_3
  unfold_payloads
  simp only [Flash64.out, Flash64.aArr, Flash.lArr, Flash.mArr, Flash.scores, Flash64.vals, Flash.rows]
  unfold Flash64.fin Flash64.aNext Flash.lNext Flash.mNext Flash.alpha Flash.expo Flash.sc
  dsimp only

end Cert.FlashA

end
-- ==== Proof.Finite.lean ====
/- Finite numbers, and the recursion of `Online` for scores that are finite: eight chunks of 512 keys against the softmax
   over the 4096 keys at once. -/
module

public import proofs.«01_k».proof.Proof.Chunk
public import proofs.«01_k».proof.Proof.Online
public import Idealize.ShloMosaic.Lib.ReduceAll

@[expose] public section

set_option maxRecDepth 16384

noncomputable section

namespace Cert.Finite

open Idealize.ShloMosaic

/-- An extended real that is a real number. -/
def IsReal (x : EReal) : Prop := ∃ r : ℝ, x = r

/-- A comparison of an absolute value with infinity that came out true: the number is real. -/
theorem of_abs_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have h' : max x (-x) < ⊤ := by
    by_contra hn
    simp [Ideal.cmp, hn] at h
  induction x using EReal.rec with
  | bot => simp at h'
  | coe r => exact ⟨r, rfl⟩
  | top => simp at h'

/-- A sum of products of real numbers is a real number. -/
theorem dot {n : ℕ} (f g : Fin n → EReal) (hf : ∀ i, IsReal (f i)) (hg : ∀ i, IsReal (g i)) : IsReal (∑ i, f i * g i) := by
  choose a ha using hf
  choose b hb using hg
  refine ⟨∑ i, a i * b i, ?_⟩
  rw [Online.coe_sum]
  exact Finset.sum_congr rfl fun i _ => by rw [ha, hb, EReal.coe_mul]

/-- The running maximum depends on the chunks before only. -/
theorem mAt_congr {n : ℕ} {x y : ℕ → Fin n → EReal} (C : ℕ) (h : ∀ c < C, x c = y c) : Online.mAt x C = Online.mAt y C := by
  induction C with
  | zero => rfl
  | succ C ih => rw [Online.mAt, Online.mAt, ih fun c hc => h c (by omega), h C (by omega)]

/-- The running weighted sum depends on the chunks before only. -/
theorem aAt_congr {n : ℕ} {x y v w : ℕ → Fin n → EReal} (C : ℕ) (h : ∀ c < C, x c = y c) (h' : ∀ c < C, v c = w c) :
    Online.aAt x v C = Online.aAt y w C := by
  induction C with
  | zero => rfl
  | succ C ih =>
    rw [Online.aAt, Online.aAt, ih (fun c hc => h c (by omega)) (fun c hc => h' c (by omega)), h C (by omega), h' C (by omega),
      mAt_congr C fun c hc => h c (by omega), mAt_congr (C + 1) h]

/-- `Online.online_eq` for scores and values numbered up to `K`, the number of chunks times their length. -/
theorem online_of {n C K : ℕ} (h : C * n = K) (hn : 0 < n) (hC : 0 < C) (r : ℕ → ℝ) (u : ℕ → EReal) (s v : Fin K → EReal)
    (hs : ∀ k : Fin K, s k = r k) (hv : ∀ k : Fin K, v k = u k) :
    Online.aAt (fun c (j : Fin n) => ((r (c * n + j) : ℝ) : EReal)) (fun c j => u (c * n + j)) C
        * Ideal.div 1 (Online.lAt (fun c (j : Fin n) => ((r (c * n + j) : ℝ) : EReal)) C)
      = Online.attend s v := by
  subst h
  rw [Online.online_eq hn hC, funext hs, funext hv]

/-- Eight chunks of 512 keys with finite scores: the recursion's quotient is the softmax-weighted sum over the 4096 keys. -/
theorem online (s v : Fin 4096 → EReal) (hs : ∀ k, IsReal (s k)) (x w : ℕ → Fin 512 → EReal)
    (hx : ∀ c < 8, ∀ j, x c j = s (Flash.key c j)) (hw : ∀ c < 8, ∀ j, w c j = v (Flash.key c j)) :
    Online.aAt x w 8 * Ideal.div 1 (Online.lAt x 8) = Online.attend s v := by
  choose r hr using hs
  have ofNat_val (k : Fin 4096) : Fin.ofNat 4096 k = k := Fin.ext (Nat.mod_eq_of_lt k.2)
  have hx' : ∀ c < 8, x c = fun j : Fin 512 => ((r (Fin.ofNat 4096 (c * 512 + j)) : ℝ) : EReal) :=
    fun c hc => funext fun j => (hx c hc j).trans (hr _)
  have hw' : ∀ c < 8, w c = fun j : Fin 512 => v (Fin.ofNat 4096 (c * 512 + j)) := fun c hc => funext fun j => hw c hc j
  rw [Online.lAt_eq, aAt_congr 8 hx' hw', aAt_congr 8 hx' fun _ _ => rfl, ← Online.lAt_eq]
  exact online_of (by norm_num) (by norm_num) (by norm_num) (fun k => r (Fin.ofNat 4096 k)) (fun k => v (Fin.ofNat 4096 k)) s v
    (fun k => by rw [ofNat_val, hr]) (fun k => by rw [ofNat_val])

end Cert.Finite

end
-- ==== Proof.Block64.lean ====
/- A block of the kernels with 64 value columns a head: for finite queries and keys the stored block is the softmax-weighted sum of the values over the block's 4096 keys. -/
module

public import proofs.«01_k».proof.Proof.Chunk64
public import proofs.«01_k».proof.Proof.Finite

@[expose] public section

noncomputable section

namespace Cert.Flash64

open Cert.KernelAIdeal Cert.KernelAIdeal.Gen Idealize.ShloMosaic

/-- The stored block at a row and a query. -/
theorem out_attend (q : Vec Ideal S2048x128 .bf16) (k : Vec Ideal S4096x128 .bf16) (v : Vec Ideal S1x4096x64 .bf16) (hq : ∀ i, Finite.IsReal (q i))
    (hk : ∀ i, Finite.IsReal (k i)) (d : Fin 64) (i : Fin 2048) :
    out q k v (ix2 d i)
      = Online.attend (fun j : Fin 4096 => ∑ e : Fin 128, k (ix2 j e) * q (ix2 i e)) (fun j : Fin 4096 => v (ix3 0 j d)) := by
  rw [out_at]
  exact Finite.online _ _ (fun j => Finite.dot _ _ (fun _ => hk _) (fun _ => hq _)) _ _ (fun c hc j => Flash.scores_at q k hc j i)
    (fun c hc j => vals_at v hc j d)

end Cert.Flash64

end
-- ==== Proof.SpecA.lean ====
/- What mixer A's attention is, entry by entry: eight query heads of 128, every four of them sharing one of the two key heads and one of the two value heads of 64. Rows of the result are the heads' value columns, columns are
   the sixteen samples' 4096 tokens; a sample's tokens start at row 16384 of the arrays. -/
module

public import proofs.«01_k».proof.Proof.Online
public import Idealize.ShloMosaic.Lib.Pointwise

@[expose] public section

noncomputable section

namespace Cert.SpecA

open Idealize.ShloMosaic

/-- The score of key `j` for result row `a` and token `b`. -/
def score (Q : (⟨2, ![81920, 1024]⟩ : Shape).Idx → EReal) (K : (⟨2, ![81920, 256]⟩ : Shape).Idx → EReal) (a : Fin 512) (b : Fin 65536) (j : Fin 4096) :
    EReal :=
  ∑ d : Fin 128, K (ix2 ⟨16384 + (b / 4096 * 4096 + j), by omega⟩ ⟨a / 256 * 128 + d, by omega⟩) * Q (ix2 ⟨16384 + b, by omega⟩ ⟨a / 64 * 128 + d, by omega⟩)

/-- The value at key `j` for result row `a` and token `b`. -/
def value (V : (⟨3, ![2, 81920, 64]⟩ : Shape).Idx → EReal) (a : Fin 512) (b : Fin 65536) (j : Fin 4096) : EReal :=
  V (ix3 ⟨a / 256, by omega⟩ ⟨16384 + (b / 4096 * 4096 + j), by omega⟩ ⟨a % 64, by omega⟩)

/-- The attention's result. -/
def result (Q : (⟨2, ![81920, 1024]⟩ : Shape).Idx → EReal) (K : (⟨2, ![81920, 256]⟩ : Shape).Idx → EReal) (V : (⟨3, ![2, 81920, 64]⟩ : Shape).Idx → EReal) :
    (⟨2, ![512, 65536]⟩ : Shape).Idx → EReal :=
  fun y => Online.attend (score Q K (y 0) (y 1)) (value V (y 0) (y 1))

end Cert.SpecA

end
-- ==== Proof.ArrayA.lean ====
/- Mixer A's kernel over its grid of samples, heads and halves of a sample's queries: what the blocks of each point are in
   the arrays, and the array the run leaves, `SpecA.result` of the arguments. -/
module

public import proofs.«01_k».proof.Proof.Gen.KernelAIdeal.Value
public import proofs.«01_k».proof.Proof.BodyA
public import proofs.«01_k».proof.Proof.Block64
public import proofs.«01_k».proof.Proof.SpecA
public import Idealize.ShloMosaic.Lib.Pipeline.ValueKit
public import Idealize.ShloMosaic.Lib.Pipeline.Covers

@[expose] public section

set_option maxRecDepth 16384

noncomputable section

namespace Cert.ArrayA

open Cert.KernelAIdeal Cert.KernelAIdeal.Gen Idealize.ShloMosaic

variable (m : (ℓ : Loc nD τ sig) → Buf (Elt Ideal) ℓ) (c : Dev nD)

/-- The block of queries of a point: of sample `t / 16`, half `t % 2`, head `t / 2 % 8`. -/
theorem index0 : ∀ t : Fin grid0.N, win0_0.index t = ![8 + (t.val / 16 * 2 + t.val % 2), t.val / 2 % 8] := by decide +kernel

/-- The block of keys of a point. -/
theorem index1 : ∀ t : Fin grid0.N, win0_1.index t = ![4 + t.val / 16, t.val / 2 % 8 / 4] := by decide +kernel

/-- The block of values of a point. -/
theorem index2 : ∀ t : Fin grid0.N, win0_2.index t = ![t.val / 2 % 8 / 4, 4 + t.val / 16, 0] := by decide +kernel

/-- The block of the result of a point. -/
theorem index3 : ∀ t : Fin grid0.N, win0_3.index t = ![t.val / 2 % 8, t.val / 16 * 2 + t.val % 2] := by decide +kernel

/-- The blocks of the result tile it. -/
theorem covers : win0_3.Covers := by
  decide +kernel

/-- The queries of a point are real numbers where the array's are. -/
theorem real0 (t : Fin cfg0.N) (h : ∀ i, Finite.IsReal (m ((c.tc : Thread nD τ).loc main_arg0) i)) (i : S2048x128.Idx) :
    Finite.IsReal (iblk m c 0 t i) := h _

/-- The keys of a point are real numbers where the array's are. -/
theorem real1 (t : Fin cfg0.N) (h : ∀ i, Finite.IsReal (m ((c.tc : Thread nD τ).loc main_arg1) i)) (i : S4096x128.Idx) :
    Finite.IsReal (iblk m c 1 t i) := h _

/-- What a point stores, at an entry of its block: the result's entry at the block's place. -/
theorem point (t : Fin cfg0.N) (hq : ∀ i, Finite.IsReal (m ((c.tc : Thread nD τ).loc main_arg0) i))
    (hk : ∀ i, Finite.IsReal (m ((c.tc : Thread nD τ).loc main_arg1) i)) (d : Fin 64) (i : Fin 2048) :
    Flash64.out (iblk m c 0 t) (iblk m c 1 t) (iblk m c 2 t) (ix2 d i)
      = SpecA.result (m ((c.tc : Thread nD τ).loc main_arg0)) (m ((c.tc : Thread nD τ).loc main_arg1)) (m ((c.tc : Thread nD τ).loc main_arg2))
          (((cfg0.win 3).blk t).view.emb (ix2 d i)) := by
  have ht : t.val < 256 := t.2
  have he : ((cfg0.win 3).blk t).view.emb (ix2 d i)
      = ix2 (⟨t.val / 2 % 8 * 64 + d, by omega⟩ : Fin 512) (⟨(t.val / 16 * 2 + t.val % 2) * 2048 + i, by omega⟩ : Fin 65536) := by
    blk_ext [index3 t]
  rw [he, Flash64.out_attend _ _ _ (real0 m c t hq) (real1 m c t hk), SpecA.result]
  refine congrArg₂ Online.attend (funext fun j => ?_) (funext fun j => ?_)
  · unfold SpecA.score
    refine Finset.sum_congr rfl fun e _ => congrArg₂ (· * ·) ?_ ?_
    · blk_ext [iblk, V, index1 t]
    · blk_ext [iblk, V, index0 t]
  · unfold SpecA.value
    blk_ext [iblk, V, index2 t]

/-- The array the run leaves. -/
theorem arr_eq (hq : ∀ i, Finite.IsReal (m ((c.tc : Thread nD τ).loc main_arg0) i)) (hk : ∀ i, Finite.IsReal (m ((c.tc : Thread nD τ).loc main_arg1) i)) :
    (dats m 0 c).arrAt 3 cfg0.N
      = SpecA.result (m ((c.tc : Thread nD τ).loc main_arg0)) (m ((c.tc : Thread nD τ).loc main_arg1)) (m ((c.tc : Thread nD τ).loc main_arg2)) := by
  refine (dats m 0 c).arrAt_eq_of_covers 3 _ covers fun t hf y => ?_
  blk_simp
  rw [after0_3, FlashA.out_eq]
  frame_out
  obtain ⟨d, i, rfl⟩ : ∃ (d : Fin 64) (i : Fin 2048), y = ix2 d i := ⟨y 0, y 1, eq_ix2 y⟩
  exact point m c t hq hk d i

end Cert.ArrayA

end
-- ==== Proof.RefA.lean ====
/- The reference of mixer A, step by step (scores, their maxima, exponentials, sums, weights, weighted sums of the values),
   each step at an entry; its result is `SpecA.result` of the three arguments. -/
module

public import proofs.«01_k».proof.Proof.Gen.ReferenceAIdeal.Run
public import proofs.«01_k».proof.Proof.SpecA
public import Idealize.ShloMosaic.Lib.Pointwise

@[expose] public section

set_option maxRecDepth 16384

noncomputable section

namespace Cert.RefA

open Cert.ReferenceAIdeal Cert.ReferenceAIdeal.Gen Idealize.ShloMosaic

/-- The scores times the logarithm of two. -/
def logits (q : FVec Ideal S81920x1024 .bf16) (k : FVec Ideal S81920x256 .bf16) : FVec Ideal S16x2x4x4096x4096 .f32 :=
  mulf (transpose S16x2x4x4096x4096 [0, 1, 4, 3, 2]
    (Host.dotGeneral dot_S16x4096x2x128_S16x4096x2x4x128_S16x2x4096x4096x4_3_4_1_13_02_02 none
      (shapeCast S16x4096x2x128 (extf .f32 (extractStridedSlice S65536x256 ![16384, 0] k slices_S81920x256_S65536x256_16384_0) bitsLt_bf16_f32) shapeCasts_S65536x256_S16x4096x2x128)
      (shapeCast S16x4096x2x4x128 (extf .f32 (extractStridedSlice S65536x1024 ![16384, 0] q slices_S81920x1024_S65536x1024_16384_0) bitsLt_bf16_f32) shapeCasts_S65536x1024_S16x4096x2x4x128))
    transposes_S16x2x4096x4096x4_S16x2x4x4096x4096_0_1_4_3_2)
    (broadcastInDim S16x2x4x4096x4096 ![] bcast_S_S16x2x4x4096x4096 (Host.log (constant S_ .f32 0x40000000#32)))

/-- The largest of each row of scores. -/
def rowMax (l : FVec Ideal S16x2x4x4096x4096 .f32) : FVec Ideal S16x2x4x4096 .f32 :=
  Host.reduce FloatOps.maximumf l (constant S_ .f32 0xFF800000#32) reducesTo_S16x2x4x4096x4096_S16x2x4x4096_d4 h_S_

/-- The same, taken with minus infinity once more. -/
def maxes (x : FVec Ideal S16x2x4x4096 .f32) : FVec Ideal S16x2x4x4096 .f32 :=
  maximumf (broadcastInDim S16x2x4x4096 ![] bcast_S_S16x2x4x4096 (constant S_ .f32 0xFF800000#32)) x

/-- One number for each row, laid along the rows. -/
def spread (x : FVec Ideal S16x2x4x4096 .f32) : FVec Ideal S16x2x4x4096x4096 .f32 :=
  broadcastInDim S16x2x4x4096x4096 ![0, 1, 2, 3, 4] bcast_S16x2x4x4096x1_S16x2x4x4096x4096_0_1_2_3_4 (broadcastInDim S16x2x4x4096x1 ![0, 1, 2, 3] bcast_S16x2x4x4096_S16x2x4x4096x1_0_1_2_3 x)

/-- The exponentials of the scores less their maxima. -/
def expos (l : FVec Ideal S16x2x4x4096x4096 .f32) (x : FVec Ideal S16x2x4x4096 .f32) : FVec Ideal S16x2x4x4096x4096 .f32 := Host.exp (subf l (spread x))

/-- The sums of a row of exponentials. -/
def sums (e : FVec Ideal S16x2x4x4096x4096 .f32) : FVec Ideal S16x2x4x4096 .f32 := Host.reduceAdd e (constant S_ .f32 0x00000000#32) reducesTo_S16x2x4x4096x4096_S16x2x4x4096_d4 h_S_

/-- The weights. -/
def weights (e : FVec Ideal S16x2x4x4096x4096 .f32) (z : FVec Ideal S16x2x4x4096 .f32) : FVec Ideal S16x2x4x4096x4096 .f32 := Host.divf e (spread z)

/-- The weighted sums of the values. -/
def mix (v : FVec Ideal S2x81920x64 .bf16) (w : FVec Ideal S16x2x4x4096x4096 .f32) : FVec Ideal S512x65536 .bf16 :=
  truncf .bf16 (shapeCast S512x65536 (transpose S2x4x64x16x4096 [0, 3, 2, 1, 4]
    (Host.dotGeneral dot_S2x16x4096x64_S16x2x4x4096x4096_S2x16x64x4x4096_2_4_3_23_01_10 none
      (shapeCast S2x16x4096x64 (extf .f32 (extractStridedSlice S2x65536x64 ![0, 16384, 0] v slices_S2x81920x64_S2x65536x64_0_16384_0) bitsLt_bf16_f32) shapeCasts_S2x65536x64_S2x16x4096x64) w)
    transposes_S2x16x64x4x4096_S2x4x64x16x4096_0_3_2_1_4) shapeCasts_S2x4x64x16x4096_S512x65536) bitsLt_bf16_f32

/-- The softmax of the scores. -/
def softmax (l : FVec Ideal S16x2x4x4096x4096 .f32) : FVec Ideal S16x2x4x4096x4096 .f32 :=
  weights (expos l (maxes (rowMax l))) (sums (expos l (maxes (rowMax l))))

/-- The reference's result. -/
def out (q : FVec Ideal S81920x1024 .bf16) (k : FVec Ideal S81920x256 .bf16) (v : FVec Ideal S2x81920x64 .bf16) : FVec Ideal S512x65536 .bf16 :=
  mix v (softmax (logits q k))

/-- The logarithm of two. -/
theorem log_two : Ideal.log (Ideal.ofBits .f32 0x40000000#32) = (Real.log 2 : ℝ) := by
  have e : Ideal.ofBits .f32 0x40000000#32 = ((2 : ℝ) : EReal) := by
    simp [Ideal.ofBits, Ideal.ieee, -EReal.coe_mul]; try norm_num
  rw [e, Ideal.log_coe, if_neg (by norm_num)]

/-- The bits of minus infinity. -/
theorem ofBits_bot : Ideal.ofBits .f32 0xFF800000#32 = ⊥ := by simp [Ideal.ofBits, Ideal.ieee]

/-- The scores at an entry of the result's row and column. -/
theorem logits_at (q : FVec Ideal S81920x1024 .bf16) (k : FVec Ideal S81920x256 .bf16) (a : Fin 512) (b : Fin 65536) (j : Fin 4096) :
    logits q k (ix5 ⟨b / 4096, by omega⟩ ⟨a / 256, by omega⟩ ⟨a / 64 % 4, by omega⟩ ⟨b % 4096, by omega⟩ j) = SpecA.score q k a b j * (Real.log 2 : ℝ) := by
  unfold logits
  pointwise
  rw [log_two, SpecA.score]
  refine congrArg (· * ((Real.log 2 : ℝ) : EReal)) (Finset.sum_congr rfl fun d _ => ?_)
  refine congrArg₂ (· * ·) (congrArg k ?_) (congrArg q ?_) <;> congr 1 <;> apply Fin.ext <;> simp only <;> omega

/-- The largest score of a row. -/
theorem rowMax_at (l : FVec Ideal S16x2x4x4096x4096 .f32) (n : Fin 16) (h : Fin 2) (g : Fin 4) (s : Fin 4096) :
    rowMax l (ix4 n h g s) = Online.top fun j : Fin 4096 => l (ix5 n h g s j) := by
  unfold rowMax Online.top
  rw [← ofBits_bot]
  pointwise

/-- Minus infinity changes no maximum. -/
theorem maxes_eq (x : FVec Ideal S16x2x4x4096 .f32) : maxes x = x := by
  funext i
  show max (Ideal.ofBits .f32 0xFF800000#32) (x i) = x i
  rw [ofBits_bot]
  exact max_eq_right bot_le

/-- A row's number at an entry of the row. -/
theorem spread_at (x : FVec Ideal S16x2x4x4096 .f32) (n : Fin 16) (h : Fin 2) (g : Fin 4) (s : Fin 4096) (j : Fin 4096) : spread x (ix5 n h g s j) = x (ix4 n h g s) := by
  unfold spread
  pointwise

/-- An exponential. -/
theorem expos_at (l : FVec Ideal S16x2x4x4096x4096 .f32) (x : FVec Ideal S16x2x4x4096 .f32) (n : Fin 16) (h : Fin 2) (g : Fin 4) (s : Fin 4096) (j : Fin 4096) :
    expos l x (ix5 n h g s j) = Ideal.exp (l (ix5 n h g s j) - x (ix4 n h g s)) := by
  rw [← spread_at x n h g s j]
  rfl

/-- A sum of exponentials. -/
theorem sums_at (e : FVec Ideal S16x2x4x4096x4096 .f32) (n : Fin 16) (h : Fin 2) (g : Fin 4) (s : Fin 4096) : sums e (ix4 n h g s) = ∑ j : Fin 4096, e (ix5 n h g s j) := by
  unfold sums
  pointwise

/-- A weight. -/
theorem weights_at (e : FVec Ideal S16x2x4x4096x4096 .f32) (z : FVec Ideal S16x2x4x4096 .f32) (n : Fin 16) (h : Fin 2) (g : Fin 4) (s : Fin 4096) (j : Fin 4096) :
    weights e z (ix5 n h g s j) = Ideal.div (e (ix5 n h g s j)) (z (ix4 n h g s)) := by
  rw [← spread_at z n h g s j]
  rfl

/-- The softmax at an entry. -/
theorem softmax_at (l : FVec Ideal S16x2x4x4096x4096 .f32) (n : Fin 16) (h : Fin 2) (g : Fin 4) (s : Fin 4096) (j : Fin 4096) :
    softmax l (ix5 n h g s j)
      = Ideal.div (Ideal.exp (l (ix5 n h g s j) - Online.top fun j' => l (ix5 n h g s j')))
          (∑ j', Ideal.exp (l (ix5 n h g s j') - Online.top fun j'' => l (ix5 n h g s j''))) := by
  rw [softmax, weights_at, sums_at, maxes_eq]
  simp only [expos_at, rowMax_at]

/-- The weighted sum of the values at a row and a column of the result. -/
theorem mix_at (v : FVec Ideal S2x81920x64 .bf16) (w : FVec Ideal S16x2x4x4096x4096 .f32) (a : Fin 512) (b : Fin 65536) :
    mix v w (ix2 a b) = ∑ j : Fin 4096, SpecA.value v a b j * w (ix5 ⟨b / 4096, by omega⟩ ⟨a / 256, by omega⟩ ⟨a / 64 % 4, by omega⟩ ⟨b % 4096, by omega⟩ j) := by
  unfold mix SpecA.value
  pointwise

/-- The reference's result. -/
theorem out_eq (q : FVec Ideal S81920x1024 .bf16) (k : FVec Ideal S81920x256 .bf16) (v : FVec Ideal S2x81920x64 .bf16) : out q k v = SpecA.result q k v := by
  funext y
  obtain ⟨a, b, rfl⟩ : ∃ (a : Fin 512) (b : Fin 65536), y = ix2 a b := ⟨y 0, y 1, eq_ix2 y⟩
  show mix v (softmax (logits q k)) (ix2 a b) = Online.attend (SpecA.score q k a b) (SpecA.value v a b)
  rw [mix_at, Online.attend]
  simp only [softmax_at, logits_at]

end Cert.RefA

end
-- ==== Proof.PreA.lean ====
/- What mixer A's precondition says: every query and every key is a real number. -/
module

public import proofs.«01_k».proof.Proof.Gen.Pre_finite_a
public import proofs.«01_k».proof.Proof.Finite

@[expose] public section

noncomputable section

namespace Cert.PreA

open Cert.Pre_finite_a Cert.Pre_finite_a.Gen Idealize.ShloMosaic

/-- Queries and keys that meet the precondition are real numbers. -/
theorem real (q : FVec Ideal S81920x1024 .bf16) (k : FVec Ideal S81920x256 .bf16) (v : FVec Ideal S2x81920x64 .bf16) (h : fn (F := Ideal) q k v = fun _ => 1#1) :
    (∀ i, Finite.IsReal (q i)) ∧ ∀ i, Finite.IsReal (k i) := by
  have h0 := congrFun h ix0
  unfold fn at h0
  obtain ⟨hq, hk⟩ := IntOp.andi_eq_one.1 h0
  exact ⟨fun i => Finite.of_abs_lt (Host.reduce_andi_all _ _ _ _ _ hq i), fun i => Finite.of_abs_lt (Host.reduce_andi_all _ _ _ _ _ hk i)⟩

end Cert.PreA

end
-- ==== Proof.ClaimA.lean ====
/- Mixer A: the claims of its kernel and of its reference, assembled. -/
module

public import proofs.«01_k».proof.Defs
public import proofs.«01_k».proof.Proof.Gen.KernelA.Frame
public import proofs.«01_k».proof.Proof.ArrayA
public import proofs.«01_k».proof.Proof.RefA
public import proofs.«01_k».proof.Proof.PreA
public import Idealize.ShloMosaic.Lib.QuiescentFlight

@[expose] public section

set_option maxRecDepth 16384

noncomputable section

namespace Cert.ClaimA

open Idealize.ShloMosaic Idealize.ShloMosaic.TcCoe Idealize.SL.Sem

local instance : Cert.KernelA.Facts := Cert.KernelA.Gen.facts
local instance : Cert.KernelAIdeal.Facts := Cert.KernelAIdeal.Gen.facts
local instance : Cert.ReferenceAIdeal.Facts := Cert.ReferenceAIdeal.Gen.facts
local instance : Cert.Pre_finite_a.Facts := Cert.Pre_finite_a.Gen.facts

/-- The kernel runs, leaves its arguments alone and ends quiet. -/
theorem kernel : quiescent_KernelA := fun m ρ _ => Cert.KernelA.Gen.frame m ρ

/-- So does it over the extended reals. -/
theorem kernelIdeal : quiescent_KernelAIdeal := fun m ρ _ => Cert.KernelAIdeal.Gen.frame m ρ

/-- So does it from finite queries and keys. -/
theorem kernelIdeal_pre : quiescent_KernelAIdeal_pre_finite_a := fun m ρ _ => Cert.KernelAIdeal.Gen.frame m ρ

/-- A run of the reference: its result is `SpecA.result` of its arguments, which it leaves alone. -/
theorem reference_run (m : (ℓ : Loc Cert.ReferenceAIdeal.nD Cert.ReferenceAIdeal.τ Cert.ReferenceAIdeal.sig) → Buf (Elt Ideal) ℓ)
    (ρ : Dev Cert.ReferenceAIdeal.nD → PrngReg) :
    θ_run Cert.ReferenceAIdeal.defs (onTc (τ := Cert.ReferenceAIdeal.τ) (Cert.ReferenceAIdeal.main (F := Ideal))) ⟨m, fun _ => 0, ρ⟩
      fun r => ∀ c : Dev Cert.ReferenceAIdeal.nD,
        r.2.mem ((c.tc : Thread _ _).loc Cert.ReferenceAIdeal.main_v28)
            = SpecA.result (m ((c.tc : Thread _ _).loc Cert.ReferenceAIdeal.main_arg0)) (m ((c.tc : Thread _ _).loc Cert.ReferenceAIdeal.main_arg1))
                (m ((c.tc : Thread _ _).loc Cert.ReferenceAIdeal.main_arg2))
        ∧ r.2.mem ((c.tc : Thread _ _).loc Cert.ReferenceAIdeal.main_arg0) = m ((c.tc : Thread _ _).loc Cert.ReferenceAIdeal.main_arg0)
        ∧ r.2.mem ((c.tc : Thread _ _).loc Cert.ReferenceAIdeal.main_arg1) = m ((c.tc : Thread _ _).loc Cert.ReferenceAIdeal.main_arg1)
        ∧ r.2.mem ((c.tc : Thread _ _).loc Cert.ReferenceAIdeal.main_arg2) = m ((c.tc : Thread _ _).loc Cert.ReferenceAIdeal.main_arg2) :=
  (θ_run Cert.ReferenceAIdeal.defs _ _).mono
    (fun _ h c => ⟨(h c).1.trans (RefA.out_eq (m ((c.tc : Thread _ _).loc Cert.ReferenceAIdeal.main_arg0)) (m ((c.tc : Thread _ _).loc Cert.ReferenceAIdeal.main_arg1)) (m ((c.tc : Thread _ _).loc Cert.ReferenceAIdeal.main_arg2))), (h c).2⟩)
    (Cert.ReferenceAIdeal.Value.run (F := Ideal) m ρ)

/-- The reference runs, leaves its arguments alone and ends quiet. -/
theorem reference : quiescent_ReferenceAIdeal := fun m ρ _ =>
  (θ_run Cert.ReferenceAIdeal.defs _ _).mono (fun r h => ⟨fun c => (h c).2, sem_eq_zero_of_no_sems (by decide) r.2⟩) (reference_run m ρ)

/-- So does it from finite queries and keys. -/
theorem reference_pre : quiescent_ReferenceAIdeal_pre_finite_a := fun m ρ _ =>
  (θ_run Cert.ReferenceAIdeal.defs _ _).mono (fun r h => ⟨fun c => (h c).2, sem_eq_zero_of_no_sems (by decide) r.2⟩) (reference_run m ρ)

/-- The kernel was read over the extended reals as it is written: no operation was replaced. -/
theorem preserves : preserves_KernelA_KernelAIdeal := trivial

/-- From the same arguments, the queries and keys finite, kernel and reference end with the same result. -/
theorem algebraic : algebraic_KernelAIdeal_ReferenceAIdeal_pre_finite_a := by
  intro m ρ m' ρ' hpre hagree
  refine ⟨_, Cert.KernelAIdeal.Value.run_blocks m ρ, ?_⟩
  refine (θ_run Cert.ReferenceAIdeal.defs _ _).mono (fun _ h c => ⟨(h c).1.trans ?_, (h c).2⟩) (reference_run m' ρ')
  obtain ⟨hq, hk⟩ := PreA.real _ _ _ (hpre c)
  rw [ArrayA.arr_eq m c hq hk, (hagree c).1, (hagree c).2.1, (hagree c).2.2]

end Cert.ClaimA

end
-- ==== Proof.Chunk128.lean ====
/- The running weighted sums of the values, 128 rows of them, and the block the attention kernel stores of them: at a row and a
   query the quotient of the recursion of `Online`. -/
module

public import proofs.«01_k».proof.Proof.Gen.KernelBIdeal.Frame
public import proofs.«01_k».proof.Proof.Chunk

@[expose] public section

set_option maxRecDepth 16384

noncomputable section

namespace Cert.Flash128

open Cert.KernelBIdeal Cert.KernelBIdeal.Gen Idealize.ShloMosaic
open Cert.Flash (mArr lArr alpha expo scores)

/-- The values of the eight chunks of a block of 4096 keys: cut like the keys. -/
abbrev vals (v : Vec Ideal S4096x128 .bf16) : ℕ → Vec Ideal S512x128 .bf16 := Flash.rows v

/-- A chunk's values are the block's values of the chunk's keys. -/
theorem vals_at (v : Vec Ideal S4096x128 .bf16) {c : ℕ} (hc : c < 8) (j : Fin 512) (d : Fin 128) :
    vals v c (ix2 j d) = v (ix2 (Flash.key c j) d) := Flash.rows_at v hc j d

/-- The weighted sums after a chunk of values `v`: the sums before, rescaled, and the chunk's, with weights `p`. -/
def aNext (α : FVec Ideal S1x2048 .f32) (a : FVec Ideal S128x2048 .f32) (p : FVec Ideal S512x2048 .f32) (v : Vec Ideal S512x128 .bf16) :
    FVec Ideal S128x2048 .f32 :=
  addf (mulf (broadcastTo S128x2048 α broadcasts_S1x2048_S128x2048) a)
    (matmul (φ₁ := .bf16) (φ₂ := .bf16) dot_S512x128_S512x2048_S128x2048_0_0_1_1_n_n none v
      (truncf .bf16 p bitsLt_bf16_f32) (constant S128x2048 .f32 0x00000000#32))

/-- The weighted sums before chunk `c`. -/
def aArr (s : ℕ → FVec Ideal S512x2048 .f32) (v : ℕ → Vec Ideal S512x128 .bf16) : ℕ → FVec Ideal S128x2048 .f32
  | 0 => broadcast S128x2048 (Scalar.ofBits (F := Ideal) .f32 0x00000000#32)
  | c + 1 => aNext (alpha (mArr s c) (mArr s (c + 1))) (aArr s v c) (expo (s c) (mArr s (c + 1))) (v c)

/-- What is stored: the weighted sums times the reciprocals of the sums of exponentials. -/
def fin (a : FVec Ideal S128x2048 .f32) (l : FVec Ideal S1x2048 .f32) : FVec Ideal S128x2048 .f32 :=
  mulf a (broadcastTo S128x2048 (divf (broadcast S1x2048 (Scalar.ofBits (F := Ideal) .f32 0x3F800000#32)) l) broadcasts_S1x2048_S128x2048)

/-- The block stored for a block of queries, of keys and of values. -/
def out (q : Vec Ideal S2048x128 .bf16) (k : Vec Ideal S4096x128 .bf16) (v : Vec Ideal S4096x128 .bf16) : FVec Ideal S128x2048 .f32 :=
  fin (aArr (scores q k) (vals v) 8) (lArr (scores q k) 8)

/-- The weighted sum after a chunk, at a row and a query. -/
theorem aNext_at (α : FVec Ideal S1x2048 .f32) (a : FVec Ideal S128x2048 .f32) (p : FVec Ideal S512x2048 .f32) (v : Vec Ideal S512x128 .bf16)
    (d : Fin 128) (i : Fin 2048) :
    aNext α a p v (ix2 d i) = α (ix2 0 i) * a (ix2 d i) + ∑ j : Fin 512, v (ix2 j d) * p (ix2 j i) := by
  unfold aNext
  pointwise

/-- The weighted sums are the recursion's. -/
theorem aArr_at (s : ℕ → FVec Ideal S512x2048 .f32) (v : ℕ → Vec Ideal S512x128 .bf16) (d : Fin 128) (i : Fin 2048) (c : ℕ) :
    aArr s v c (ix2 d i) = Online.aAt (fun c j => s c (ix2 j i)) (fun c j => v c (ix2 j d)) c := by
  induction c with
  | zero => exact Flash.ofBits_zero
  | succ c ih =>
    rw [aArr, aNext_at, Flash.alpha_at, ih, Flash.mArr_at, Flash.mArr_at, Online.aAt]
    simp only [Flash.expo_at, Flash.mArr_at]

/-- What is stored, at a row and a query. -/
theorem fin_at (a : FVec Ideal S128x2048 .f32) (l : FVec Ideal S1x2048 .f32) (d : Fin 128) (i : Fin 2048) :
    fin a l (ix2 d i) = a (ix2 d i) * Ideal.div 1 (l (ix2 0 i)) := by
  unfold fin
  rw [← Flash.ofBits_one]
  pointwise

/-- The stored block, at a row and a query: the recursion's quotient over the eight chunks. -/
theorem out_at (q : Vec Ideal S2048x128 .bf16) (k : Vec Ideal S4096x128 .bf16) (v : Vec Ideal S4096x128 .bf16) (d : Fin 128) (i : Fin 2048) :
    out q k v (ix2 d i)
      = Online.aAt (fun c j => scores q k c (ix2 j i)) (fun c j => vals v c (ix2 j d)) 8
        * Ideal.div 1 (Online.lAt (fun c j => scores q k c (ix2 j i)) 8) := by
  rw [out, fin_at, aArr_at, Flash.lArr_at]

end Cert.Flash128

end
-- ==== Proof.BodyB.lean ====
/- What the kernel of mixer B's attention stores of one block is the eight chunks' recursion over arrays, written out. -/
module

public import proofs.«01_k».proof.Proof.Gen.KernelBIdeal.Frame
public import proofs.«01_k».proof.Proof.Chunk128

@[expose] public section

set_option maxRecDepth 16384

noncomputable section

namespace Cert.FlashB

open Cert.KernelBIdeal Cert.KernelBIdeal.Gen Idealize.ShloMosaic

set_option maxRecDepth 200000 in
/-- The body's result is the recursion's: both are the same operations in the same order. -/
theorem out_eq (q : Vec Ideal S2048x128 .bf16) (k : Vec Ideal S4096x128 .bf16) (v : Vec Ideal S4096x128 .bf16) :
    out0_3 q k v = View.canon [⟨r0_9, Flash128.out q k v⟩] := by
  unfold_out out0_3
  unfold_payloads
  simp only [Flash128.out, Flash128.aArr, Flash.lArr, Flash.mArr, Flash.scores, Flash128.vals, Flash.rows]
  unfold Flash128.fin Flash128.aNext Flash.lNext Flash.mNext Flash.alpha Flash.expo Flash.sc
  dsimp only
  rfl

end Cert.FlashB

end
-- ==== Proof.Block128.lean ====
/- A block of the kernel with 128 value columns a head: for finite queries and keys the stored block is the softmax-weighted sum of the values over the block's 4096 keys. -/
module

public import proofs.«01_k».proof.Proof.Chunk128
public import proofs.«01_k».proof.Proof.Finite

@[expose] public section

noncomputable section

namespace Cert.Flash128

open Cert.KernelBIdeal Cert.KernelBIdeal.Gen Idealize.ShloMosaic

/-- The stored block at a row and a query. -/
theorem out_attend (q : Vec Ideal S2048x128 .bf16) (k : Vec Ideal S4096x128 .bf16) (v : Vec Ideal S4096x128 .bf16) (hq : ∀ i, Finite.IsReal (q i))
    (hk : ∀ i, Finite.IsReal (k i)) (d : Fin 128) (i : Fin 2048) :
    out q k v (ix2 d i)
      = Online.attend (fun j : Fin 4096 => ∑ e : Fin 128, k (ix2 j e) * q (ix2 i e)) (fun j : Fin 4096 => v (ix2 j d)) := by
  rw [out_at]
  exact Finite.online _ _ (fun j => Finite.dot _ _ (fun _ => hk _) (fun _ => hq _)) _ _ (fun c hc j => Flash.scores_at q k hc j i)
    (fun c hc j => vals_at v hc j d)

end Cert.Flash128

end
-- ==== Proof.SpecB.lean ====
/- What mixer B's attention is, entry by entry: eight query heads of 128, every two of them (the two scores that are later subtracted) sharing one of the four key heads and one of the four value heads of 128. Rows of the result are the heads' value columns, columns are
   the sixteen samples' 4096 tokens; a sample's tokens start at row 16384 of the arrays. -/
module

public import proofs.«01_k».proof.Proof.Online
public import Idealize.ShloMosaic.Lib.Pointwise

@[expose] public section

noncomputable section

namespace Cert.SpecB

open Idealize.ShloMosaic

/-- The score of key `j` for result row `a` and token `b`. -/
def score (Q : (⟨2, ![81920, 1024]⟩ : Shape).Idx → EReal) (K : (⟨2, ![81920, 512]⟩ : Shape).Idx → EReal) (a : Fin 1024) (b : Fin 65536) (j : Fin 4096) :
    EReal :=
  ∑ d : Fin 128, K (ix2 ⟨16384 + (b / 4096 * 4096 + j), by omega⟩ ⟨a / 256 * 128 + d, by omega⟩) * Q (ix2 ⟨16384 + b, by omega⟩ ⟨a / 128 * 128 + d, by omega⟩)

/-- The value at key `j` for result row `a` and token `b`. -/
def value (V : (⟨2, ![81920, 512]⟩ : Shape).Idx → EReal) (a : Fin 1024) (b : Fin 65536) (j : Fin 4096) : EReal :=
  V (ix2 ⟨16384 + (b / 4096 * 4096 + j), by omega⟩ ⟨a / 256 * 128 + a % 128, by omega⟩)

/-- The attention's result. -/
def result (Q : (⟨2, ![81920, 1024]⟩ : Shape).Idx → EReal) (K : (⟨2, ![81920, 512]⟩ : Shape).Idx → EReal) (V : (⟨2, ![81920, 512]⟩ : Shape).Idx → EReal) :
    (⟨2, ![1024, 65536]⟩ : Shape).Idx → EReal :=
  fun y => Online.attend (score Q K (y 0) (y 1)) (value V (y 0) (y 1))

end Cert.SpecB

end
-- ==== Proof.ArrayB.lean ====
/- Mixer B's kernel over its grid of samples, heads and halves of a sample's queries: what the blocks of each point are in
   the arrays, and the array the run leaves, `SpecB.result` of the arguments. -/
module

public import proofs.«01_k».proof.Proof.Gen.KernelBIdeal.Frame
public import proofs.«01_k».proof.Proof.BodyB
public import proofs.«01_k».proof.Proof.Block128
public import proofs.«01_k».proof.Proof.SpecB
public import Idealize.ShloMosaic.Lib.Pipeline.ValueKit
public import Idealize.ShloMosaic.Lib.Pipeline.Covers
public import Idealize.ShloMosaic.Lib.Pipeline.Value

@[expose] public section

set_option maxRecDepth 16384

noncomputable section

namespace Cert.ArrayB

open Cert.KernelBIdeal Cert.KernelBIdeal.Gen Idealize.ShloMosaic Idealize.ShloMosaic.TcCoe Idealize.SL.Sem

variable (m : (ℓ : Loc nD τ sig) → Buf (Elt Ideal) ℓ) (c : Dev nD)

/-- The block of queries of a point: of sample `t / 16`, half `t % 2`, head `t / 2 % 8`. -/
theorem index0 : ∀ t : Fin grid0.N, win0_0.index t = ![8 + (t.val / 16 * 2 + t.val % 2), t.val / 2 % 8] := by decide +kernel

/-- The block of keys of a point. -/
theorem index1 : ∀ t : Fin grid0.N, win0_1.index t = ![4 + t.val / 16, t.val / 2 % 8 / 2] := by decide +kernel

/-- The block of values of a point. -/
theorem index2 : ∀ t : Fin grid0.N, win0_2.index t = ![4 + t.val / 16, t.val / 2 % 8 / 2] := by decide +kernel

/-- The block of the result of a point. -/
theorem index3 : ∀ t : Fin grid0.N, win0_3.index t = ![t.val / 2 % 8, t.val / 16 * 2 + t.val % 2] := by decide +kernel

/-- The blocks of the result tile it. -/
theorem covers : win0_3.Covers := by
  decide +kernel

/-- The queries of a point are real numbers where the array's are. -/
theorem real0 (t : Fin cfg0.N) (h : ∀ i, Finite.IsReal (m ((c.tc : Thread nD τ).loc main_arg0) i)) (i : S2048x128.Idx) :
    Finite.IsReal (iblk m c 0 t i) := h _

/-- The keys of a point are real numbers where the array's are. -/
theorem real1 (t : Fin cfg0.N) (h : ∀ i, Finite.IsReal (m ((c.tc : Thread nD τ).loc main_arg1) i)) (i : S4096x128.Idx) :
    Finite.IsReal (iblk m c 1 t i) := h _

/-- What a point stores, at an entry of its block: the result's entry at the block's place. -/
theorem point (t : Fin cfg0.N) (hq : ∀ i, Finite.IsReal (m ((c.tc : Thread nD τ).loc main_arg0) i))
    (hk : ∀ i, Finite.IsReal (m ((c.tc : Thread nD τ).loc main_arg1) i)) (d : Fin 128) (i : Fin 2048) :
    Flash128.out (iblk m c 0 t) (iblk m c 1 t) (iblk m c 2 t) (ix2 d i)
      = SpecB.result (m ((c.tc : Thread nD τ).loc main_arg0)) (m ((c.tc : Thread nD τ).loc main_arg1)) (m ((c.tc : Thread nD τ).loc main_arg2))
          (((cfg0.win 3).blk t).view.emb (ix2 d i)) := by
  have ht : t.val < 256 := t.2
  have he : ((cfg0.win 3).blk t).view.emb (ix2 d i)
      = ix2 (⟨t.val / 2 % 8 * 128 + d, by omega⟩ : Fin 1024) (⟨(t.val / 16 * 2 + t.val % 2) * 2048 + i, by omega⟩ : Fin 65536) := by
    blk_ext [index3 t]
  rw [he, Flash128.out_attend _ _ _ (real0 m c t hq) (real1 m c t hk), SpecB.result]
  refine congrArg₂ Online.attend (funext fun j => ?_) (funext fun j => ?_)
  · unfold SpecB.score
    refine Finset.sum_congr rfl fun e _ => congrArg₂ (· * ·) ?_ ?_
    · blk_ext [iblk, V, index1 t]
    · blk_ext [iblk, V, index0 t]
  · unfold SpecB.value
    blk_ext [iblk, V, index2 t]

/-- The array the run leaves. -/
theorem arr_eq (hq : ∀ i, Finite.IsReal (m ((c.tc : Thread nD τ).loc main_arg0) i)) (hk : ∀ i, Finite.IsReal (m ((c.tc : Thread nD τ).loc main_arg1) i)) :
    (dats m 0 c).arrAt 3 cfg0.N
      = SpecB.result (m ((c.tc : Thread nD τ).loc main_arg0)) (m ((c.tc : Thread nD τ).loc main_arg1)) (m ((c.tc : Thread nD τ).loc main_arg2)) := by
  refine (dats m 0 c).arrAt_eq_of_covers 3 _ covers fun t hf y => ?_
  blk_simp
  rw [after0_3, FlashB.out_eq]
  frame_out
  obtain ⟨d, i, rfl⟩ : ∃ (d : Fin 128) (i : Fin 2048), y = ix2 d i := ⟨y 0, y 1, eq_ix2 y⟩
  exact point m c t hq hk d i

/-- A run leaves that array for its result, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1 3, ?_, ?_, ?_⟩) (run_main m ρ)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.ArrayB

end
-- ==== Proof.RefB.lean ====
/- The reference of mixer B, step by step (scores, their maxima, exponentials, sums, weights, weighted sums of the values),
   each step at an entry; its result is `SpecB.result` of the three arguments. -/
module

public import proofs.«01_k».proof.Proof.Gen.ReferenceBIdeal.Run
public import proofs.«01_k».proof.Proof.SpecB
public import Idealize.ShloMosaic.Lib.Pointwise

@[expose] public section

set_option maxRecDepth 16384

noncomputable section

namespace Cert.RefB

open Cert.ReferenceBIdeal Cert.ReferenceBIdeal.Gen Idealize.ShloMosaic

/-- The scores times the logarithm of two. -/
def logits (q : FVec Ideal S81920x1024 .bf16) (k : FVec Ideal S81920x512 .bf16) : FVec Ideal S16x4x2x4096x4096 .f32 :=
  mulf (transpose S16x4x2x4096x4096 [0, 1, 4, 3, 2]
    (Host.dotGeneral dot_S16x4096x4x128_S16x4096x4x2x128_S16x4x4096x4096x2_3_4_1_13_02_02 none
      (shapeCast S16x4096x4x128 (extf .f32 (extractStridedSlice S65536x512 ![16384, 0] k slices_S81920x512_S65536x512_16384_0) bitsLt_bf16_f32) shapeCasts_S65536x512_S16x4096x4x128)
      (shapeCast S16x4096x4x2x128 (extf .f32 (extractStridedSlice S65536x1024 ![16384, 0] q slices_S81920x1024_S65536x1024_16384_0) bitsLt_bf16_f32) shapeCasts_S65536x1024_S16x4096x4x2x128))
    transposes_S16x4x4096x4096x2_S16x4x2x4096x4096_0_1_4_3_2)
    (broadcastInDim S16x4x2x4096x4096 ![] bcast_S_S16x4x2x4096x4096 (Host.log (constant S_ .f32 0x40000000#32)))

/-- The largest of each row of scores. -/
def rowMax (l : FVec Ideal S16x4x2x4096x4096 .f32) : FVec Ideal S16x4x2x4096 .f32 :=
  Host.reduce FloatOps.maximumf l (constant S_ .f32 0xFF800000#32) reducesTo_S16x4x2x4096x4096_S16x4x2x4096_d4 h_S_

/-- The same, taken with minus infinity once more. -/
def maxes (x : FVec Ideal S16x4x2x4096 .f32) : FVec Ideal S16x4x2x4096 .f32 :=
  maximumf (broadcastInDim S16x4x2x4096 ![] bcast_S_S16x4x2x4096 (constant S_ .f32 0xFF800000#32)) x

/-- One number for each row, laid along the rows. -/
def spread (x : FVec Ideal S16x4x2x4096 .f32) : FVec Ideal S16x4x2x4096x4096 .f32 :=
  broadcastInDim S16x4x2x4096x4096 ![0, 1, 2, 3, 4] bcast_S16x4x2x4096x1_S16x4x2x4096x4096_0_1_2_3_4 (broadcastInDim S16x4x2x4096x1 ![0, 1, 2, 3] bcast_S16x4x2x4096_S16x4x2x4096x1_0_1_2_3 x)

/-- The exponentials of the scores less their maxima. -/
def expos (l : FVec Ideal S16x4x2x4096x4096 .f32) (x : FVec Ideal S16x4x2x4096 .f32) : FVec Ideal S16x4x2x4096x4096 .f32 := Host.exp (subf l (spread x))

/-- The sums of a row of exponentials. -/
def sums (e : FVec Ideal S16x4x2x4096x4096 .f32) : FVec Ideal S16x4x2x4096 .f32 := Host.reduceAdd e (constant S_ .f32 0x00000000#32) reducesTo_S16x4x2x4096x4096_S16x4x2x4096_d4 h_S_

/-- The weights. -/
def weights (e : FVec Ideal S16x4x2x4096x4096 .f32) (z : FVec Ideal S16x4x2x4096 .f32) : FVec Ideal S16x4x2x4096x4096 .f32 := Host.divf e (spread z)

/-- The weighted sums of the values. -/
def mix (v : FVec Ideal S81920x512 .bf16) (w : FVec Ideal S16x4x2x4096x4096 .f32) : FVec Ideal S1024x65536 .f32 :=
  shapeCast S1024x65536 (transpose S4x2x128x16x4096 [0, 3, 2, 1, 4]
    (Host.dotGeneral dot_S16x4096x4x128_S16x4x2x4096x4096_S4x16x128x2x4096_1_4_3_23_20_10 none
      (shapeCast S16x4096x4x128 (extf .f32 (extractStridedSlice S65536x512 ![16384, 0] v slices_S81920x512_S65536x512_16384_0) bitsLt_bf16_f32) shapeCasts_S65536x512_S16x4096x4x128) w)
    transposes_S4x16x128x2x4096_S4x2x128x16x4096_0_3_2_1_4) shapeCasts_S4x2x128x16x4096_S1024x65536

/-- The softmax of the scores. -/
def softmax (l : FVec Ideal S16x4x2x4096x4096 .f32) : FVec Ideal S16x4x2x4096x4096 .f32 :=
  weights (expos l (maxes (rowMax l))) (sums (expos l (maxes (rowMax l))))

/-- The reference's result. -/
def out (q : FVec Ideal S81920x1024 .bf16) (k : FVec Ideal S81920x512 .bf16) (v : FVec Ideal S81920x512 .bf16) : FVec Ideal S1024x65536 .f32 :=
  mix v (softmax (logits q k))

/-- The logarithm of two. -/
theorem log_two : Ideal.log (Ideal.ofBits .f32 0x40000000#32) = (Real.log 2 : ℝ) := by
  have e : Ideal.ofBits .f32 0x40000000#32 = ((2 : ℝ) : EReal) := by
    simp [Ideal.ofBits, Ideal.ieee, -EReal.coe_mul]; try norm_num
  rw [e, Ideal.log_coe, if_neg (by norm_num)]

/-- The bits of minus infinity. -/
theorem ofBits_bot : Ideal.ofBits .f32 0xFF800000#32 = ⊥ := by simp [Ideal.ofBits, Ideal.ieee]

/-- The scores at an entry of the result's row and column. -/
theorem logits_at (q : FVec Ideal S81920x1024 .bf16) (k : FVec Ideal S81920x512 .bf16) (a : Fin 1024) (b : Fin 65536) (j : Fin 4096) :
    logits q k (ix5 ⟨b / 4096, by omega⟩ ⟨a / 256, by omega⟩ ⟨a / 128 % 2, by omega⟩ ⟨b % 4096, by omega⟩ j) = SpecB.score q k a b j * (Real.log 2 : ℝ) := by
  unfold logits
  pointwise
  rw [log_two, SpecB.score]
  refine congrArg (· * ((Real.log 2 : ℝ) : EReal)) (Finset.sum_congr rfl fun d _ => ?_)
  refine congrArg₂ (· * ·) (congrArg k ?_) (congrArg q ?_) <;> congr 1 <;> apply Fin.ext <;> simp only <;> omega

/-- The largest score of a row. -/
theorem rowMax_at (l : FVec Ideal S16x4x2x4096x4096 .f32) (n : Fin 16) (h : Fin 4) (g : Fin 2) (s : Fin 4096) :
    rowMax l (ix4 n h g s) = Online.top fun j : Fin 4096 => l (ix5 n h g s j) := by
  unfold rowMax Online.top
  rw [← ofBits_bot]
  pointwise

/-- Minus infinity changes no maximum. -/
theorem maxes_eq (x : FVec Ideal S16x4x2x4096 .f32) : maxes x = x := by
  funext i
  show max (Ideal.ofBits .f32 0xFF800000#32) (x i) = x i
  rw [ofBits_bot]
  exact max_eq_right bot_le

/-- A row's number at an entry of the row. -/
theorem spread_at (x : FVec Ideal S16x4x2x4096 .f32) (n : Fin 16) (h : Fin 4) (g : Fin 2) (s : Fin 4096) (j : Fin 4096) : spread x (ix5 n h g s j) = x (ix4 n h g s) := by
  unfold spread
  pointwise

/-- An exponential. -/
theorem expos_at (l : FVec Ideal S16x4x2x4096x4096 .f32) (x : FVec Ideal S16x4x2x4096 .f32) (n : Fin 16) (h : Fin 4) (g : Fin 2) (s : Fin 4096) (j : Fin 4096) :
    expos l x (ix5 n h g s j) = Ideal.exp (l (ix5 n h g s j) - x (ix4 n h g s)) := by
  rw [← spread_at x n h g s j]
  rfl

/-- A sum of exponentials. -/
theorem sums_at (e : FVec Ideal S16x4x2x4096x4096 .f32) (n : Fin 16) (h : Fin 4) (g : Fin 2) (s : Fin 4096) : sums e (ix4 n h g s) = ∑ j : Fin 4096, e (ix5 n h g s j) := by
  unfold sums
  pointwise

/-- A weight. -/
theorem weights_at (e : FVec Ideal S16x4x2x4096x4096 .f32) (z : FVec Ideal S16x4x2x4096 .f32) (n : Fin 16) (h : Fin 4) (g : Fin 2) (s : Fin 4096) (j : Fin 4096) :
    weights e z (ix5 n h g s j) = Ideal.div (e (ix5 n h g s j)) (z (ix4 n h g s)) := by
  rw [← spread_at z n h g s j]
  rfl

/-- The softmax at an entry. -/
theorem softmax_at (l : FVec Ideal S16x4x2x4096x4096 .f32) (n : Fin 16) (h : Fin 4) (g : Fin 2) (s : Fin 4096) (j : Fin 4096) :
    softmax l (ix5 n h g s j)
      = Ideal.div (Ideal.exp (l (ix5 n h g s j) - Online.top fun j' => l (ix5 n h g s j')))
          (∑ j', Ideal.exp (l (ix5 n h g s j') - Online.top fun j'' => l (ix5 n h g s j''))) := by
  rw [softmax, weights_at, sums_at, maxes_eq]
  simp only [expos_at, rowMax_at]

/-- The weighted sum of the values at a row and a column of the result. -/
theorem mix_at (v : FVec Ideal S81920x512 .bf16) (w : FVec Ideal S16x4x2x4096x4096 .f32) (a : Fin 1024) (b : Fin 65536) :
    mix v w (ix2 a b) = ∑ j : Fin 4096, SpecB.value v a b j * w (ix5 ⟨b / 4096, by omega⟩ ⟨a / 256, by omega⟩ ⟨a / 128 % 2, by omega⟩ ⟨b % 4096, by omega⟩ j) := by
  unfold mix SpecB.value
  pointwise

/-- The reference's result. -/
theorem out_eq (q : FVec Ideal S81920x1024 .bf16) (k : FVec Ideal S81920x512 .bf16) (v : FVec Ideal S81920x512 .bf16) : out q k v = SpecB.result q k v := by
  funext y
  obtain ⟨a, b, rfl⟩ : ∃ (a : Fin 1024) (b : Fin 65536), y = ix2 a b := ⟨y 0, y 1, eq_ix2 y⟩
  show mix v (softmax (logits q k)) (ix2 a b) = Online.attend (SpecB.score q k a b) (SpecB.value v a b)
  rw [mix_at, Online.attend]
  simp only [softmax_at, logits_at]

end Cert.RefB

end
-- ==== Proof.PreB.lean ====
/- What mixer B's precondition says: every query and every key is a real number. -/
module

public import proofs.«01_k».proof.Proof.Gen.Pre_finite_b
public import proofs.«01_k».proof.Proof.Finite

@[expose] public section

noncomputable section

namespace Cert.PreB

open Cert.Pre_finite_b Cert.Pre_finite_b.Gen Idealize.ShloMosaic

/-- Queries and keys that meet the precondition are real numbers. -/
theorem real (q : FVec Ideal S81920x1024 .bf16) (k : FVec Ideal S81920x512 .bf16) (v : FVec Ideal S81920x512 .bf16) (h : fn (F := Ideal) q k v = fun _ => 1#1) :
    (∀ i, Finite.IsReal (q i)) ∧ ∀ i, Finite.IsReal (k i) := by
  have h0 := congrFun h ix0
  unfold fn at h0
  obtain ⟨hq, hk⟩ := IntOp.andi_eq_one.1 h0
  exact ⟨fun i => Finite.of_abs_lt (Host.reduce_andi_all _ _ _ _ _ hq i), fun i => Finite.of_abs_lt (Host.reduce_andi_all _ _ _ _ _ hk i)⟩

end Cert.PreB

end
-- ==== Proof.ClaimB.lean ====
/- Mixer B: the claims of its kernel and of its reference, assembled. -/
module

public import proofs.«01_k».proof.Defs
public import proofs.«01_k».proof.Proof.Gen.KernelB.Frame
public import proofs.«01_k».proof.Proof.ArrayB
public import proofs.«01_k».proof.Proof.RefB
public import proofs.«01_k».proof.Proof.PreB
public import Idealize.ShloMosaic.Lib.QuiescentFlight

@[expose] public section

set_option maxRecDepth 16384

noncomputable section

namespace Cert.ClaimB

open Idealize.ShloMosaic Idealize.ShloMosaic.TcCoe Idealize.SL.Sem

local instance : Cert.KernelB.Facts := Cert.KernelB.Gen.facts
local instance : Cert.KernelBIdeal.Facts := Cert.KernelBIdeal.Gen.facts
local instance : Cert.ReferenceBIdeal.Facts := Cert.ReferenceBIdeal.Gen.facts
local instance : Cert.Pre_finite_b.Facts := Cert.Pre_finite_b.Gen.facts

/-- The kernel runs, leaves its arguments alone and ends quiet. -/
theorem kernel : quiescent_KernelB := fun m ρ _ => Cert.KernelB.Gen.frame m ρ

/-- So does it over the extended reals. -/
theorem kernelIdeal : quiescent_KernelBIdeal := fun m ρ _ => Cert.KernelBIdeal.Gen.frame m ρ

/-- So does it from finite queries and keys. -/
theorem kernelIdeal_pre : quiescent_KernelBIdeal_pre_finite_b := fun m ρ _ => Cert.KernelBIdeal.Gen.frame m ρ

/-- A run of the reference: its result is `SpecB.result` of its arguments, which it leaves alone. -/
theorem reference_run (m : (ℓ : Loc Cert.ReferenceBIdeal.nD Cert.ReferenceBIdeal.τ Cert.ReferenceBIdeal.sig) → Buf (Elt Ideal) ℓ)
    (ρ : Dev Cert.ReferenceBIdeal.nD → PrngReg) :
    θ_run Cert.ReferenceBIdeal.defs (onTc (τ := Cert.ReferenceBIdeal.τ) (Cert.ReferenceBIdeal.main (F := Ideal))) ⟨m, fun _ => 0, ρ⟩
      fun r => ∀ c : Dev Cert.ReferenceBIdeal.nD,
        r.2.mem ((c.tc : Thread _ _).loc Cert.ReferenceBIdeal.main_v27)
            = SpecB.result (m ((c.tc : Thread _ _).loc Cert.ReferenceBIdeal.main_arg0)) (m ((c.tc : Thread _ _).loc Cert.ReferenceBIdeal.main_arg1))
                (m ((c.tc : Thread _ _).loc Cert.ReferenceBIdeal.main_arg2))
        ∧ r.2.mem ((c.tc : Thread _ _).loc Cert.ReferenceBIdeal.main_arg0) = m ((c.tc : Thread _ _).loc Cert.ReferenceBIdeal.main_arg0)
        ∧ r.2.mem ((c.tc : Thread _ _).loc Cert.ReferenceBIdeal.main_arg1) = m ((c.tc : Thread _ _).loc Cert.ReferenceBIdeal.main_arg1)
        ∧ r.2.mem ((c.tc : Thread _ _).loc Cert.ReferenceBIdeal.main_arg2) = m ((c.tc : Thread _ _).loc Cert.ReferenceBIdeal.main_arg2) :=
  (θ_run Cert.ReferenceBIdeal.defs _ _).mono
    (fun _ h c => ⟨(h c).1.trans (RefB.out_eq (m ((c.tc : Thread _ _).loc Cert.ReferenceBIdeal.main_arg0)) (m ((c.tc : Thread _ _).loc Cert.ReferenceBIdeal.main_arg1)) (m ((c.tc : Thread _ _).loc Cert.ReferenceBIdeal.main_arg2))), (h c).2⟩)
    (Cert.ReferenceBIdeal.Value.run (F := Ideal) m ρ)

/-- The reference runs, leaves its arguments alone and ends quiet. -/
theorem reference : quiescent_ReferenceBIdeal := fun m ρ _ =>
  (θ_run Cert.ReferenceBIdeal.defs _ _).mono (fun r h => ⟨fun c => (h c).2, sem_eq_zero_of_no_sems (by decide) r.2⟩) (reference_run m ρ)

/-- So does it from finite queries and keys. -/
theorem reference_pre : quiescent_ReferenceBIdeal_pre_finite_b := fun m ρ _ =>
  (θ_run Cert.ReferenceBIdeal.defs _ _).mono (fun r h => ⟨fun c => (h c).2, sem_eq_zero_of_no_sems (by decide) r.2⟩) (reference_run m ρ)

/-- The kernel was read over the extended reals as it is written: no operation was replaced. -/
theorem preserves : preserves_KernelB_KernelBIdeal := trivial

/-- From the same arguments, the queries and keys finite, kernel and reference end with the same result. -/
theorem algebraic : algebraic_KernelBIdeal_ReferenceBIdeal_pre_finite_b := by
  intro m ρ m' ρ' hpre hagree
  refine ⟨_, ArrayB.run m ρ, ?_⟩
  refine (θ_run Cert.ReferenceBIdeal.defs _ _).mono (fun _ h c => ⟨(h c).1.trans ?_, (h c).2⟩) (reference_run m' ρ')
  obtain ⟨hq, hk⟩ := PreB.real _ _ _ (hpre c)
  rw [ArrayB.arr_eq m c hq hk, (hagree c).1, (hagree c).2.1, (hagree c).2.2]

end Cert.ClaimB

end
-- ==== Proof.BodyC.lean ====
/- What the kernel of mixer C's attention stores of one block is the eight chunks' recursion over arrays, written out. -/
module

public import proofs.«01_k».proof.Proof.Gen.KernelCIdeal.Frame
public import proofs.«01_k».proof.Proof.Chunk64

@[expose] public section

set_option maxRecDepth 16384

noncomputable section

namespace Cert.FlashC

open Cert.KernelCIdeal Cert.KernelCIdeal.Gen Idealize.ShloMosaic

set_option maxRecDepth 200000 in
/-- The body's result is the recursion's: both are the same operations in the same order. -/
theorem out_eq (q : Vec Ideal S2048x128 .bf16) (k : Vec Ideal S4096x128 .bf16) (v : Vec Ideal S1x4096x64 .bf16) :
    out0_3 q k v = View.canon [⟨r0_17, Flash64.out q k v⟩] := by
  unfold_out out0_3
  unfold_payloads
  simp only [Flash64.out, Flash64.aArr, Flash.lArr, Flash.mArr, Flash.scores, Flash64.vals, Flash.rows]
  unfold Flash64.fin Flash64.aNext Flash.lNext Flash.mNext Flash.alpha Flash.expo Flash.sc
  dsimp only
  rfl

end Cert.FlashC

end
-- ==== Proof.SpecC.lean ====
/- What mixer C's attention is, entry by entry: eight heads, of 128 for the queries and keys and of 64 for the values. Rows of the result are the heads' value columns, columns are
   the sixteen samples' 4096 tokens; a sample's tokens start at row 16384 of the arrays. -/
module

public import proofs.«01_k».proof.Proof.Online
public import Idealize.ShloMosaic.Lib.Pointwise

@[expose] public section

noncomputable section

namespace Cert.SpecC

open Idealize.ShloMosaic

/-- The score of key `j` for result row `a` and token `b`. -/
def score (Q : (⟨2, ![81920, 1024]⟩ : Shape).Idx → EReal) (K : (⟨2, ![81920, 1024]⟩ : Shape).Idx → EReal) (a : Fin 512) (b : Fin 65536) (j : Fin 4096) :
    EReal :=
  ∑ d : Fin 128, K (ix2 ⟨16384 + (b / 4096 * 4096 + j), by omega⟩ ⟨a / 64 * 128 + d, by omega⟩) * Q (ix2 ⟨16384 + b, by omega⟩ ⟨a / 64 * 128 + d, by omega⟩)

/-- The value at key `j` for result row `a` and token `b`. -/
def value (V : (⟨3, ![8, 81920, 64]⟩ : Shape).Idx → EReal) (a : Fin 512) (b : Fin 65536) (j : Fin 4096) : EReal :=
  V (ix3 ⟨a / 64, by omega⟩ ⟨16384 + (b / 4096 * 4096 + j), by omega⟩ ⟨a % 64, by omega⟩)

/-- The attention's result. -/
def result (Q : (⟨2, ![81920, 1024]⟩ : Shape).Idx → EReal) (K : (⟨2, ![81920, 1024]⟩ : Shape).Idx → EReal) (V : (⟨3, ![8, 81920, 64]⟩ : Shape).Idx → EReal) :
    (⟨2, ![512, 65536]⟩ : Shape).Idx → EReal :=
  fun y => Online.attend (score Q K (y 0) (y 1)) (value V (y 0) (y 1))

end Cert.SpecC

end
-- ==== Proof.ArrayC.lean ====
/- Mixer C's kernel over its grid of samples, heads and halves of a sample's queries: what the blocks of each point are in
   the arrays, and the array the run leaves, `SpecC.result` of the arguments. -/
module

public import proofs.«01_k».proof.Proof.Gen.KernelCIdeal.Value
public import proofs.«01_k».proof.Proof.BodyC
public import proofs.«01_k».proof.Proof.Block64
public import proofs.«01_k».proof.Proof.SpecC
public import Idealize.ShloMosaic.Lib.Pipeline.ValueKit
public import Idealize.ShloMosaic.Lib.Pipeline.Covers

@[expose] public section

set_option maxRecDepth 16384

noncomputable section

namespace Cert.ArrayC

open Cert.KernelCIdeal Cert.KernelCIdeal.Gen Idealize.ShloMosaic

variable (m : (ℓ : Loc nD τ sig) → Buf (Elt Ideal) ℓ) (c : Dev nD)

/-- The block of queries of a point: of sample `t / 16`, half `t % 2`, head `t / 2 % 8`. -/
theorem index0 : ∀ t : Fin grid0.N, win0_0.index t = ![8 + (t.val / 16 * 2 + t.val % 2), t.val / 2 % 8] := by decide +kernel

/-- The block of keys of a point. -/
theorem index1 : ∀ t : Fin grid0.N, win0_1.index t = ![4 + t.val / 16, t.val / 2 % 8] := by decide +kernel

/-- The block of values of a point. -/
theorem index2 : ∀ t : Fin grid0.N, win0_2.index t = ![t.val / 2 % 8, 4 + t.val / 16, 0] := by decide +kernel

/-- The block of the result of a point. -/
theorem index3 : ∀ t : Fin grid0.N, win0_3.index t = ![t.val / 2 % 8, t.val / 16 * 2 + t.val % 2] := by decide +kernel

/-- The blocks of the result tile it. -/
theorem covers : win0_3.Covers := by
  decide +kernel

/-- The queries of a point are real numbers where the array's are. -/
theorem real0 (t : Fin cfg0.N) (h : ∀ i, Finite.IsReal (m ((c.tc : Thread nD τ).loc main_arg0) i)) (i : S2048x128.Idx) :
    Finite.IsReal (iblk m c 0 t i) := h _

/-- The keys of a point are real numbers where the array's are. -/
theorem real1 (t : Fin cfg0.N) (h : ∀ i, Finite.IsReal (m ((c.tc : Thread nD τ).loc main_arg1) i)) (i : S4096x128.Idx) :
    Finite.IsReal (iblk m c 1 t i) := h _

/-- What a point stores, at an entry of its block: the result's entry at the block's place. -/
theorem point (t : Fin cfg0.N) (hq : ∀ i, Finite.IsReal (m ((c.tc : Thread nD τ).loc main_arg0) i))
    (hk : ∀ i, Finite.IsReal (m ((c.tc : Thread nD τ).loc main_arg1) i)) (d : Fin 64) (i : Fin 2048) :
    Flash64.out (iblk m c 0 t) (iblk m c 1 t) (iblk m c 2 t) (ix2 d i)
      = SpecC.result (m ((c.tc : Thread nD τ).loc main_arg0)) (m ((c.tc : Thread nD τ).loc main_arg1)) (m ((c.tc : Thread nD τ).loc main_arg2))
          (((cfg0.win 3).blk t).view.emb (ix2 d i)) := by
  have ht : t.val < 256 := t.2
  have he : ((cfg0.win 3).blk t).view.emb (ix2 d i)
      = ix2 (⟨t.val / 2 % 8 * 64 + d, by omega⟩ : Fin 512) (⟨(t.val / 16 * 2 + t.val % 2) * 2048 + i, by omega⟩ : Fin 65536) := by
    blk_ext [index3 t]
  rw [he, Flash64.out_attend _ _ _ (real0 m c t hq) (real1 m c t hk), SpecC.result]
  refine congrArg₂ Online.attend (funext fun j => ?_) (funext fun j => ?_)
  · unfold SpecC.score
    refine Finset.sum_congr rfl fun e _ => congrArg₂ (· * ·) ?_ ?_
    · blk_ext [iblk, V, index1 t]
    · blk_ext [iblk, V, index0 t]
  · unfold SpecC.value
    blk_ext [iblk, V, index2 t]

/-- The array the run leaves. -/
theorem arr_eq (hq : ∀ i, Finite.IsReal (m ((c.tc : Thread nD τ).loc main_arg0) i)) (hk : ∀ i, Finite.IsReal (m ((c.tc : Thread nD τ).loc main_arg1) i)) :
    (dats m 0 c).arrAt 3 cfg0.N
      = SpecC.result (m ((c.tc : Thread nD τ).loc main_arg0)) (m ((c.tc : Thread nD τ).loc main_arg1)) (m ((c.tc : Thread nD τ).loc main_arg2)) := by
  refine (dats m 0 c).arrAt_eq_of_covers 3 _ covers fun t hf y => ?_
  blk_simp
  rw [after0_3, FlashC.out_eq]
  frame_out
  obtain ⟨d, i, rfl⟩ : ∃ (d : Fin 64) (i : Fin 2048), y = ix2 d i := ⟨y 0, y 1, eq_ix2 y⟩
  exact point m c t hq hk d i

end Cert.ArrayC

end
-- ==== Proof.RefC.lean ====
/- The reference of mixer C, step by step (scores, their maxima, exponentials, sums, weights, weighted sums of the values),
   each step at an entry; its result is `SpecC.result` of the three arguments. -/
module

public import proofs.«01_k».proof.Proof.Gen.ReferenceCIdeal.Run
public import proofs.«01_k».proof.Proof.SpecC
public import Idealize.ShloMosaic.Lib.Pointwise

@[expose] public section

set_option maxRecDepth 16384

noncomputable section

namespace Cert.RefC

open Cert.ReferenceCIdeal Cert.ReferenceCIdeal.Gen Idealize.ShloMosaic

/-- The scores times the logarithm of two. -/
def logits (q : FVec Ideal S81920x1024 .bf16) (k : FVec Ideal S81920x1024 .bf16) : FVec Ideal S16x8x4096x4096 .f32 :=
  mulf (Host.dotGeneral dot_S16x4096x8x128_S16x4096x8x128_S16x8x4096x4096_3_3_1_1_02_02 none
      (shapeCast S16x4096x8x128 (extf .f32 (extractStridedSlice S65536x1024 ![16384, 0] q slices_S81920x1024_S65536x1024_16384_0) bitsLt_bf16_f32) shapeCasts_S65536x1024_S16x4096x8x128)
      (shapeCast S16x4096x8x128 (extf .f32 (extractStridedSlice S65536x1024 ![16384, 0] k slices_S81920x1024_S65536x1024_16384_0) bitsLt_bf16_f32) shapeCasts_S65536x1024_S16x4096x8x128))
    (broadcastInDim S16x8x4096x4096 ![] bcast_S_S16x8x4096x4096 (Host.log (constant S_ .f32 0x40000000#32)))

/-- The largest of each row of scores. -/
def rowMax (l : FVec Ideal S16x8x4096x4096 .f32) : FVec Ideal S16x8x4096 .f32 :=
  Host.reduce FloatOps.maximumf l (constant S_ .f32 0xFF800000#32) reducesTo_S16x8x4096x4096_S16x8x4096_d3 h_S_

/-- The same, taken with minus infinity once more. -/
def maxes (x : FVec Ideal S16x8x4096 .f32) : FVec Ideal S16x8x4096 .f32 :=
  maximumf (broadcastInDim S16x8x4096 ![] bcast_S_S16x8x4096 (constant S_ .f32 0xFF800000#32)) x

/-- One number for each row, laid along the rows. -/
def spread (x : FVec Ideal S16x8x4096 .f32) : FVec Ideal S16x8x4096x4096 .f32 :=
  broadcastInDim S16x8x4096x4096 ![0, 1, 2, 3] bcast_S16x8x4096x1_S16x8x4096x4096_0_1_2_3 (broadcastInDim S16x8x4096x1 ![0, 1, 2] bcast_S16x8x4096_S16x8x4096x1_0_1_2 x)

/-- The exponentials of the scores less their maxima. -/
def expos (l : FVec Ideal S16x8x4096x4096 .f32) (x : FVec Ideal S16x8x4096 .f32) : FVec Ideal S16x8x4096x4096 .f32 := Host.exp (subf l (spread x))

/-- The sums of a row of exponentials. -/
def sums (e : FVec Ideal S16x8x4096x4096 .f32) : FVec Ideal S16x8x4096 .f32 := Host.reduceAdd e (constant S_ .f32 0x00000000#32) reducesTo_S16x8x4096x4096_S16x8x4096_d3 h_S_

/-- The weights. -/
def weights (e : FVec Ideal S16x8x4096x4096 .f32) (z : FVec Ideal S16x8x4096 .f32) : FVec Ideal S16x8x4096x4096 .f32 := Host.divf e (spread z)

/-- The weighted sums of the values. -/
def mix (v : FVec Ideal S8x81920x64 .bf16) (w : FVec Ideal S16x8x4096x4096 .f32) : FVec Ideal S512x65536 .bf16 :=
  truncf .bf16 (shapeCast S512x65536 (transpose S8x64x16x4096 [0, 2, 1, 3]
    (Host.dotGeneral dot_S8x16x4096x64_S16x8x4096x4096_S8x16x64x4096_2_3_3_2_01_10 none
      (shapeCast S8x16x4096x64 (extf .f32 (extractStridedSlice S8x65536x64 ![0, 16384, 0] v slices_S8x81920x64_S8x65536x64_0_16384_0) bitsLt_bf16_f32) shapeCasts_S8x65536x64_S8x16x4096x64) w)
    transposes_S8x16x64x4096_S8x64x16x4096_0_2_1_3) shapeCasts_S8x64x16x4096_S512x65536) bitsLt_bf16_f32

/-- The softmax of the scores. -/
def softmax (l : FVec Ideal S16x8x4096x4096 .f32) : FVec Ideal S16x8x4096x4096 .f32 :=
  weights (expos l (maxes (rowMax l))) (sums (expos l (maxes (rowMax l))))

/-- The reference's result. -/
def out (q : FVec Ideal S81920x1024 .bf16) (k : FVec Ideal S81920x1024 .bf16) (v : FVec Ideal S8x81920x64 .bf16) : FVec Ideal S512x65536 .bf16 :=
  mix v (softmax (logits q k))

/-- The logarithm of two. -/
theorem log_two : Ideal.log (Ideal.ofBits .f32 0x40000000#32) = (Real.log 2 : ℝ) := by
  have e : Ideal.ofBits .f32 0x40000000#32 = ((2 : ℝ) : EReal) := by
    simp [Ideal.ofBits, Ideal.ieee, -EReal.coe_mul]; try norm_num
  rw [e, Ideal.log_coe, if_neg (by norm_num)]

/-- The bits of minus infinity. -/
theorem ofBits_bot : Ideal.ofBits .f32 0xFF800000#32 = ⊥ := by simp [Ideal.ofBits, Ideal.ieee]

/-- The scores at an entry of the result's row and column. -/
theorem logits_at (q : FVec Ideal S81920x1024 .bf16) (k : FVec Ideal S81920x1024 .bf16) (a : Fin 512) (b : Fin 65536) (j : Fin 4096) :
    logits q k (ix4 ⟨b / 4096, by omega⟩ ⟨a / 64, by omega⟩ ⟨b % 4096, by omega⟩ j) = SpecC.score q k a b j * (Real.log 2 : ℝ) := by
  unfold logits
  pointwise
  rw [log_two, SpecC.score]
  refine congrArg (· * ((Real.log 2 : ℝ) : EReal)) (Finset.sum_congr rfl fun d _ => ?_)
  exact mul_comm _ _

/-- The largest score of a row. -/
theorem rowMax_at (l : FVec Ideal S16x8x4096x4096 .f32) (n : Fin 16) (h : Fin 8) (s : Fin 4096) :
    rowMax l (ix3 n h s) = Online.top fun j : Fin 4096 => l (ix4 n h s j) := by
  unfold rowMax Online.top
  rw [← ofBits_bot]
  pointwise

/-- Minus infinity changes no maximum. -/
theorem maxes_eq (x : FVec Ideal S16x8x4096 .f32) : maxes x = x := by
  funext i
  show max (Ideal.ofBits .f32 0xFF800000#32) (x i) = x i
  rw [ofBits_bot]
  exact max_eq_right bot_le

/-- A row's number at an entry of the row. -/
theorem spread_at (x : FVec Ideal S16x8x4096 .f32) (n : Fin 16) (h : Fin 8) (s : Fin 4096) (j : Fin 4096) : spread x (ix4 n h s j) = x (ix3 n h s) := by
  unfold spread
  pointwise

/-- An exponential. -/
theorem expos_at (l : FVec Ideal S16x8x4096x4096 .f32) (x : FVec Ideal S16x8x4096 .f32) (n : Fin 16) (h : Fin 8) (s : Fin 4096) (j : Fin 4096) :
    expos l x (ix4 n h s j) = Ideal.exp (l (ix4 n h s j) - x (ix3 n h s)) := by
  rw [← spread_at x n h s j]
  rfl

/-- A sum of exponentials. -/
theorem sums_at (e : FVec Ideal S16x8x4096x4096 .f32) (n : Fin 16) (h : Fin 8) (s : Fin 4096) : sums e (ix3 n h s) = ∑ j : Fin 4096, e (ix4 n h s j) := by
  unfold sums
  pointwise

/-- A weight. -/
theorem weights_at (e : FVec Ideal S16x8x4096x4096 .f32) (z : FVec Ideal S16x8x4096 .f32) (n : Fin 16) (h : Fin 8) (s : Fin 4096) (j : Fin 4096) :
    weights e z (ix4 n h s j) = Ideal.div (e (ix4 n h s j)) (z (ix3 n h s)) := by
  rw [← spread_at z n h s j]
  rfl

/-- The softmax at an entry. -/
theorem softmax_at (l : FVec Ideal S16x8x4096x4096 .f32) (n : Fin 16) (h : Fin 8) (s : Fin 4096) (j : Fin 4096) :
    softmax l (ix4 n h s j)
      = Ideal.div (Ideal.exp (l (ix4 n h s j) - Online.top fun j' => l (ix4 n h s j')))
          (∑ j', Ideal.exp (l (ix4 n h s j') - Online.top fun j'' => l (ix4 n h s j''))) := by
  rw [softmax, weights_at, sums_at, maxes_eq]
  simp only [expos_at, rowMax_at]

/-- The weighted sum of the values at a row and a column of the result. -/
theorem mix_at (v : FVec Ideal S8x81920x64 .bf16) (w : FVec Ideal S16x8x4096x4096 .f32) (a : Fin 512) (b : Fin 65536) :
    mix v w (ix2 a b) = ∑ j : Fin 4096, SpecC.value v a b j * w (ix4 ⟨b / 4096, by omega⟩ ⟨a / 64, by omega⟩ ⟨b % 4096, by omega⟩ j) := by
  unfold mix SpecC.value
  pointwise

/-- The reference's result. -/
theorem out_eq (q : FVec Ideal S81920x1024 .bf16) (k : FVec Ideal S81920x1024 .bf16) (v : FVec Ideal S8x81920x64 .bf16) : out q k v = SpecC.result q k v := by
  funext y
  obtain ⟨a, b, rfl⟩ : ∃ (a : Fin 512) (b : Fin 65536), y = ix2 a b := ⟨y 0, y 1, eq_ix2 y⟩
  show mix v (softmax (logits q k)) (ix2 a b) = Online.attend (SpecC.score q k a b) (SpecC.value v a b)
  rw [mix_at, Online.attend]
  simp only [softmax_at, logits_at]

end Cert.RefC

end
-- ==== Proof.PreC.lean ====
/- What mixer C's precondition says: every query and every key is a real number. -/
module

public import proofs.«01_k».proof.Proof.Gen.Pre_finite_c
public import proofs.«01_k».proof.Proof.Finite

@[expose] public section

noncomputable section

namespace Cert.PreC

open Cert.Pre_finite_c Cert.Pre_finite_c.Gen Idealize.ShloMosaic

/-- Queries and keys that meet the precondition are real numbers. -/
theorem real (q : FVec Ideal S81920x1024 .bf16) (k : FVec Ideal S81920x1024 .bf16) (v : FVec Ideal S8x81920x64 .bf16) (h : fn (F := Ideal) q k v = fun _ => 1#1) :
    (∀ i, Finite.IsReal (q i)) ∧ ∀ i, Finite.IsReal (k i) := by
  have h0 := congrFun h ix0
  unfold fn at h0
  obtain ⟨hq, hk⟩ := IntOp.andi_eq_one.1 h0
  exact ⟨fun i => Finite.of_abs_lt (Host.reduce_andi_all _ _ _ _ _ hq i), fun i => Finite.of_abs_lt (Host.reduce_andi_all _ _ _ _ _ hk i)⟩

end Cert.PreC

end
-- ==== Proof.ClaimC.lean ====
/- Mixer C: the claims of its kernel and of its reference, assembled. -/
module

public import proofs.«01_k».proof.Defs
public import proofs.«01_k».proof.Proof.Gen.KernelC.Frame
public import proofs.«01_k».proof.Proof.ArrayC
public import proofs.«01_k».proof.Proof.RefC
public import proofs.«01_k».proof.Proof.PreC
public import Idealize.ShloMosaic.Lib.QuiescentFlight

@[expose] public section

set_option maxRecDepth 16384

noncomputable section

namespace Cert.ClaimC

open Idealize.ShloMosaic Idealize.ShloMosaic.TcCoe Idealize.SL.Sem

local instance : Cert.KernelC.Facts := Cert.KernelC.Gen.facts
local instance : Cert.KernelCIdeal.Facts := Cert.KernelCIdeal.Gen.facts
local instance : Cert.ReferenceCIdeal.Facts := Cert.ReferenceCIdeal.Gen.facts
local instance : Cert.Pre_finite_c.Facts := Cert.Pre_finite_c.Gen.facts

/-- The kernel runs, leaves its arguments alone and ends quiet. -/
theorem kernel : quiescent_KernelC := fun m ρ _ => Cert.KernelC.Gen.frame m ρ

/-- So does it over the extended reals. -/
theorem kernelIdeal : quiescent_KernelCIdeal := fun m ρ _ => Cert.KernelCIdeal.Gen.frame m ρ

/-- So does it from finite queries and keys. -/
theorem kernelIdeal_pre : quiescent_KernelCIdeal_pre_finite_c := fun m ρ _ => Cert.KernelCIdeal.Gen.frame m ρ

/-- A run of the reference: its result is `SpecC.result` of its arguments, which it leaves alone. -/
theorem reference_run (m : (ℓ : Loc Cert.ReferenceCIdeal.nD Cert.ReferenceCIdeal.τ Cert.ReferenceCIdeal.sig) → Buf (Elt Ideal) ℓ)
    (ρ : Dev Cert.ReferenceCIdeal.nD → PrngReg) :
    θ_run Cert.ReferenceCIdeal.defs (onTc (τ := Cert.ReferenceCIdeal.τ) (Cert.ReferenceCIdeal.main (F := Ideal))) ⟨m, fun _ => 0, ρ⟩
      fun r => ∀ c : Dev Cert.ReferenceCIdeal.nD,
        r.2.mem ((c.tc : Thread _ _).loc Cert.ReferenceCIdeal.main_v27)
            = SpecC.result (m ((c.tc : Thread _ _).loc Cert.ReferenceCIdeal.main_arg0)) (m ((c.tc : Thread _ _).loc Cert.ReferenceCIdeal.main_arg1))
                (m ((c.tc : Thread _ _).loc Cert.ReferenceCIdeal.main_arg2))
        ∧ r.2.mem ((c.tc : Thread _ _).loc Cert.ReferenceCIdeal.main_arg0) = m ((c.tc : Thread _ _).loc Cert.ReferenceCIdeal.main_arg0)
        ∧ r.2.mem ((c.tc : Thread _ _).loc Cert.ReferenceCIdeal.main_arg1) = m ((c.tc : Thread _ _).loc Cert.ReferenceCIdeal.main_arg1)
        ∧ r.2.mem ((c.tc : Thread _ _).loc Cert.ReferenceCIdeal.main_arg2) = m ((c.tc : Thread _ _).loc Cert.ReferenceCIdeal.main_arg2) :=
  (θ_run Cert.ReferenceCIdeal.defs _ _).mono
    (fun _ h c => ⟨(h c).1.trans (RefC.out_eq (m ((c.tc : Thread _ _).loc Cert.ReferenceCIdeal.main_arg0)) (m ((c.tc : Thread _ _).loc Cert.ReferenceCIdeal.main_arg1)) (m ((c.tc : Thread _ _).loc Cert.ReferenceCIdeal.main_arg2))), (h c).2⟩)
    (Cert.ReferenceCIdeal.Value.run (F := Ideal) m ρ)

/-- The reference runs, leaves its arguments alone and ends quiet. -/
theorem reference : quiescent_ReferenceCIdeal := fun m ρ _ =>
  (θ_run Cert.ReferenceCIdeal.defs _ _).mono (fun r h => ⟨fun c => (h c).2, sem_eq_zero_of_no_sems (by decide) r.2⟩) (reference_run m ρ)

/-- So does it from finite queries and keys. -/
theorem reference_pre : quiescent_ReferenceCIdeal_pre_finite_c := fun m ρ _ =>
  (θ_run Cert.ReferenceCIdeal.defs _ _).mono (fun r h => ⟨fun c => (h c).2, sem_eq_zero_of_no_sems (by decide) r.2⟩) (reference_run m ρ)

/-- The kernel was read over the extended reals as it is written: no operation was replaced. -/
theorem preserves : preserves_KernelC_KernelCIdeal := trivial

/-- From the same arguments, the queries and keys finite, kernel and reference end with the same result. -/
theorem algebraic : algebraic_KernelCIdeal_ReferenceCIdeal_pre_finite_c := by
  intro m ρ m' ρ' hpre hagree
  refine ⟨_, Cert.KernelCIdeal.Value.run_blocks m ρ, ?_⟩
  refine (θ_run Cert.ReferenceCIdeal.defs _ _).mono (fun _ h c => ⟨(h c).1.trans ?_, (h c).2⟩) (reference_run m' ρ')
  obtain ⟨hq, hk⟩ := PreC.real _ _ _ (hpre c)
  rw [ArrayC.arr_eq m c hq hk, (hagree c).1, (hagree c).2.1, (hagree c).2.2]

end Cert.ClaimC

end
-- ==== Proof.SpecM.lean ====
/- What the gated merge is for one token: mixer B's heads are the differences of two attention components, normalised; three
   up-projections, each under its gate, are added; the output projection of the sum is added to the residual stream. Also
   the reciprocal root mean square of a row, which the final normalisation shares. -/
module

public import Idealize.ShloMosaic.Lib.Pointwise

@[expose] public section

noncomputable section

namespace Cert.SpecM

open Idealize.ShloMosaic

/-- The reciprocal root mean square of a row of `c` numbers. -/
def rms {n : ℕ} (c : EReal) (f : Fin n → EReal) : EReal :=
  Ideal.rsqrt (Ideal.div (∑ d, f d * f d) c + Ideal.ofBits .f32 0x358637BD#32)

/-- A head's difference of its two components, which lie 256 rows a head in `o`. -/
def diff (lam : EReal) (o : Fin 1024 → EReal) (h : Fin 4) (d : Fin 128) : EReal :=
  o ⟨h * 256 + d, by omega⟩ - lam * o ⟨h * 256 + 128 + d, by omega⟩

/-- A head's normalised difference. -/
def head (lam post : EReal) (o : Fin 1024 → EReal) (g : Fin 128 → EReal) (h : Fin 4) (d : Fin 128) : EReal :=
  diff lam o h d * rms (Ideal.ofBits .f32 0x43000000#32) (diff lam o h) * g d * post

/-- The gated sum of the three up-projections. -/
def merged (lam post : EReal) (ya : Fin 512 → EReal) (o : Fin 1024 → EReal) (yc : Fin 512 → EReal) (gt : Fin 3072 → EReal)
    (g : Fin 128 → EReal) (wa wb wc : Fin 512 → Fin 1024 → EReal) (e : Fin 1024) : EReal :=
  gt ⟨e, by omega⟩ * (∑ k, ya k * wa k e)
    + gt ⟨1024 + e, by omega⟩ * (∑ k : Fin 512, head lam post o g ⟨k / 128, by omega⟩ ⟨k % 128, by omega⟩ * wb k e)
    + gt ⟨2048 + e, by omega⟩ * (∑ k, yc k * wc k e)

/-- The token's new residual stream. -/
def row (lam post : EReal) (x : Fin 1024 → EReal) (ya : Fin 512 → EReal) (o : Fin 1024 → EReal) (yc : Fin 512 → EReal)
    (gt : Fin 3072 → EReal) (g : Fin 128 → EReal) (wa wb wc : Fin 512 → Fin 1024 → EReal) (wo : Fin 1024 → Fin 1024 → EReal)
    (e : Fin 1024) : EReal :=
  x e + ∑ j, merged lam post ya o yc gt g wa wb wc j * wo j e

/-- The merge of all tokens, from the call's arguments. -/
def result (s : (⟨1, ![2]⟩ : Shape).Idx → EReal) (x : (⟨2, ![81920, 1024]⟩ : Shape).Idx → EReal) (ya : (⟨2, ![512, 81920]⟩ : Shape).Idx → EReal)
    (o : (⟨2, ![1024, 81920]⟩ : Shape).Idx → EReal) (yc : (⟨2, ![512, 81920]⟩ : Shape).Idx → EReal)
    (gt : (⟨2, ![81920, 3072]⟩ : Shape).Idx → EReal) (g : (⟨1, ![128]⟩ : Shape).Idx → EReal)
    (wa wb wc : (⟨2, ![512, 1024]⟩ : Shape).Idx → EReal) (wo : (⟨2, ![1024, 1024]⟩ : Shape).Idx → EReal) :
    (⟨2, ![81920, 1024]⟩ : Shape).Idx → EReal :=
  fun y => row (s (ix1 0)) (s (ix1 1)) (fun e => x (ix2 (y 0) e)) (fun k => ya (ix2 k (y 0))) (fun r => o (ix2 r (y 0)))
    (fun k => yc (ix2 k (y 0))) (fun j => gt (ix2 (y 0) j)) (fun d => g (ix1 d)) (fun k e => wa (ix2 k e)) (fun k e => wb (ix2 k e))
    (fun k e => wc (ix2 k e)) (fun k e => wo (ix2 k e)) (y 1)

end Cert.SpecM

end
-- ==== Proof.BodyM.lean ====
/- The gated merge's kernel on one block of 512 tokens: what it stores is `SpecM.row` of the block's columns. -/
module

public import proofs.«01_k».proof.Proof.Gen.KernelMIdeal.Skeleton
public import proofs.«01_k».proof.Proof.SpecM

@[expose] public section

set_option maxRecDepth 16384

noncomputable section

namespace Cert.MergeBody

open Cert.KernelMIdeal Cert.KernelMIdeal.Gen Idealize.ShloMosaic

/-- A head of mixer B, from its two components. -/
def head (lam post : Elt Ideal .f32) (o0 o1 : Vec Ideal S128x512 .f32) (g : Vec Ideal S128x1 .f32) : FVec Ideal S128x512 .bf16 :=
  k0_pay1 lam post o0 o1 g

/-- Four heads, one below the other. -/
def cat (a b c d : FVec Ideal S128x512 .bf16) : FVec Ideal S512x512 .bf16 :=
  concatenate S512x512 0 [⟨S128x512, a⟩, ⟨S128x512, b⟩, ⟨S128x512, c⟩, ⟨S128x512, d⟩] concatenates_S128x512_S128x512_S128x512_S128x512_S512x512_d0

/-- An up-projection. -/
def up (y : FVec Ideal S512x512 .bf16) (w : FVec Ideal S512x1024 .bf16) : FVec Ideal S512x1024 .f32 :=
  matmul (φ₁ := .bf16) (φ₂ := .bf16) dot_S512x512_S512x1024_S512x1024_0_0_1_1_n_n none y (shapeCast (α := Ideal .bf16) S512x1024 w shapeCasts_S512x1024_S512x1024) (constant S512x1024 .f32 0x00000000#32)

/-- The gated sum. -/
def sum (gt : Vec Ideal S512x3072 .bf16) (a b c : FVec Ideal S512x1024 .f32) : FVec Ideal S512x1024 .f32 :=
  addf (addf (mulf (extractStridedSlice S512x1024 ![0, 0] (extf .f32 gt bitsLt_bf16_f32) slices_S512x3072_o0_0_S512x1024) a)
      (mulf (extractStridedSlice S512x1024 ![0, 1024] (extf .f32 gt bitsLt_bf16_f32) slices_S512x3072_o0_1024_S512x1024) b))
    (mulf (extractStridedSlice S512x1024 ![0, 2048] (extf .f32 gt bitsLt_bf16_f32) slices_S512x3072_o0_2048_S512x1024) c)

/-- The residual stream plus the output projection. -/
def fin (x s : FVec Ideal S512x1024 .f32) (wo : FVec Ideal S1024x1024 .bf16) : FVec Ideal S512x1024 .f32 :=
  addf x (matmul (φ₁ := .bf16) (φ₂ := .bf16) dot_S512x1024_S1024x1024_S512x1024_1_0_0_1_n_n none (truncf .bf16 s bitsLt_bf16_f32) (shapeCast (α := Ideal .bf16) S1024x1024 wo shapeCasts_S1024x1024_S1024x1024) (constant S512x1024 .f32 0x00000000#32))

/-- The stored block, from the four heads' components and the other operands. -/
def out (lam post : Elt Ideal .f32) (o0 o1 o2 o3 o4 o5 o6 o7 : Vec Ideal S128x512 .f32) (g : Vec Ideal S128x1 .f32) (ya : Vec Ideal S512x512 .bf16)
    (wa wb : Vec Ideal S512x1024 .bf16) (yc : Vec Ideal S512x512 .bf16) (wc : Vec Ideal S512x1024 .bf16) (gt : Vec Ideal S512x3072 .bf16)
    (x : Vec Ideal S512x1024 .f32) (wo : Vec Ideal S1024x1024 .bf16) : FVec Ideal S512x1024 .f32 :=
  fin x (sum gt (up ya wa) (up (cat (head lam post o0 o1 g) (head lam post o2 o3 g) (head lam post o4 o5 g) (head lam post o6 o7 g)) wb) (up yc wc)) wo

/-- The body's operations are these. -/
theorem pay_eq (lam post : Elt Ideal .f32) (o0 o1 o2 o3 o4 o5 o6 o7 : Vec Ideal S128x512 .f32) (g : Vec Ideal S128x1 .f32) (ya : Vec Ideal S512x512 .bf16)
    (wa wb : Vec Ideal S512x1024 .bf16) (yc : Vec Ideal S512x512 .bf16) (wc : Vec Ideal S512x1024 .bf16) (gt : Vec Ideal S512x3072 .bf16)
    (x : Vec Ideal S512x1024 .f32) (wo : Vec Ideal S1024x1024 .bf16) :
    k0_pay6 post (k0_pay1 lam post o0 o1 g) (k0_pay3 post (k0_pay2 lam o2 o3) g) (k0_pay4 lam post o4 o5 g) (k0_pay5 lam o6 o7) g ya wa wb yc wc gt x wo
      = out lam post o0 o1 o2 o3 o4 o5 o6 o7 g ya wa wb yc wc gt x wo := rfl

/-- A head at a feature and a token. -/
theorem head_at (lam post : Elt Ideal .f32) (o0 o1 : Vec Ideal S128x512 .f32) (g : Vec Ideal S128x1 .f32) (d : Fin 128) (i : Fin 512) :
    head lam post o0 o1 g (ix2 d i)
      = (o0 (ix2 d i) - lam * o1 (ix2 d i))
          * SpecM.rms (Ideal.ofBits .f32 0x43000000#32) (fun d' => o0 (ix2 d' i) - lam * o1 (ix2 d' i)) * g (ix2 d 0) * post := by
  unfold head k0_pay1 SpecM.rms
  pointwise

/-- The heads at a row and a token. -/
theorem cat_at (h : Fin 4 → FVec Ideal S128x512 .bf16) (k : Fin 512) (i : Fin 512) :
    cat (h 0) (h 1) (h 2) (h 3) (ix2 k i) = h ⟨k / 128, by omega⟩ (ix2 ⟨k % 128, by omega⟩ i) := by
  unfold cat
  pointwise
  split_ifs <;> refine congrArg₂ (fun a b => h a (ix2 b i)) (Fin.ext ?_) (Fin.ext ?_) <;> simp <;> omega

/-- An up-projection at a token and a column. -/
theorem up_at (y : FVec Ideal S512x512 .bf16) (w : FVec Ideal S512x1024 .bf16) (i : Fin 512) (e : Fin 1024) :
    up y w (ix2 i e) = ∑ k : Fin 512, y (ix2 k i) * w (ix2 k e) := by
  unfold up
  pointwise

/-- The gated sum at a token and a column. -/
theorem sum_at (gt : Vec Ideal S512x3072 .bf16) (a b c : FVec Ideal S512x1024 .f32) (i : Fin 512) (e : Fin 1024) :
    sum gt a b c (ix2 i e) = gt (ix2 i ⟨e, by omega⟩) * a (ix2 i e) + gt (ix2 i ⟨1024 + e, by omega⟩) * b (ix2 i e)
        + gt (ix2 i ⟨2048 + e, by omega⟩) * c (ix2 i e) := by
  unfold sum
  pointwise

/-- The stored block at a token and a column. -/
theorem fin_at (x s : FVec Ideal S512x1024 .f32) (wo : FVec Ideal S1024x1024 .bf16) (i : Fin 512) (e : Fin 1024) :
    fin x s wo (ix2 i e) = x (ix2 i e) + ∑ j : Fin 1024, s (ix2 i j) * wo (ix2 j e) := by
  unfold fin
  pointwise

/-- A component's 128 rows of the block of components. -/
def rows (ob : Vec Ideal S1024x512 .f32) (r : ℕ) (hr : r + 128 ≤ 1024) : Vec Ideal S128x512 .f32 :=
  fun y => ob (ix2 (⟨r + (y 0).val, by have h : (y 0).val < 128 := (y 0).isLt; omega⟩ : Fin 1024) (y 1))

/-- A head of the block's components is the head of the token's column. -/
theorem head_rows (lam post : Elt Ideal .f32) (ob : Vec Ideal S1024x512 .f32) (g : Vec Ideal S128x1 .f32) (h : Fin 4) (d : Fin 128) (i : Fin 512) :
    head lam post (rows ob (h * 256) (by omega)) (rows ob (h * 256 + 128) (by omega)) g (ix2 d i)
      = SpecM.head lam post (fun r => ob (ix2 r i)) (fun d' => g (ix2 d' 0)) h d := by
  have hd : ∀ d : Fin 128, rows ob (h * 256) (by omega) (ix2 d i) - lam * rows ob (h * 256 + 128) (by omega) (ix2 d i)
      = SpecM.diff lam (fun r => ob (ix2 r i)) h d := fun d => rfl
  rw [head_at, SpecM.head, hd, show (fun d' => rows ob (h * 256) (by omega) (ix2 d' i) - lam * rows ob (h * 256 + 128) (by omega) (ix2 d' i))
    = SpecM.diff lam (fun r => ob (ix2 r i)) h from funext hd]

/-- The four heads of the block's components are mixer B's columns. -/
theorem cat_rows (lam post : Elt Ideal .f32) (ob : Vec Ideal S1024x512 .f32) (g : Vec Ideal S128x1 .f32) (k i : Fin 512) :
    cat (head lam post (rows ob 0 (by omega)) (rows ob 128 (by omega)) g) (head lam post (rows ob 256 (by omega)) (rows ob 384 (by omega)) g)
        (head lam post (rows ob 512 (by omega)) (rows ob 640 (by omega)) g) (head lam post (rows ob 768 (by omega)) (rows ob 896 (by omega)) g) (ix2 k i)
      = SpecM.head lam post (fun r => ob (ix2 r i)) (fun d' => g (ix2 d' 0)) ⟨k / 128, by omega⟩ ⟨k % 128, by omega⟩ :=
  (cat_at (fun h => head lam post (rows ob (h * 256) (by omega)) (rows ob (h * 256 + 128) (by omega)) g) k i).trans (head_rows lam post ob g _ _ i)

/-- The stored block is the merge of its tokens' columns. -/
theorem out_at (lam post : Elt Ideal .f32) (ob : Vec Ideal S1024x512 .f32) (g : Vec Ideal S128x1 .f32) (ya : Vec Ideal S512x512 .bf16)
    (wa wb : Vec Ideal S512x1024 .bf16) (yc : Vec Ideal S512x512 .bf16) (wc : Vec Ideal S512x1024 .bf16) (gt : Vec Ideal S512x3072 .bf16)
    (x : Vec Ideal S512x1024 .f32) (wo : Vec Ideal S1024x1024 .bf16) (i : Fin 512) (e : Fin 1024) :
    out lam post (rows ob 0 (by omega)) (rows ob 128 (by omega)) (rows ob 256 (by omega)) (rows ob 384 (by omega)) (rows ob 512 (by omega))
        (rows ob 640 (by omega)) (rows ob 768 (by omega)) (rows ob 896 (by omega)) g ya wa wb yc wc gt x wo (ix2 i e)
      = SpecM.row lam post (fun e => x (ix2 i e)) (fun k => ya (ix2 k i)) (fun r => ob (ix2 r i)) (fun k => yc (ix2 k i)) (fun j => gt (ix2 i j))
          (fun d => g (ix2 d 0)) (fun k e => wa (ix2 k e)) (fun k e => wb (ix2 k e)) (fun k e => wc (ix2 k e)) (fun k e => wo (ix2 k e)) e := by
  unfold out
  rw [fin_at]
  simp only [sum_at, up_at, cat_rows]
  unfold SpecM.row SpecM.merged
  rfl

end Cert.MergeBody

end
-- ==== Proof.ArrayM.lean ====
/- The gated merge's kernel over its grid of blocks of 512 tokens: what the blocks of each point are in the arrays, and the
   array the run leaves, `SpecM.result` of the arguments. -/
module

public import proofs.«01_k».proof.Proof.Gen.KernelMIdeal.Value
public import proofs.«01_k».proof.Proof.BodyM
public import Idealize.ShloMosaic.Lib.Pipeline.ValueKit
public import Idealize.ShloMosaic.Lib.Pipeline.Covers

@[expose] public section

set_option maxRecDepth 16384

noncomputable section

namespace Cert.ArrayM

open Cert.KernelMIdeal Cert.KernelMIdeal.Gen Idealize.ShloMosaic

variable (m : (ℓ : Loc nD τ sig) → Buf (Elt Ideal) ℓ) (c : Dev nD)

/-- The blocks start at the origin. -/
theorem hz : (![0, 0] : Fin 2 → Nat) = fun _ => 0 := funext fun a => by fin_cases a <;> rfl

/-- A load of 128 rows of the components. -/
theorem ld_rows (ob : Vec Ideal S1024x512 .f32) (r : ℕ) (hr : r + 128 ≤ 1024) (h : ∀ a, ![r, 0] a + ![128, 512] a ≤ S1024x512.size a) :
    View.ld ob (Rect.unit (s := S1024x512) ![r, 0] ![128, 512] h) = MergeBody.rows ob r hr := by
  funext y
  unfold MergeBody.rows
  refine congrArg ob (funext fun a => Fin.ext ?_)
  match a with
  | ⟨0, _⟩ => show r + 1 * (y 0).val = r + (y 0).val; omega
  | ⟨1, _⟩ => show 0 + 1 * (y 1).val = (y 1).val; omega

/-- What a point leaves in the result's buffer. -/
theorem outs_eq (t : Fin cfg0.N) : outsAt0 m c t = MergeBody.out (iblk m c 0 t (ix1 0)) (iblk m c 0 t (ix1 1)) (MergeBody.rows (iblk m c 3 t) 0 (by omega)) (MergeBody.rows (iblk m c 3 t) 128 (by omega))
      (MergeBody.rows (iblk m c 3 t) 256 (by omega)) (MergeBody.rows (iblk m c 3 t) 384 (by omega)) (MergeBody.rows (iblk m c 3 t) 512 (by omega)) (MergeBody.rows (iblk m c 3 t) 640 (by omega))
      (MergeBody.rows (iblk m c 3 t) 768 (by omega)) (MergeBody.rows (iblk m c 3 t) 896 (by omega)) (iblk m c 6 t) (iblk m c 2 t) (iblk m c 7 t) (iblk m c 8 t) (iblk m c 4 t) (iblk m c 9 t) (iblk m c 5 t) (iblk m c 1 t) (iblk m c 10 t) := by
  unfold outsAt0 out0_A_11
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread]
  rw [View.canon_unit_zero hz, ld_rows _ 0 (by omega), ld_rows _ 128 (by omega), ld_rows _ 256 (by omega), ld_rows _ 384 (by omega), ld_rows _ 512 (by omega),
    ld_rows _ 640 (by omega), ld_rows _ 768 (by omega), ld_rows _ 896 (by omega)]
  rw [MergeBody.pay_eq]
  have hw : ∀ (k : Fin 2) (h : ∀ a, ![k.val] a + ![1] a ≤ S2.size a) (y), View.ld (iblk m c 0 t) (Rect.unit (s := S2) ![k.val] ![1] h) y = iblk m c 0 t (ix1 k) := by
    intro k h y
    refine congrArg (iblk m c 0 t) (funext fun a => Fin.ext ?_)
    match a with
    | ⟨0, _⟩ => have h0 : (y 0).val < 1 := (y 0).isLt; show k.val + 1 * (y 0).val = k.val; omega
  refine congr (congr (congr (congr (congr (congr (congr (congr (congr (congrFun (congrFun (congrFun (congrFun (congrFun (congrFun (congrFun (congrFun
    (congrArg₂ MergeBody.out (hw 0 _ _) (hw 1 _ _)) _) _) _) _) _) _) _) _) (View.ld_unit_zero hz _ _)) (View.ld_unit_zero hz _ _)) (View.ld_unit_zero hz _ _))
    (View.ld_unit_zero hz _ _)) (View.ld_unit_zero hz _ _)) (View.ld_unit_zero hz _ _)) (View.ld_unit_zero hz _ _)) (View.ld_unit_zero hz _ _)) (View.ld_unit_zero hz _ _)

/-- The gain, laid out as a column. -/
theorem V_gain (d : Fin 128) : V m c main_v4 (ix2 d 0) = m ((c.tc : Thread nD τ).loc main_arg6) (ix1 d) := by
  have h : V m c main_v4 = shapeCast S128x1 (m ((c.tc : Thread nD τ).loc main_arg6)) shapeCasts_S128_S128x1 := by
    unfold V; after_results; try rfl
  rw [h]
  pointwise

/-- Mixer A's up-projection. -/
theorem V_up_a : V m c main_v0 = m ((c.tc : Thread nD τ).loc main_arg7) := by
  unfold V; after_results; try rfl

/-- Mixer B's up-projection. -/
theorem V_up_b : V m c main_v1 = m ((c.tc : Thread nD τ).loc main_arg8) := by
  unfold V; after_results; try rfl

/-- Mixer C's up-projection. -/
theorem V_up_c : V m c main_v2 = m ((c.tc : Thread nD τ).loc main_arg9) := by
  unfold V; after_results; try rfl

/-- The output projection. -/
theorem V_out : V m c main_v3 = m ((c.tc : Thread nD τ).loc main_arg10) := by
  unfold V; after_results; try rfl

/-- The block of the scalars of a point. -/
theorem index0 : ∀ t : Fin grid0.N, win0_0.index t = ![0] := by decide +kernel
/-- The block of the residual stream of a point. -/
theorem index1 : ∀ t : Fin grid0.N, win0_1.index t = ![t.val, 0] := by decide +kernel
/-- The block of mixer A's columns of a point. -/
theorem index2 : ∀ t : Fin grid0.N, win0_2.index t = ![0, t.val] := by decide +kernel
/-- The block of mixer B's components of a point. -/
theorem index3 : ∀ t : Fin grid0.N, win0_3.index t = ![0, t.val] := by decide +kernel
/-- The block of mixer C's columns of a point. -/
theorem index4 : ∀ t : Fin grid0.N, win0_4.index t = ![0, t.val] := by decide +kernel
/-- The block of the gates of a point. -/
theorem index5 : ∀ t : Fin grid0.N, win0_5.index t = ![t.val, 0] := by decide +kernel
/-- The block of the gain of a point. -/
theorem index6 : ∀ t : Fin grid0.N, win0_6.index t = ![0, 0] := by decide +kernel
/-- The block of mixer A's up-projection of a point. -/
theorem index7 : ∀ t : Fin grid0.N, win0_7.index t = ![0, 0] := by decide +kernel
/-- The block of mixer B's up-projection of a point. -/
theorem index8 : ∀ t : Fin grid0.N, win0_8.index t = ![0, 0] := by decide +kernel
/-- The block of mixer C's up-projection of a point. -/
theorem index9 : ∀ t : Fin grid0.N, win0_9.index t = ![0, 0] := by decide +kernel
/-- The block of the output projection of a point. -/
theorem index10 : ∀ t : Fin grid0.N, win0_10.index t = ![0, 0] := by decide +kernel
/-- The block of the result of a point. -/
theorem index11 : ∀ t : Fin grid0.N, win0_11.index t = ![t.val, 0] := by decide +kernel

/-- The blocks of the result tile it. -/
theorem covers : win0_11.Covers := by
  decide +kernel

/-- The two scalars of a point are the argument's. -/
theorem blk0 (t : Fin cfg0.N) (i : Fin 2) : iblk m c 0 t (ix1 i) = m ((c.tc : Thread nD τ).loc main_arg0) (ix1 i) := by
  blk_ext [iblk, V, index0 t]

/-- A residual of a point is the array's. -/
theorem blk1 (t : Fin cfg0.N) (i : Fin 512) (e : Fin 1024) :
    iblk m c 1 t (ix2 i e) = m ((c.tc : Thread nD τ).loc main_arg1) (ix2 ⟨t.val * 512 + i, by have : t.val < 160 := t.2; omega⟩ e) := by
  have ht : t.val < 160 := t.2
  blk_ext [iblk, V, index1 t]

/-- An entry of mixer A of a point is the array's. -/
theorem blk2 (t : Fin cfg0.N) (k : Fin 512) (i : Fin 512) :
    iblk m c 2 t (ix2 k i) = m ((c.tc : Thread nD τ).loc main_arg2) (ix2 k ⟨t.val * 512 + i, by have : t.val < 160 := t.2; omega⟩) := by
  have ht : t.val < 160 := t.2
  blk_ext [iblk, V, index2 t]

/-- A component of mixer B of a point is the array's. -/
theorem blk3 (t : Fin cfg0.N) (k : Fin 1024) (i : Fin 512) :
    iblk m c 3 t (ix2 k i) = m ((c.tc : Thread nD τ).loc main_arg3) (ix2 k ⟨t.val * 512 + i, by have : t.val < 160 := t.2; omega⟩) := by
  have ht : t.val < 160 := t.2
  blk_ext [iblk, V, index3 t]

/-- An entry of mixer C of a point is the array's. -/
theorem blk4 (t : Fin cfg0.N) (k : Fin 512) (i : Fin 512) :
    iblk m c 4 t (ix2 k i) = m ((c.tc : Thread nD τ).loc main_arg4) (ix2 k ⟨t.val * 512 + i, by have : t.val < 160 := t.2; omega⟩) := by
  have ht : t.val < 160 := t.2
  blk_ext [iblk, V, index4 t]

/-- A gate of a point is the array's. -/
theorem blk5 (t : Fin cfg0.N) (i : Fin 512) (j : Fin 3072) :
    iblk m c 5 t (ix2 i j) = m ((c.tc : Thread nD τ).loc main_arg5) (ix2 ⟨t.val * 512 + i, by have : t.val < 160 := t.2; omega⟩ j) := by
  have ht : t.val < 160 := t.2
  blk_ext [iblk, V, index5 t]

/-- A gain of a point is the argument's. -/
theorem blk6 (t : Fin cfg0.N) (d : Fin 128) : iblk m c 6 t (ix2 d 0) = m ((c.tc : Thread nD τ).loc main_arg6) (ix1 d) := by
  refine Eq.trans ?_ (V_gain m c d)
  blk_ext [iblk, index6 t]

/-- An entry of mixer A's up-projection of a point is the argument's. -/
theorem blk7 (t : Fin cfg0.N) (k : Fin 512) (e : Fin 1024) : iblk m c 7 t (ix2 k e) = m ((c.tc : Thread nD τ).loc main_arg7) (ix2 k e) := by
  refine Eq.trans ?_ (congrFun (V_up_a m c) (ix2 k e))
  blk_ext [iblk, index7 t]

/-- An entry of mixer B's up-projection of a point is the argument's. -/
theorem blk8 (t : Fin cfg0.N) (k : Fin 512) (e : Fin 1024) : iblk m c 8 t (ix2 k e) = m ((c.tc : Thread nD τ).loc main_arg8) (ix2 k e) := by
  refine Eq.trans ?_ (congrFun (V_up_b m c) (ix2 k e))
  blk_ext [iblk, index8 t]

/-- An entry of mixer C's up-projection of a point is the argument's. -/
theorem blk9 (t : Fin cfg0.N) (k : Fin 512) (e : Fin 1024) : iblk m c 9 t (ix2 k e) = m ((c.tc : Thread nD τ).loc main_arg9) (ix2 k e) := by
  refine Eq.trans ?_ (congrFun (V_up_c m c) (ix2 k e))
  blk_ext [iblk, index9 t]

/-- An entry of the output projection of a point is the argument's. -/
theorem blk10 (t : Fin cfg0.N) (k : Fin 1024) (e : Fin 1024) : iblk m c 10 t (ix2 k e) = m ((c.tc : Thread nD τ).loc main_arg10) (ix2 k e) := by
  refine Eq.trans ?_ (congrFun (V_out m c) (ix2 k e))
  blk_ext [iblk, index10 t]

/-- The array the run leaves. -/
theorem arr_eq : (dats m 0 c).arrAt 11 cfg0.N
    = SpecM.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  refine (dats m 0 c).arrAt_eq_of_covers 11 _ covers fun t hf y => ?_
  have ht : t.val < 160 := t.2
  blk_simp
  rw [after0_11, outs_eq]
  obtain ⟨i, e, rfl⟩ : ∃ (i : Fin 512) (e : Fin 1024), y = ix2 i e := ⟨y 0, y 1, eq_ix2 y⟩
  have he : ((cfg0.win 11).blk t).view.emb (ix2 i e) = ix2 (⟨t.val * 512 + i, by omega⟩ : Fin 81920) e := by
    blk_ext [index11 t]
  refine (MergeBody.out_at ..).trans ?_
  rw [he]
  simp only [blk0, blk1, blk2, blk3, blk4, blk5, blk6, blk7, blk8, blk9, blk10]
  rfl

end Cert.ArrayM

end
-- ==== Proof.RefM.lean ====
/- The reference of the gated merge, step by step (the heads' differences, their scales, mixer B's columns, the gated
   up-projections, the output projection), each step at an entry; its result is `SpecM.result` of the arguments. -/
module

public import proofs.«01_k».proof.Proof.Gen.ReferenceMIdeal.Run
public import proofs.«01_k».proof.Proof.SpecM
public import Idealize.ShloMosaic.Lib.Pointwise

@[expose] public section

set_option maxRecDepth 16384

noncomputable section

namespace Cert.RefM

open Cert.ReferenceMIdeal Cert.ReferenceMIdeal.Gen Idealize.ShloMosaic

/-- The heads' differences. -/
def diff (s : FVec Ideal S2 .f32) (o : FVec Ideal S1024x81920 .f32) : FVec Ideal S81920x4x128 .f32 :=
  subf (shapeCast S81920x4x128 (extractStridedSlice S81920x4x1x128 ![0, 0, 0, 0] (shapeCast S81920x4x2x128 (transpose S81920x1024 [1, 0] o transposes_S1024x81920_S81920x1024_1_0) shapeCasts_S81920x1024_S81920x4x2x128) slices_S81920x4x2x128_S81920x4x1x128_0_0_0_0) shapeCasts_S81920x4x1x128_S81920x4x128)
    (mulf (broadcastInDim S81920x4x128 ![] bcast_S_S81920x4x128 (shapeCast S_ (extractStridedSlice S1 ![0] s slices_S2_S1_0) shapeCasts_S1_S_))
      (shapeCast S81920x4x128 (extractStridedSlice S81920x4x1x128 ![0, 0, 1, 0] (shapeCast S81920x4x2x128 (transpose S81920x1024 [1, 0] o transposes_S1024x81920_S81920x1024_1_0) shapeCasts_S81920x1024_S81920x4x2x128) slices_S81920x4x2x128_S81920x4x1x128_0_0_1_0) shapeCasts_S81920x4x1x128_S81920x4x128))

/-- The heads' reciprocal root mean squares. -/
def scale (d : FVec Ideal S81920x4x128 .f32) : FVec Ideal S81920x4x1 .f32 :=
  Host.rsqrt (addf (Host.divf (broadcastInDim S81920x4x1 ![0, 1] bcast_S81920x4_S81920x4x1_0_1 (Host.reduceAdd (mulf d d) (constant S_ .f32 0x00000000#32) reducesTo_S81920x4x128_S81920x4_d2 h_S_)) (broadcastInDim S81920x4x1 ![] bcast_S_S81920x4x1 (constant S_ .f32 0x43000000#32))) (broadcastInDim S81920x4x1 ![] bcast_S_S81920x4x1 (constant S_ .f32 0x358637BD#32)))

/-- Mixer B's columns. -/
def yb (s : FVec Ideal S2 .f32) (d : FVec Ideal S81920x4x128 .f32) (r : FVec Ideal S81920x4x1 .f32) (g : FVec Ideal S128 .f32) : FVec Ideal S81920x512 .f32 :=
  shapeCast S81920x512 (mulf (mulf (mulf d (broadcastInDim S81920x4x128 ![0, 1, 2] bcast_S81920x4x1_S81920x4x128_0_1_2 r))
      (broadcastInDim S81920x4x128 ![0, 1, 2] bcast_S1x1x128_S81920x4x128_0_1_2 (broadcastInDim S1x1x128 ![2] bcast_S128_S1x1x128_2 g)))
    (broadcastInDim S81920x4x128 ![] bcast_S_S81920x4x128 (shapeCast S_ (extractStridedSlice S1 ![1] s slices_S2_S1_1) shapeCasts_S1_S_))) shapeCasts_S81920x4x128_S81920x512

/-- A mixer's columns, which come transposed. -/
def cols (y : FVec Ideal S512x81920 .bf16) : FVec Ideal S81920x512 .f32 :=
  extf .f32 (transpose S81920x512 [1, 0] y transposes_S512x81920_S81920x512_1_0) bitsLt_bf16_f32

/-- An up-projection. -/
def up (y : FVec Ideal S81920x512 .f32) (w : FVec Ideal S512x1024 .f32) : FVec Ideal S81920x1024 .f32 :=
  Host.dotGeneral dot_S81920x512_S512x1024_S81920x1024_1_0_0_1_n_n none y w

/-- The gated sum. -/
def sum (gt : FVec Ideal S81920x3072 .bf16) (a b c : FVec Ideal S81920x1024 .f32) : FVec Ideal S81920x1024 .f32 :=
  addf (addf (mulf (shapeCast S81920x1024 (extractStridedSlice S81920x1x1024 ![0, 0, 0] (shapeCast S81920x3x1024 (extf .f32 gt bitsLt_bf16_f32) shapeCasts_S81920x3072_S81920x3x1024) slices_S81920x3x1024_S81920x1x1024_0_0_0) shapeCasts_S81920x1x1024_S81920x1024) a)
      (mulf (shapeCast S81920x1024 (extractStridedSlice S81920x1x1024 ![0, 1, 0] (shapeCast S81920x3x1024 (extf .f32 gt bitsLt_bf16_f32) shapeCasts_S81920x3072_S81920x3x1024) slices_S81920x3x1024_S81920x1x1024_0_1_0) shapeCasts_S81920x1x1024_S81920x1024) b))
    (mulf (shapeCast S81920x1024 (extractStridedSlice S81920x1x1024 ![0, 2, 0] (shapeCast S81920x3x1024 (extf .f32 gt bitsLt_bf16_f32) shapeCasts_S81920x3072_S81920x3x1024) slices_S81920x3x1024_S81920x1x1024_0_2_0) shapeCasts_S81920x1x1024_S81920x1024) c)

/-- The residual stream plus the output projection. -/
def fin (x s : FVec Ideal S81920x1024 .f32) (wo : FVec Ideal S1024x1024 .f32) : FVec Ideal S81920x1024 .f32 :=
  addf x (Host.dotGeneral dot_S81920x1024_S1024x1024_S81920x1024_1_0_0_1_n_n none s wo)

/-- The reference's result. -/
def out (s : FVec Ideal S2 .f32) (x : FVec Ideal S81920x1024 .f32) (ya : FVec Ideal S512x81920 .bf16) (o : FVec Ideal S1024x81920 .f32)
    (yc : FVec Ideal S512x81920 .bf16) (gt : FVec Ideal S81920x3072 .bf16) (g : FVec Ideal S128 .f32) (wa wb wc : FVec Ideal S512x1024 .f32)
    (wo : FVec Ideal S1024x1024 .f32) : FVec Ideal S81920x1024 .f32 :=
  fin x (sum gt (up (cols ya) wa) (up (yb s (diff s o) (scale (diff s o)) g) wb) (up (cols yc) wc)) wo

/-- A head's difference. -/
theorem diff_at (s : FVec Ideal S2 .f32) (o : FVec Ideal S1024x81920 .f32) (n : Fin 81920) (h : Fin 4) (d : Fin 128) :
    diff s o (ix3 n h d) = SpecM.diff (s (ix1 0)) (fun r => o (ix2 r n)) h d := by
  unfold diff SpecM.diff
  pointwise

/-- A head's reciprocal root mean square. -/
theorem scale_at (x : FVec Ideal S81920x4x128 .f32) (n : Fin 81920) (h : Fin 4) :
    scale x (ix3 n h 0) = SpecM.rms (Ideal.ofBits .f32 0x43000000#32) (fun d : Fin 128 => x (ix3 n h d)) := by
  unfold scale SpecM.rms
  pointwise

/-- A column of mixer B. -/
theorem yb_at (s : FVec Ideal S2 .f32) (d : FVec Ideal S81920x4x128 .f32) (r : FVec Ideal S81920x4x1 .f32) (g : FVec Ideal S128 .f32) (n : Fin 81920) (k : Fin 512) :
    yb s d r g (ix2 n k) = d (ix3 n ⟨k / 128, by omega⟩ ⟨k % 128, by omega⟩) * r (ix3 n ⟨k / 128, by omega⟩ 0) * g (ix1 ⟨k % 128, by omega⟩) * s (ix1 1) := by
  unfold yb
  pointwise

/-- A column of a mixer. -/
theorem cols_at (y : FVec Ideal S512x81920 .bf16) (n : Fin 81920) (k : Fin 512) : cols y (ix2 n k) = y (ix2 k n) := by
  unfold cols
  pointwise

/-- An up-projection at a token and a column. -/
theorem up_at (y : FVec Ideal S81920x512 .f32) (w : FVec Ideal S512x1024 .f32) (n : Fin 81920) (e : Fin 1024) :
    up y w (ix2 n e) = ∑ k : Fin 512, y (ix2 n k) * w (ix2 k e) := by
  unfold up
  pointwise

/-- The gated sum at a token and a column. -/
theorem sum_at (gt : FVec Ideal S81920x3072 .bf16) (a b c : FVec Ideal S81920x1024 .f32) (n : Fin 81920) (e : Fin 1024) :
    sum gt a b c (ix2 n e) = gt (ix2 n ⟨e, by omega⟩) * a (ix2 n e) + gt (ix2 n ⟨1024 + e, by omega⟩) * b (ix2 n e)
        + gt (ix2 n ⟨2048 + e, by omega⟩) * c (ix2 n e) := by
  unfold sum
  pointwise

/-- The result at a token and a column. -/
theorem fin_at (x s : FVec Ideal S81920x1024 .f32) (wo : FVec Ideal S1024x1024 .f32) (n : Fin 81920) (e : Fin 1024) :
    fin x s wo (ix2 n e) = x (ix2 n e) + ∑ j : Fin 1024, s (ix2 n j) * wo (ix2 j e) := by
  unfold fin
  pointwise

/-- The reference's result. -/
theorem out_eq (s : FVec Ideal S2 .f32) (x : FVec Ideal S81920x1024 .f32) (ya : FVec Ideal S512x81920 .bf16) (o : FVec Ideal S1024x81920 .f32)
    (yc : FVec Ideal S512x81920 .bf16) (gt : FVec Ideal S81920x3072 .bf16) (g : FVec Ideal S128 .f32) (wa wb wc : FVec Ideal S512x1024 .f32)
    (wo : FVec Ideal S1024x1024 .f32) : out s x ya o yc gt g wa wb wc wo = SpecM.result s x ya o yc gt g wa wb wc wo := by
  funext y
  obtain ⟨n, e, rfl⟩ : ∃ (n : Fin 81920) (e : Fin 1024), y = ix2 n e := ⟨y 0, y 1, eq_ix2 y⟩
  unfold out
  rw [fin_at]
  simp only [sum_at, up_at, cols_at, yb_at, scale_at, diff_at]
  unfold SpecM.result SpecM.row SpecM.merged SpecM.head
  rfl

/-- The generated term of the result is this one. -/
theorem res_eq (m : (ℓ : Loc nD τ sig) → Buf (Elt Ideal) ℓ) (c : Dev nD) :
    Value.res_main_v50 m c = SpecM.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) := by
  rw [← out_eq]
  rfl

end Cert.RefM

end
-- ==== Proof.ClaimM.lean ====
/- The gated merge: the claims of its kernel and of its reference, assembled. -/
module

public import proofs.«01_k».proof.Defs
public import proofs.«01_k».proof.Proof.Gen.KernelM.Frame
public import proofs.«01_k».proof.Proof.ArrayM
public import proofs.«01_k».proof.Proof.RefM
public import Idealize.ShloMosaic.Lib.QuiescentFlight

@[expose] public section

set_option maxRecDepth 16384

noncomputable section

namespace Cert.ClaimM

open Idealize.ShloMosaic Idealize.ShloMosaic.TcCoe Idealize.SL.Sem

local instance : Cert.KernelM.Facts := Cert.KernelM.Gen.facts
local instance : Cert.KernelMIdeal.Facts := Cert.KernelMIdeal.Gen.facts
local instance : Cert.ReferenceMIdeal.Facts := Cert.ReferenceMIdeal.Gen.facts

/-- The kernel runs, leaves its arguments alone and ends quiet. -/
theorem kernel : quiescent_KernelM := fun m ρ _ => Cert.KernelM.Gen.frame m ρ

/-- So does it over the extended reals. -/
theorem kernelIdeal : quiescent_KernelMIdeal := fun m ρ _ => Cert.KernelMIdeal.Gen.frame m ρ

/-- A run of the reference: its result is `SpecM.result` of its arguments, which it leaves alone. -/
theorem reference_run (m : (ℓ : Loc Cert.ReferenceMIdeal.nD Cert.ReferenceMIdeal.τ Cert.ReferenceMIdeal.sig) → Buf (Elt Ideal) ℓ)
    (ρ : Dev Cert.ReferenceMIdeal.nD → PrngReg) :
    θ_run Cert.ReferenceMIdeal.defs (onTc (τ := Cert.ReferenceMIdeal.τ) (Cert.ReferenceMIdeal.main (F := Ideal))) ⟨m, fun _ => 0, ρ⟩
      fun r => ∀ c : Dev Cert.ReferenceMIdeal.nD,
        r.2.mem ((c.tc : Thread _ _).loc Cert.ReferenceMIdeal.main_v50)
            = SpecM.result (m ((c.tc : Thread _ _).loc Cert.ReferenceMIdeal.main_arg0)) (m ((c.tc : Thread _ _).loc Cert.ReferenceMIdeal.main_arg1)) (m ((c.tc : Thread _ _).loc Cert.ReferenceMIdeal.main_arg2)) (m ((c.tc : Thread _ _).loc Cert.ReferenceMIdeal.main_arg3)) (m ((c.tc : Thread _ _).loc Cert.ReferenceMIdeal.main_arg4)) (m ((c.tc : Thread _ _).loc Cert.ReferenceMIdeal.main_arg5)) (m ((c.tc : Thread _ _).loc Cert.ReferenceMIdeal.main_arg6)) (m ((c.tc : Thread _ _).loc Cert.ReferenceMIdeal.main_arg7)) (m ((c.tc : Thread _ _).loc Cert.ReferenceMIdeal.main_arg8)) (m ((c.tc : Thread _ _).loc Cert.ReferenceMIdeal.main_arg9)) (m ((c.tc : Thread _ _).loc Cert.ReferenceMIdeal.main_arg10))
        ∧ r.2.mem ((c.tc : Thread _ _).loc Cert.ReferenceMIdeal.main_arg0) = m ((c.tc : Thread _ _).loc Cert.ReferenceMIdeal.main_arg0)
        ∧ r.2.mem ((c.tc : Thread _ _).loc Cert.ReferenceMIdeal.main_arg1) = m ((c.tc : Thread _ _).loc Cert.ReferenceMIdeal.main_arg1)
        ∧ r.2.mem ((c.tc : Thread _ _).loc Cert.ReferenceMIdeal.main_arg2) = m ((c.tc : Thread _ _).loc Cert.ReferenceMIdeal.main_arg2)
        ∧ r.2.mem ((c.tc : Thread _ _).loc Cert.ReferenceMIdeal.main_arg3) = m ((c.tc : Thread _ _).loc Cert.ReferenceMIdeal.main_arg3)
        ∧ r.2.mem ((c.tc : Thread _ _).loc Cert.ReferenceMIdeal.main_arg4) = m ((c.tc : Thread _ _).loc Cert.ReferenceMIdeal.main_arg4)
        ∧ r.2.mem ((c.tc : Thread _ _).loc Cert.ReferenceMIdeal.main_arg5) = m ((c.tc : Thread _ _).loc Cert.ReferenceMIdeal.main_arg5)
        ∧ r.2.mem ((c.tc : Thread _ _).loc Cert.ReferenceMIdeal.main_arg6) = m ((c.tc : Thread _ _).loc Cert.ReferenceMIdeal.main_arg6)
        ∧ r.2.mem ((c.tc : Thread _ _).loc Cert.ReferenceMIdeal.main_arg7) = m ((c.tc : Thread _ _).loc Cert.ReferenceMIdeal.main_arg7)
        ∧ r.2.mem ((c.tc : Thread _ _).loc Cert.ReferenceMIdeal.main_arg8) = m ((c.tc : Thread _ _).loc Cert.ReferenceMIdeal.main_arg8)
        ∧ r.2.mem ((c.tc : Thread _ _).loc Cert.ReferenceMIdeal.main_arg9) = m ((c.tc : Thread _ _).loc Cert.ReferenceMIdeal.main_arg9)
        ∧ r.2.mem ((c.tc : Thread _ _).loc Cert.ReferenceMIdeal.main_arg10) = m ((c.tc : Thread _ _).loc Cert.ReferenceMIdeal.main_arg10) :=
  (θ_run Cert.ReferenceMIdeal.defs _ _).mono
    (fun _ h c => ⟨(h c).1.trans (RefM.res_eq m c), (h c).2⟩)
    (Cert.ReferenceMIdeal.Value.run (F := Ideal) m ρ)

/-- The reference runs, leaves its arguments alone and ends quiet. -/
theorem reference : quiescent_ReferenceMIdeal := fun m ρ _ =>
  (θ_run Cert.ReferenceMIdeal.defs _ _).mono (fun r h => ⟨fun c => (h c).2, sem_eq_zero_of_no_sems (by decide) r.2⟩) (reference_run m ρ)

/-- The kernel was read over the extended reals as it is written: no operation was replaced. -/
theorem preserves : preserves_KernelM_KernelMIdeal := trivial

/-- From the same arguments, kernel and reference end with the same result. -/
theorem algebraic : algebraic_KernelMIdeal_ReferenceMIdeal := by
  intro m ρ m' ρ' _ hagree
  refine ⟨_, Cert.KernelMIdeal.Value.run_blocks m ρ, ?_⟩
  refine (θ_run Cert.ReferenceMIdeal.defs _ _).mono (fun _ h c => ⟨(h c).1.trans ?_, (h c).2⟩) (reference_run m' ρ')
  rw [ArrayM.arr_eq m c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

end Cert.ClaimM

end
-- ==== Proof.SpecN.lean ====
/- The final normalisation: each row times the reciprocal of its root mean square, times the gain. -/
module

public import proofs.«01_k».proof.Proof.SpecM

@[expose] public section

noncomputable section

namespace Cert.SpecN

open Idealize.ShloMosaic

/-- The normalised rows. -/
def result (x : (⟨2, ![81920, 1024]⟩ : Shape).Idx → EReal) (g : (⟨1, ![1024]⟩ : Shape).Idx → EReal) : (⟨2, ![81920, 1024]⟩ : Shape).Idx → EReal :=
  fun y => x (ix2 (y 0) (y 1)) * SpecM.rms (Ideal.ofBits .f32 0x44800000#32) (fun e : Fin 1024 => x (ix2 (y 0) e)) * g (ix1 (y 1))

end Cert.SpecN

end
-- ==== Proof.ArrayN.lean ====
/- The final normalisation's kernel over its grid of blocks of 1024 rows: what a point stores, and the array the run leaves,
   `SpecN.result` of the arguments. -/
module

public import proofs.«01_k».proof.Proof.Gen.KernelNIdeal.Value
public import proofs.«01_k».proof.Proof.SpecN
public import Idealize.ShloMosaic.Lib.Pipeline.ValueKit
public import Idealize.ShloMosaic.Lib.Pipeline.Covers

@[expose] public section

set_option maxRecDepth 16384

noncomputable section

namespace Cert.ArrayN

open Cert.KernelNIdeal Cert.KernelNIdeal.Gen Idealize.ShloMosaic

variable (m : (ℓ : Loc nD τ sig) → Buf (Elt Ideal) ℓ) (c : Dev nD)

/-- What a point stores, at a row and a column. -/
theorem pay_at (x : Vec Ideal S1024x1024 .f32) (g : Vec Ideal S1x1024 .f32) (i e : Fin 1024) :
    k0_pay1 x g (ix2 i e) = x (ix2 i e) * SpecM.rms (Ideal.ofBits .f32 0x44800000#32) (fun e' : Fin 1024 => x (ix2 i e')) * g (ix2 0 e) := by
  unfold k0_pay1 SpecM.rms
  pointwise

/-- The gain, laid out as a row. -/
theorem V_gain (e : Fin 1024) : V m c main_v0 (ix2 0 e) = m ((c.tc : Thread nD τ).loc main_arg1) (ix1 e) := by
  have h : V m c main_v0 = shapeCast S1x1024 (m ((c.tc : Thread nD τ).loc main_arg1)) shapeCasts_S1024_S1x1024 := by
    unfold V; after_results; try rfl
  rw [h]
  pointwise

/-- The block of the rows of a point. -/
theorem index0 : ∀ t : Fin grid0.N, win0_0.index t = ![t.val, 0] := by decide +kernel

/-- The block of the gain of a point. -/
theorem index1 : ∀ t : Fin grid0.N, win0_1.index t = ![0, 0] := by decide +kernel

/-- The block of the result of a point. -/
theorem index2 : ∀ t : Fin grid0.N, win0_2.index t = ![t.val, 0] := by decide +kernel

/-- The blocks of the result tile it. -/
theorem covers : win0_2.Covers := by
  decide +kernel

/-- A row of a point is the array's. -/
theorem blk0 (t : Fin cfg0.N) (i e : Fin 1024) :
    iblk m c 0 t (ix2 i e) = m ((c.tc : Thread nD τ).loc main_arg0) (ix2 ⟨t.val * 1024 + i, by have : t.val < 80 := t.2; omega⟩ e) := by
  have ht : t.val < 80 := t.2
  blk_ext [iblk, V, index0 t]

/-- A gain of a point is the argument's. -/
theorem blk1 (t : Fin cfg0.N) (e : Fin 1024) : iblk m c 1 t (ix2 0 e) = m ((c.tc : Thread nD τ).loc main_arg1) (ix1 e) := by
  refine Eq.trans ?_ (V_gain m c e)
  blk_ext [iblk, index1 t]

/-- The array the run leaves. -/
theorem arr_eq : (dats m 0 c).arrAt 2 cfg0.N
    = SpecN.result (m ((c.tc : Thread nD τ).loc main_arg0)) (m ((c.tc : Thread nD τ).loc main_arg1)) := by
  refine (dats m 0 c).arrAt_eq_of_covers 2 _ covers fun t hf y => ?_
  have ht : t.val < 80 := t.2
  blk_simp
  rw [after0_2]
  frame_out
  obtain ⟨i, e, rfl⟩ : ∃ (i e : Fin 1024), y = ix2 i e := ⟨y 0, y 1, eq_ix2 y⟩
  have he : ((cfg0.win 2).blk t).view.emb (ix2 i e) = ix2 (⟨t.val * 1024 + i, by omega⟩ : Fin 81920) e := by
    blk_ext [index2 t]
  refine (pay_at ..).trans ?_
  rw [he]
  simp only [blk0, blk1]
  rfl

end Cert.ArrayN

end
-- ==== Proof.RefN.lean ====
/- The reference of the final normalisation: its result is `SpecN.result` of the arguments. -/
module

public import proofs.«01_k».proof.Proof.Gen.ReferenceNIdeal.Run
public import proofs.«01_k».proof.Proof.SpecN
public import Idealize.ShloMosaic.Lib.Pointwise

@[expose] public section

set_option maxRecDepth 16384

noncomputable section

namespace Cert.RefN

open Cert.ReferenceNIdeal Cert.ReferenceNIdeal.Gen Idealize.ShloMosaic

/-- The rows' reciprocal root mean squares. -/
def scale (x : FVec Ideal S81920x1024 .f32) : FVec Ideal S81920x1 .f32 :=
  Host.rsqrt (addf (Host.divf (broadcastInDim S81920x1 ![0] bcast_S81920_S81920x1_0 (Host.reduceAdd (mulf x x) (constant S_ .f32 0x00000000#32) reducesTo_S81920x1024_S81920_d1 h_S_)) (broadcastInDim S81920x1 ![] bcast_S_S81920x1 (constant S_ .f32 0x44800000#32))) (broadcastInDim S81920x1 ![] bcast_S_S81920x1 (constant S_ .f32 0x358637BD#32)))

/-- The reference's result. -/
def out (x : FVec Ideal S81920x1024 .f32) (g : FVec Ideal S1024 .f32) : FVec Ideal S81920x1024 .f32 :=
  mulf (mulf x (broadcastInDim S81920x1024 ![0, 1] bcast_S81920x1_S81920x1024_0_1 (scale x)))
    (broadcastInDim S81920x1024 ![0, 1] bcast_S1x1024_S81920x1024_0_1 (broadcastInDim S1x1024 ![1] bcast_S1024_S1x1024_1 g))

/-- A row's reciprocal root mean square. -/
theorem scale_at (x : FVec Ideal S81920x1024 .f32) (n : Fin 81920) :
    scale x (ix2 n 0) = SpecM.rms (Ideal.ofBits .f32 0x44800000#32) (fun e : Fin 1024 => x (ix2 n e)) := by
  unfold scale SpecM.rms
  pointwise

/-- The reference's result. -/
theorem out_eq (x : FVec Ideal S81920x1024 .f32) (g : FVec Ideal S1024 .f32) : out x g = SpecN.result x g := by
  funext y
  obtain ⟨n, e, rfl⟩ : ∃ (n : Fin 81920) (e : Fin 1024), y = ix2 n e := ⟨y 0, y 1, eq_ix2 y⟩
  show _ = x (ix2 n e) * SpecM.rms (Ideal.ofBits .f32 0x44800000#32) (fun e : Fin 1024 => x (ix2 n e)) * g (ix1 e)
  rw [← scale_at]
  unfold out
  generalize scale x = r
  pointwise

end Cert.RefN

end
-- ==== Proof.ClaimN.lean ====
/- The final normalisation: the claims of its kernel and of its reference, assembled. -/
module

public import proofs.«01_k».proof.Defs
public import proofs.«01_k».proof.Proof.Gen.KernelN.Frame
public import proofs.«01_k».proof.Proof.ArrayN
public import proofs.«01_k».proof.Proof.RefN
public import Idealize.ShloMosaic.Lib.QuiescentFlight

@[expose] public section

set_option maxRecDepth 16384

noncomputable section

namespace Cert.ClaimN

open Idealize.ShloMosaic Idealize.ShloMosaic.TcCoe Idealize.SL.Sem

local instance : Cert.KernelN.Facts := Cert.KernelN.Gen.facts
local instance : Cert.KernelNIdeal.Facts := Cert.KernelNIdeal.Gen.facts
local instance : Cert.ReferenceNIdeal.Facts := Cert.ReferenceNIdeal.Gen.facts

/-- The kernel runs, leaves its arguments alone and ends quiet. -/
theorem kernel : quiescent_KernelN := fun m ρ _ => Cert.KernelN.Gen.frame m ρ

/-- So does it over the extended reals. -/
theorem kernelIdeal : quiescent_KernelNIdeal := fun m ρ _ => Cert.KernelNIdeal.Gen.frame m ρ

/-- A run of the reference: its result is `SpecN.result` of its arguments, which it leaves alone. -/
theorem reference_run (m : (ℓ : Loc Cert.ReferenceNIdeal.nD Cert.ReferenceNIdeal.τ Cert.ReferenceNIdeal.sig) → Buf (Elt Ideal) ℓ)
    (ρ : Dev Cert.ReferenceNIdeal.nD → PrngReg) :
    θ_run Cert.ReferenceNIdeal.defs (onTc (τ := Cert.ReferenceNIdeal.τ) (Cert.ReferenceNIdeal.main (F := Ideal))) ⟨m, fun _ => 0, ρ⟩
      fun r => ∀ c : Dev Cert.ReferenceNIdeal.nD,
        r.2.mem ((c.tc : Thread _ _).loc Cert.ReferenceNIdeal.main_v12)
            = SpecN.result (m ((c.tc : Thread _ _).loc Cert.ReferenceNIdeal.main_arg0)) (m ((c.tc : Thread _ _).loc Cert.ReferenceNIdeal.main_arg1))
        ∧ r.2.mem ((c.tc : Thread _ _).loc Cert.ReferenceNIdeal.main_arg0) = m ((c.tc : Thread _ _).loc Cert.ReferenceNIdeal.main_arg0)
        ∧ r.2.mem ((c.tc : Thread _ _).loc Cert.ReferenceNIdeal.main_arg1) = m ((c.tc : Thread _ _).loc Cert.ReferenceNIdeal.main_arg1) :=
  (θ_run Cert.ReferenceNIdeal.defs _ _).mono
    (fun _ h c => ⟨(h c).1.trans (RefN.out_eq (m ((c.tc : Thread _ _).loc Cert.ReferenceNIdeal.main_arg0)) (m ((c.tc : Thread _ _).loc Cert.ReferenceNIdeal.main_arg1))), (h c).2⟩)
    (Cert.ReferenceNIdeal.Value.run (F := Ideal) m ρ)

/-- The reference runs, leaves its arguments alone and ends quiet. -/
theorem reference : quiescent_ReferenceNIdeal := fun m ρ _ =>
  (θ_run Cert.ReferenceNIdeal.defs _ _).mono (fun r h => ⟨fun c => (h c).2, sem_eq_zero_of_no_sems (by decide) r.2⟩) (reference_run m ρ)

/-- The kernel was read over the extended reals as it is written: no operation was replaced. -/
theorem preserves : preserves_KernelN_KernelNIdeal := trivial

/-- From the same arguments, kernel and reference end with the same result. -/
theorem algebraic : algebraic_KernelNIdeal_ReferenceNIdeal := by
  intro m ρ m' ρ' _ hagree
  refine ⟨_, Cert.KernelNIdeal.Value.run_blocks m ρ, ?_⟩
  refine (θ_run Cert.ReferenceNIdeal.defs _ _).mono (fun _ h c => ⟨(h c).1.trans ?_, (h c).2⟩) (reference_run m' ρ')
  rw [ArrayN.arr_eq m c, (hagree c).1, (hagree c).2]

end Cert.ClaimN

end
-- ==== Proof.SpecP.lean ====
/- What the fused input projection is for one token: the normalised row times the columns of the weights, and of those
   columns the values of the three mixers (mixer C's through a latent that is normalised again) and the gates. -/
module

public import proofs.«01_k».proof.Proof.SpecM

@[expose] public section

noncomputable section

namespace Cert.SpecP

open Idealize.ShloMosaic

/-- A row of `c` numbers, normalised by its root mean square and scaled by the gain. -/
def norm {n : ℕ} (c : EReal) (x g : Fin n → EReal) (d : Fin n) : EReal := x d * SpecM.rms c x * g d

/-- A column of the projection of a token's row. -/
def proj (x g : Fin 1024 → EReal) (w : Fin 1024 → Fin 6272 → EReal) (j : Fin 6272) : EReal :=
  ∑ d, norm (Ideal.ofBits .f32 0x44800000#32) x g d * w d j

/-- The latent of mixer C's keys and values. -/
def latent (p : Fin 6272 → EReal) (k : Fin 256) : EReal := p ⟨2816 + k, by omega⟩

/-- The latent, normalised. -/
def normed (p : Fin 6272 → EReal) (g : Fin 256 → EReal) (k : Fin 256) : EReal :=
  norm (Ideal.ofBits .f32 0x43800000#32) (latent p) g k

/-- Mixer A's value of a head at a feature. -/
def va (p : Fin 6272 → EReal) (h : Fin 2) (e : Fin 64) : EReal := p ⟨768 + (h * 64 + e), by omega⟩

/-- Mixer B's value at a column. -/
def vb (p : Fin 6272 → EReal) (e : Fin 512) : EReal := p ⟨1920 + e, by omega⟩

/-- Mixer C's value of a head at a feature, from the latent. -/
def vc (p : Fin 6272 → EReal) (g : Fin 256 → EReal) (w : Fin 256 → Fin 1536 → EReal) (h : Fin 8) (e : Fin 64) : EReal :=
  ∑ k, normed p g k * w k ⟨1024 + (h * 64 + e), by omega⟩

/-- The position of a token in its sequence: eight sequences of 2048 tokens, then sixteen of 4096. -/
def pos (n : Fin 81920) : ℕ := if n.val < 16384 then n.val % 2048 else (n.val - 16384) % 4096

/-- The angle of a position at a frequency. -/
def angle (t : ℕ) (f : Fin 8) : EReal :=
  FloatOps.sitofp (F := Ideal) .f32 (BitVec.ofNat 32 t) * Ideal.div 1 (Ideal.pow (Ideal.ofBits .f32 0x48F42400#32)
    (Ideal.div (Ideal.ofBits .f32 0x40000000#32 * FloatOps.sitofp (F := Ideal) .f32 (BitVec.ofNat 32 f.val)) (Ideal.ofBits .f32 0x41800000#32)))

/-- The rotary embedding of 64 features at a position: the first eight turn against the next eight, the others stay. -/
def rope (y : Fin 64 → EReal) (t : ℕ) (d : Fin 64) : EReal :=
  if h : d.val < 8 then y d * Ideal.cos (angle t ⟨d, h⟩) - y ⟨d + 8, by omega⟩ * Ideal.sin (angle t ⟨d, h⟩)
  else if h' : d.val < 16 then y d * Ideal.cos (angle t ⟨d - 8, by omega⟩) + y ⟨d - 8, by omega⟩ * Ideal.sin (angle t ⟨d - 8, by omega⟩)
  else y d

/-- The 64 features of a component of a head, of eight in a row, of mixer B's queries. -/
def partQ (p : Fin 6272 → EReal) (k : Fin 8) (d : Fin 64) : EReal := p ⟨896 + (k * 64 + d), by omega⟩

/-- The 64 features of a component of a head, of eight in a row, of mixer B's keys. -/
def partK (p : Fin 6272 → EReal) (k : Fin 8) (d : Fin 64) : EReal := p ⟨1408 + (k * 64 + d), by omega⟩

/-- Mixer B's key at a column. -/
def kb (p : Fin 6272 → EReal) (t : ℕ) (e : Fin 512) : EReal := rope (partK p ⟨e / 64, by omega⟩) t ⟨e % 64, by omega⟩

/-- Mixer B's query at a column: of a head's 256 columns the first 64 hold the first component, the last 64 the second, scaled. -/
def qb (p : Fin 6272 → EReal) (t : ℕ) (e : Fin 1024) : EReal :=
  if e.val % 256 < 64 then rope (partQ p ⟨2 * (e / 256), by omega⟩) t ⟨e % 64, by omega⟩ * Ideal.ofBits .f32 0x3E38AA3B#32
  else if e.val % 256 < 192 then 0
  else rope (partQ p ⟨2 * (e / 256) + 1, by omega⟩) t ⟨e % 64, by omega⟩ * Ideal.ofBits .f32 0x3E38AA3B#32

/-- A gate. -/
def gate (p : Fin 6272 → EReal) (b : Fin 3072 → EReal) (j : Fin 3072) : EReal := Ideal.logistic (p ⟨3200 + j, by omega⟩ + b j)

/-- The projection of a token, from the call's arguments. -/
def row (x : (⟨2, ![81920, 1024]⟩ : Shape).Idx → EReal) (g : (⟨1, ![1024]⟩ : Shape).Idx → EReal) (w : (⟨2, ![1024, 6272]⟩ : Shape).Idx → EReal)
    (n : Fin 81920) : Fin 6272 → EReal :=
  proj (fun d => x (ix2 n d)) (fun d => g (ix1 d)) (fun d j => w (ix2 d j))

/-- Mixer A's values. -/
def valuesA (x : (⟨2, ![81920, 1024]⟩ : Shape).Idx → EReal) (g : (⟨1, ![1024]⟩ : Shape).Idx → EReal) (w : (⟨2, ![1024, 6272]⟩ : Shape).Idx → EReal) :
    (⟨3, ![2, 81920, 64]⟩ : Shape).Idx → EReal :=
  fun y => va (row x g w (y 1)) (y 0) (y 2)

/-- Mixer B's values. -/
def valuesB (x : (⟨2, ![81920, 1024]⟩ : Shape).Idx → EReal) (g : (⟨1, ![1024]⟩ : Shape).Idx → EReal) (w : (⟨2, ![1024, 6272]⟩ : Shape).Idx → EReal) :
    (⟨2, ![81920, 512]⟩ : Shape).Idx → EReal :=
  fun y => vb (row x g w (y 0)) (y 1)

/-- Mixer B's queries. -/
def queriesB (x : (⟨2, ![81920, 1024]⟩ : Shape).Idx → EReal) (g : (⟨1, ![1024]⟩ : Shape).Idx → EReal) (w : (⟨2, ![1024, 6272]⟩ : Shape).Idx → EReal) :
    (⟨2, ![81920, 1024]⟩ : Shape).Idx → EReal :=
  fun y => qb (row x g w (y 0)) (pos (y 0)) (y 1)

/-- Mixer B's keys. -/
def keysB (x : (⟨2, ![81920, 1024]⟩ : Shape).Idx → EReal) (g : (⟨1, ![1024]⟩ : Shape).Idx → EReal) (w : (⟨2, ![1024, 6272]⟩ : Shape).Idx → EReal) :
    (⟨2, ![81920, 512]⟩ : Shape).Idx → EReal :=
  fun y => kb (row x g w (y 0)) (pos (y 0)) (y 1)

/-- Mixer C's values. -/
def valuesC (x : (⟨2, ![81920, 1024]⟩ : Shape).Idx → EReal) (g : (⟨1, ![1024]⟩ : Shape).Idx → EReal) (w : (⟨2, ![1024, 6272]⟩ : Shape).Idx → EReal)
    (gl : (⟨1, ![256]⟩ : Shape).Idx → EReal) (wl : (⟨2, ![256, 1536]⟩ : Shape).Idx → EReal) : (⟨3, ![8, 81920, 64]⟩ : Shape).Idx → EReal :=
  fun y => vc (row x g w (y 1)) (fun k => gl (ix1 k)) (fun k j => wl (ix2 k j)) (y 0) (y 2)

/-- The gates. -/
def gates (x : (⟨2, ![81920, 1024]⟩ : Shape).Idx → EReal) (g : (⟨1, ![1024]⟩ : Shape).Idx → EReal) (w : (⟨2, ![1024, 6272]⟩ : Shape).Idx → EReal)
    (b : (⟨1, ![3072]⟩ : Shape).Idx → EReal) : (⟨2, ![81920, 3072]⟩ : Shape).Idx → EReal :=
  fun y => gate (row x g w (y 0)) (fun j => b (ix1 j)) (y 1)

end Cert.SpecP

end
-- ==== Proof.BodyP.lean ====
/- The fused projection's kernel on one block of 512 tokens: what it stores as the values of the three mixers and as the gates
   are the functions of `SpecP` of the block's rows. -/
module

public import proofs.«01_k».proof.Proof.Gen.KernelPIdeal.Frame
public import proofs.«01_k».proof.Proof.SpecP
public import Idealize.ShloMosaic.Lib.Pipeline.ValueKit

@[expose] public section

set_option maxRecDepth 16384

noncomputable section

namespace Cert.ProjBody

open Cert.KernelPIdeal Cert.KernelPIdeal.Gen Idealize.ShloMosaic

/-- The blocks start at the origin. -/
theorem hz : (![0, 0] : Fin 2 → Nat) = fun _ => 0 := funext fun a => by fin_cases a <;> rfl

/-- The projection of a token of the block. -/
def row (x0 : Vec Ideal S512x1024 .f32) (x1 : Vec Ideal S1x1024 .f32) (x2 : Vec Ideal S1024x6272 .bf16) (i : Fin 512) : Fin 6272 → EReal :=
  SpecP.proj (fun d => x0 (ix2 i d)) (fun d => x1 (ix2 0 d)) (fun d j => x2 (ix2 d j))

/-- A normalised row. -/
theorem norm_at (x0 : Vec Ideal S512x1024 .f32) (x1 : Vec Ideal S1x1024 .f32) (i : Fin 512) (d : Fin 1024) :
    k0_pay2 x0 x1 (ix2 i d) = SpecP.norm (Ideal.ofBits .f32 0x44800000#32) (fun d => x0 (ix2 i d)) (fun d => x1 (ix2 0 d)) d := by
  unfold k0_pay2 SpecP.norm SpecM.rms
  pointwise

/-- The normalised rows as the frame names them. -/
theorem rows_eq (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) :
    k0_pay99 x0 x1 x2 x3 x4 x5 x6 x7 x8 x9 x10 = k0_pay2 x0 x1 := by
  unfold k0_pay99
  rw [View.ld_unit_zero hz, View.ld_unit_zero hz]

/-- A load of a section of the weights' columns. -/
theorem ld_cols (w : Vec Ideal S1024x6272 .bf16) (o n : ℕ) (h : o + n ≤ 6272) (inb : ∀ a, ![0, o] a + ![1024, n] a ≤ S1024x6272.size a)
    (d : Fin 1024) (e : Fin n) :
    View.ld w (Rect.unit (s := S1024x6272) ![0, o] ![1024, n] inb) (ix2 d e) = w (ix2 d ⟨o + e, by omega⟩) := by
  refine View.ld_unit_apply_of w _ _ _ _ _ fun a => ?_
  match a with
  | ⟨0, _⟩ => show d.val = 0 + d.val; omega
  | ⟨1, _⟩ => rfl

/-- A product with a section of the weights is a section of the projection. -/
theorem sum_cols (x0 : Vec Ideal S512x1024 .f32) (x1 : Vec Ideal S1x1024 .f32) (x2 : Vec Ideal S1024x6272 .bf16) (o n : ℕ) (h : o + n ≤ 6272)
    (inb : ∀ a, ![0, o] a + ![1024, n] a ≤ S1024x6272.size a) (i : Fin 512) (e : Fin n) :
    ∑ d : Fin 1024, k0_pay2 x0 x1 (ix2 i d) * View.ld x2 (Rect.unit (s := S1024x6272) ![0, o] ![1024, n] inb) (ix2 d e)
      = row x0 x1 x2 i ⟨o + e, by omega⟩ := by
  unfold row SpecP.proj
  simp only [norm_at, ld_cols x2 o n h inb]

/-- Mixer B's values of the block. -/
theorem vb_at (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (i : Fin 512) (e : Fin 512) :
    out0_16 x0 x1 x2 x3 x4 x5 x6 x7 x8 x9 x10 (ix2 i e) = SpecP.vb (row x0 x1 x2 i) e := by
  unfold out0_16
  rw [View.canon_unit_zero hz, rows_eq]
  have h : ∀ (a : FVec Ideal S512x1024 .bf16) (b : Vec Ideal S1024x512 .bf16), k0_pay63 a b (ix2 i e) = ∑ d : Fin 1024, a (ix2 i d) * b (ix2 d e) := by
    intro a b
    unfold k0_pay63
    pointwise
  rw [h]
  exact sum_cols x0 x1 x2 1920 512 (by omega) _ i e

/-- The gates of the block. -/
theorem gate_at (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (i : Fin 512) (j : Fin 3072) :
    out0_20 x0 x1 x2 x3 x4 x5 x6 x7 x8 x9 x10 (ix2 i j) = SpecP.gate (row x0 x1 x2 i) (fun j => x10 (ix2 0 j)) j := by
  unfold out0_20
  rw [View.canon_unit_zero hz, rows_eq, View.ld_unit_zero (S := S1x3072) hz]
  have h : ∀ (a : FVec Ideal S512x1024 .bf16) (b : Vec Ideal S1024x3072 .bf16),
      k0_pay1 (k0_pay96 a b) (k0_pay97 x10) (ix2 i j) = Ideal.logistic ((∑ d : Fin 1024, a (ix2 i d) * b (ix2 d j)) + x10 (ix2 0 j)) := by
    intro a b
    unfold k0_pay1 k0_pay96 k0_pay97
    pointwise
  rw [h, sum_cols x0 x1 x2 3200 3072 (by omega) _ i j]
  rfl

/-- Mixer A's values of the block. -/
theorem va_at (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (y : S2x512x64.Idx) :
    out0_13 x0 x1 x2 x3 x4 x5 x6 x7 x8 x9 x10 y = SpecP.va (row x0 x1 x2 (y 1)) (y 0) (y 2) := by
  unfold out0_13
  rw [rows_eq]
  have h : ∀ (i : Fin 512) (e : Fin 128), k0_pay41 (k0_pay2 x0 x1) (View.ld x2 r0_24) (ix2 i e) = row x0 x1 x2 i ⟨768 + e, by omega⟩ := by
    intro i e
    have h' : ∀ (a : FVec Ideal S512x1024 .bf16) (b : Vec Ideal S1024x128 .bf16), k0_pay41 a b (ix2 i e) = ∑ d : Fin 1024, a (ix2 i d) * b (ix2 d e) := by
      intro a b
      unfold k0_pay41
      pointwise
    rw [h']
    exact sum_cols x0 x1 x2 768 128 (by omega) _ i e
  refine View.canon_apply_of_pieces (Val := Elt Ideal) (e := .bf16) (fun y : S2x512x64.Idx => SpecP.va (row x0 x1 x2 (y 1)) (y 0) (y 2)) _ ?_ y (cover0_13 _ _ y)
  intro pc hpc
  rcases List.mem_cons.mp hpc with rfl | hpc
  · intro x
    obtain ⟨u, i, e, rfl⟩ : ∃ (u : Fin 1) (i : Fin 512) (e : Fin 64), x = ix3 u i e := ⟨x 0, x 1, x 2, eq_ix3 x⟩
    have : k0_pay43 (k0_pay2 x0 x1) (View.ld x2 r0_24) (ix3 u i e) = k0_pay41 (k0_pay2 x0 x1) (View.ld x2 r0_24) (ix2 i ⟨64 + e, by omega⟩) := by
      unfold k0_pay43
      pointwise
    refine (this.trans (h ..)).trans ?_
    rw [show r0_26.emb (ix3 u i e) = ix3 (1 : Fin 2) i e from by blk_ext []]
    exact congrArg (row x0 x1 x2 i) (Fin.ext (by show 768 + (64 + e.val) = 768 + (1 * 64 + e.val); omega))
  rcases List.mem_cons.mp hpc with rfl | hpc
  · intro x
    obtain ⟨u, i, e, rfl⟩ : ∃ (u : Fin 1) (i : Fin 512) (e : Fin 64), x = ix3 u i e := ⟨x 0, x 1, x 2, eq_ix3 x⟩
    have : k0_pay42 (k0_pay2 x0 x1) (View.ld x2 r0_24) (ix3 u i e) = k0_pay41 (k0_pay2 x0 x1) (View.ld x2 r0_24) (ix2 i ⟨e, by omega⟩) := by
      unfold k0_pay42
      pointwise
    refine (this.trans (h ..)).trans ?_
    rw [show r0_25.emb (ix3 u i e) = ix3 (0 : Fin 2) i e from by blk_ext []]
    exact congrArg (row x0 x1 x2 i) (Fin.ext (by show 768 + e.val = 768 + (0 * 64 + e.val); omega))
  nomatch hpc

/-- The product of the normalised latents with their weights. -/
theorem up_at (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (i : Fin 512) (j : Fin 1536) :
    k0_pay123 x0 x1 x2 x3 x4 x5 x6 x7 x8 x9 x10 (ix2 i j)
      = ∑ k : Fin 256, SpecP.normed (row x0 x1 x2 i) (fun k => x8 (ix2 0 k)) k * x9 (ix2 k j) := by
  have h : ∀ (a : FVec Ideal S512x1024 .bf16) (g : FVec Ideal S1x256 .f32) (w : Vec Ideal S1024x256 .bf16),
      k0_pay76 a g w (constant S512x256 .f32 0x00000000#32) x9 (ix2 i j)
        = ∑ k : Fin 256, (∑ d : Fin 1024, a (ix2 i d) * w (ix2 d k))
            * Ideal.rsqrt (Ideal.div (∑ k : Fin 256, (∑ d : Fin 1024, a (ix2 i d) * w (ix2 d k)) * (∑ d : Fin 1024, a (ix2 i d) * w (ix2 d k))) (Ideal.ofBits .f32 0x43800000#32) + Ideal.ofBits .f32 0x358637BD#32)
            * g (ix2 0 k) * x9 (ix2 k j) := by
    intro a g w
    unfold k0_pay76
    pointwise
  have hg : k0_pay122 x0 x1 x2 x3 x4 x5 x6 x7 x8 x9 x10 = x8 := by
    unfold k0_pay122 k0_pay75
    rw [View.ld_unit_zero hz]
    funext y
    obtain ⟨u, k, rfl⟩ : ∃ (u : Fin 1) (k : Fin 256), y = ix2 u k := ⟨y 0, y 1, eq_ix2 y⟩
    pointwise
  have hl : ∀ k : Fin 256, ∑ d : Fin 1024, k0_pay2 x0 x1 (ix2 i d) * View.ld x2 r0_38 (ix2 d k) = SpecP.latent (row x0 x1 x2 i) k :=
    fun k => sum_cols x0 x1 x2 2816 256 (by omega) _ i k
  unfold k0_pay123 k0_pay121
  rw [View.ld_unit_zero (S := S256x1536) hz, h, hg, rows_eq]
  simp only [hl]
  rfl

/-- Mixer C's values of the block, eight heads of 64 columns. -/
theorem heads_at (z : FVec Ideal S512x1536 .f32) (y : S8x512x64.Idx) :
    View.canon (Val := Elt Ideal) (e := .bf16) [⟨r0_48, k0_pay95 (k0_pay86 z)⟩, ⟨r0_47, k0_pay94 (k0_pay86 z)⟩, ⟨r0_46, k0_pay93 (k0_pay86 z)⟩, ⟨r0_45, k0_pay92 (k0_pay86 z)⟩,
        ⟨r0_44, k0_pay91 (k0_pay90 z)⟩, ⟨r0_43, k0_pay89 z⟩, ⟨r0_42, k0_pay88 z⟩, ⟨r0_41, k0_pay87 z⟩] y
      = z (ix2 (y 1) ⟨1024 + ((y 0).val * 64 + (y 2).val), by have h0 : (y 0).val < 8 := (y 0).isLt; have h2 : (y 2).val < 64 := (y 2).isLt; omega⟩) := by
  refine View.canon_apply_of_pieces (Val := Elt Ideal) (e := .bf16) (fun y : S8x512x64.Idx => z (ix2 (y 1) ⟨1024 + ((y 0).val * 64 + (y 2).val),
    by have h0 : (y 0).val < 8 := (y 0).isLt; have h2 : (y 2).val < 64 := (y 2).isLt; omega⟩)) _ ?_ y (cover0_19 _ _ _ _ _ _ _ _ y)
  intro pc hpc
  simp only [List.mem_cons, List.not_mem_nil, or_false] at hpc
  rcases hpc with rfl | rfl | rfl | rfl | rfl | rfl | rfl | rfl <;> intro x <;>
    obtain ⟨u, i, e, rfl⟩ : ∃ (u : Fin 1) (i : Fin 512) (e : Fin 64), x = ix3 u i e := ⟨x 0, x 1, x 2, eq_ix3 x⟩
  · rw [show r0_48.emb (ix3 u i e) = ix3 (7 : Fin 8) i e from by blk_ext []]; unfold k0_pay95 k0_pay86; pointwise
  · rw [show r0_47.emb (ix3 u i e) = ix3 (6 : Fin 8) i e from by blk_ext []]; unfold k0_pay94 k0_pay86; pointwise
  · rw [show r0_46.emb (ix3 u i e) = ix3 (5 : Fin 8) i e from by blk_ext []]; unfold k0_pay93 k0_pay86; pointwise
  · rw [show r0_45.emb (ix3 u i e) = ix3 (4 : Fin 8) i e from by blk_ext []]; unfold k0_pay92 k0_pay86; pointwise
  · rw [show r0_44.emb (ix3 u i e) = ix3 (3 : Fin 8) i e from by blk_ext []]; unfold k0_pay91 k0_pay90 k0_pay86; pointwise
  · rw [show r0_43.emb (ix3 u i e) = ix3 (2 : Fin 8) i e from by blk_ext []]; unfold k0_pay89 k0_pay86; pointwise
  · rw [show r0_42.emb (ix3 u i e) = ix3 (1 : Fin 8) i e from by blk_ext []]; unfold k0_pay88 k0_pay86; pointwise
  · rw [show r0_41.emb (ix3 u i e) = ix3 (0 : Fin 8) i e from by blk_ext []]; unfold k0_pay87 k0_pay86; pointwise

/-- Mixer C's values of the block. -/
theorem vc_at (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (y : S8x512x64.Idx) :
    out0_19 x0 x1 x2 x3 x4 x5 x6 x7 x8 x9 x10 y = SpecP.vc (row x0 x1 x2 (y 1)) (fun k => x8 (ix2 0 k)) (fun k j => x9 (ix2 k j)) (y 0) (y 2) := by
  unfold out0_19 k0_pay125
  exact (heads_at _ y).trans ((up_at x0 x1 x2 x3 x4 x5 x6 x7 x8 x9 x10 (y 1) _).trans rfl)

end Cert.ProjBody

end
-- ==== Proof.TableP.lean ====
/- The tables of the rotary embedding that the fused projection's call lays out for its kernel, at the lanes of mixer B: the
   cosines and the signed sines of the angles of the positions. -/
module

public import proofs.«01_k».proof.Proof.Gen.KernelPIdeal.Frame
public import proofs.«01_k».proof.Proof.SpecP
public import Idealize.ShloMosaic.Lib.Pipeline.ValueKit

@[expose] public section

set_option maxRecDepth 16384

noncomputable section

namespace Cert.TableP

open Cert.KernelPIdeal Cert.KernelPIdeal.Gen Idealize.ShloMosaic Idealize.ShloMosaic.TcCoe

/-- The frequencies. -/
def inv : FVec Ideal S8 .f32 :=
  Host.divf (broadcastInDim S8 ![] bcast_S_S8 (constant S_ .f32 0x3F800000#32))
    (Host.powf (broadcastInDim S8 ![] bcast_S_S8 (constant S_ .f32 0x48F42400#32))
      (Host.divf (addf (broadcastInDim S8 ![] bcast_S_S8 (constant S_ .f32 0x00000000#32)) (mulf (broadcastInDim S8 ![] bcast_S_S8 (constant S_ .f32 0x40000000#32)) (sitofp .f32 (iotaInDim S8 32 0))))
        (broadcastInDim S8 ![] bcast_S_S8 (constant S_ .f32 0x41800000#32))))

/-- The angles. -/
def ang : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 inv))

/-- A row of lanes from two copies of two groups of 8 lanes and 48 lanes of one number. -/
def lanes (a b : FVec Ideal S4096x8 .f32) (o : FVec Ideal S4096x48 .f32) : FVec Ideal S4096x128 .f32 :=
  concatenate S4096x128 1 [⟨S4096x8, a⟩, ⟨S4096x8, b⟩, ⟨S4096x48, o⟩, ⟨S4096x8, a⟩, ⟨S4096x8, b⟩, ⟨S4096x48, o⟩]
    concatenates_S4096x8_S4096x8_S4096x48_S4096x8_S4096x8_S4096x48_S4096x128_d1

/-- The cosines' lanes. -/
def cosB : FVec Ideal S4096x128 .f32 := lanes (Host.cos ang) (Host.cos ang) (broadcastInDim S4096x48 ![] bcast_S_S4096x48 (constant S_ .f32 0x3F800000#32))

/-- The sines' lanes. -/
def sinB : FVec Ideal S4096x128 .f32 := lanes (Host.negf (Host.sin ang)) (Host.sin ang) (broadcastInDim S4096x48 ![] bcast_S_S4096x48 (constant S_ .f32 0x00000000#32))

/-- The six tables side by side. -/
def side (a b c d e f : FVec Ideal S4096x128 .f32) : FVec Ideal S4096x768 .f32 :=
  concatenate S4096x768 1 [⟨S4096x128, a⟩, ⟨S4096x128, b⟩, ⟨S4096x128, c⟩, ⟨S4096x128, d⟩, ⟨S4096x128, e⟩, ⟨S4096x128, f⟩]
    concatenates_S4096x128_S4096x128_S4096x128_S4096x128_S4096x128_S4096x128_S4096x768_d1

/-- An angle. -/
theorem ang_at (t : Fin 4096) (f : Fin 8) : ang (ix2 t f) = SpecP.angle t.val f := by
  unfold ang inv SpecP.angle
  pointwise

/-- A lane of a row. -/
theorem lanes_at (a b : FVec Ideal S4096x8 .f32) (o : FVec Ideal S4096x48 .f32) (t : Fin 4096) (l : Fin 128) :
    lanes a b o (ix2 t l) = if h : l.val % 64 < 8 then a (ix2 t ⟨l.val % 64, h⟩) else
      if h : l.val % 64 < 16 then b (ix2 t ⟨l.val % 64 - 8, by omega⟩) else o (ix2 t ⟨l.val % 64 - 16, by omega⟩) := by
  unfold lanes
  pointwise
  repeat' split
  all_goals first | omega | (congr 2; exact Fin.ext (by first | omega | (simp only; omega)))

/-- A cosine's lane of the tables. -/
theorem side_cos (a b c d e f : FVec Ideal S4096x128 .f32) (t : Fin 4096) (l : Fin 128) :
    side a b c d e f (ix2 t ⟨256 + l, by omega⟩) = c (ix2 t l) := by
  unfold side
  pointwise
  split_ifs <;> first | omega | (congr 2; exact Fin.ext (by first | omega | (simp only; omega)))

/-- A sine's lane of the tables. -/
theorem side_sin (a b c d e f : FVec Ideal S4096x128 .f32) (t : Fin 4096) (l : Fin 128) :
    side a b c d e f (ix2 t ⟨384 + l, by omega⟩) = d (ix2 t l) := by
  unfold side
  pointwise
  split_ifs <;> first | omega | (congr 2; exact Fin.ext (by first | omega | (simp only; omega)))

/-- The cosine at a lane. -/
def cosOf (t : ℕ) (l : Fin 128) : EReal :=
  if h : l.val % 64 < 8 then Ideal.cos (SpecP.angle t ⟨l.val % 64, h⟩) else
    if h : l.val % 64 < 16 then Ideal.cos (SpecP.angle t ⟨l.val % 64 - 8, by omega⟩) else 1

/-- The signed sine at a lane. -/
def sinOf (t : ℕ) (l : Fin 128) : EReal :=
  if h : l.val % 64 < 8 then -Ideal.sin (SpecP.angle t ⟨l.val % 64, h⟩) else
    if h : l.val % 64 < 16 then Ideal.sin (SpecP.angle t ⟨l.val % 64 - 8, by omega⟩) else 0

variable (m : (ℓ : Loc nD τ sig) → Buf (Elt Ideal) ℓ) (c : Dev nD)

/-- The tables. -/
theorem V_tables : ∃ a b e f : FVec Ideal S4096x128 .f32, V m c main_v95 = side a b cosB sinB e f := by
  refine ⟨?a, ?b, ?e, ?f, ?h⟩
  case h =>
    unfold V
    after_results
    rfl

/-- A cosine of the tables. -/
theorem cos_at (t : Fin 4096) (l : Fin 128) : V m c main_v95 (ix2 t ⟨256 + l, by omega⟩) = cosOf t.val l := by
  obtain ⟨a, b, e, f, h⟩ := V_tables m c
  rw [h, side_cos, cosB, lanes_at, cosOf]
  simp only [← ang_at]
  pointwise

/-- A signed sine of the tables. -/
theorem sin_at (t : Fin 4096) (l : Fin 128) : V m c main_v95 (ix2 t ⟨384 + l, by omega⟩) = sinOf t.val l := by
  obtain ⟨a, b, e, f, h⟩ := V_tables m c
  rw [h, side_sin, sinB, lanes_at, sinOf]
  simp only [← ang_at]
  pointwise

end Cert.TableP

end
-- ==== Proof.BodyPB.lean ====
/- Mixer B's queries and keys on one block of 512 tokens of the fused projection's kernel: turning 128 lanes against their
   rotated copies, chosen by lane, is the rotary embedding of the two components of a head. -/
module

public import proofs.«01_k».proof.Proof.BodyP
public import proofs.«01_k».proof.Proof.TableP
public import Idealize.ShloMosaic.Lib.KernelVsHost

@[expose] public section

set_option maxRecDepth 16384

noncomputable section

namespace Cert.ProjBody

open Cert.KernelPIdeal Cert.KernelPIdeal.Gen Idealize.ShloMosaic

/-- A row rotated along its lanes. -/
theorem rot {α : Type} (n : BitVec 32) (x : S512x128.Idx → α) (h : S512x128.Rotates 1 none) (i : Fin 512) (l : Fin 128) :
    dynamicRotate 1 n none x h (ix2 i l) = x (ix2 i ⟨(l + 128 - n.toNat % 128) % 128, Nat.mod_lt _ (by omega)⟩) := by
  unfold dynamicRotate
  refine congrArg x (funext fun b => ?_)
  match b with
  | ⟨0, _⟩ => rfl
  | ⟨1, _⟩ => rfl

/-- The lanes whose partner lies eight to the left. -/
def left (l : Fin 128) : BitVec 1 := if l.val % 64 < 8 then 0#1 else 1#1

/-- The choice between the rotated copies. -/
theorem mask_at (i : Fin 512) (l : Fin 128) :
    k0_pay15 (iota .tc S512x128 32 [1] iota_S512x128_d1_w32) (k0_pay13 (iota .tc S512x128 32 [1] iota_S512x128_d1_w32)) k0_pay14 (ix2 i l) = left l := by
  unfold k0_pay15 k0_pay13 k0_pay14
  pointwise
  unfold left
  revert l
  decide

/-- The lanes of the first component. -/
theorem low_at (i : Fin 512) (l : Fin 128) : k0_pay9 (ix2 i l) = if l.val < 64 then 1#1 else 0#1 := by
  unfold k0_pay9
  pointwise
  revert l
  decide

/-- The lanes of the second component. -/
theorem high_at (i : Fin 512) (l : Fin 128) :
    k0_pay11 (iota .tc S512x128 32 [1] iota_S512x128_d1_w32) k0_pay10 (ix2 i l) = if l.val < 64 then 0#1 else 1#1 := by
  unfold k0_pay11 k0_pay10
  pointwise
  revert l
  decide

/-- 128 lanes turned against their rotated copies. -/
def turn (z c s : FVec Ideal S512x128 .f32) (m : IVec S512x128 1) : FVec Ideal S512x128 .f32 :=
  addf (mulf z c) (mulf (select m (dynamicRotate 1 8#32 none z rotates_S512x128_d1) (dynamicRotate 1 120#32 none z rotates_S512x128_d1)) s)

/-- They are the rotary embedding of each half. -/
theorem turn_at (z c s : FVec Ideal S512x128 .f32) (m : IVec S512x128 1) (t : ℕ) (i : Fin 512) (hm : ∀ l, m (ix2 i l) = left l)
    (hc : ∀ l, c (ix2 i l) = TableP.cosOf t l) (hs : ∀ l, s (ix2 i l) = TableP.sinOf t l) (l : Fin 128) :
    turn z c s m (ix2 i l) = SpecP.rope (fun d => z (ix2 i ⟨l / 64 * 64 + d, by omega⟩)) t ⟨l % 64, by omega⟩ := by
  unfold turn
  pointwise
  simp only [rot, hm, hc, hs]
  unfold left TableP.cosOf TableP.sinOf SpecP.rope
  have hw : ∀ {a b : Fin 128}, a.val = b.val → z (ix2 i a) = z (ix2 i b) := fun h => congrArg (fun e => z (ix2 i e)) (Fin.ext h)
  have he : z (ix2 i ⟨l / 64 * 64 + l % 64, by omega⟩) = z (ix2 i l) := hw (by show l.val / 64 * 64 + l.val % 64 = l.val; omega)
  by_cases h8 : l.val % 64 < 8
  · simp only [h8, dif_pos, if_pos, he]
    rw [show Scalar.select 0#1 (z (ix2 i ⟨(l + 128 - 8) % 128, by omega⟩)) (z (ix2 i ⟨(l + 128 - 120) % 128, by omega⟩)) = z (ix2 i ⟨l / 64 * 64 + (l % 64 + 8), by omega⟩)
      from hw (by show (l.val + 128 - 120) % 128 = l.val / 64 * 64 + (l.val % 64 + 8); omega), mul_neg, ← sub_eq_add_neg]
  · by_cases h16 : l.val % 64 < 16
    · simp only [h8, h16, dif_pos, dif_neg, if_neg, not_false_eq_true, he]
      rw [show Scalar.select 1#1 (z (ix2 i ⟨(l + 128 - 8) % 128, by omega⟩)) (z (ix2 i ⟨(l + 128 - 120) % 128, by omega⟩)) = z (ix2 i ⟨l / 64 * 64 + (l % 64 - 8), by omega⟩)
        from hw (by show (l.val + 128 - 8) % 128 = l.val / 64 * 64 + (l.val % 64 - 8); omega)]
    · simp only [h8, h16, dif_neg, not_false_eq_true, he, mul_one, mul_zero, add_zero]

/-- The stored keys' columns 0 to 127 as a turn. -/
theorem key_0 (a : FVec Ideal S512x1024 .bf16) (c s : FVec Ideal S512x128 .f32) (m : IVec S512x128 1) (w : Vec Ideal S1024x512 .bf16) (i : Fin 512) (l : Fin 128) :
    k0_pay59 a c s m w (ix2 i l) = turn (extractStridedSlice S512x128 ![0, 0] (k0_pay58 a w) slices_S512x512_o0_0_S512x128) c s m (ix2 i l) := by
  unfold k0_pay59 turn
  rfl

/-- The stored keys' columns 128 to 255 as a turn. -/
theorem key_128 (a : FVec Ideal S512x1024 .bf16) (c s : FVec Ideal S512x128 .f32) (m : IVec S512x128 1) (w : Vec Ideal S1024x512 .bf16) (i : Fin 512) (l : Fin 128) :
    k0_pay60 a c s m w (ix2 i l) = turn (extractStridedSlice S512x128 ![0, 128] (k0_pay58 a w) slices_S512x512_o0_128_S512x128) c s m (ix2 i l) := by
  unfold k0_pay60 turn
  rfl

/-- The stored keys' columns 256 to 383 as a turn. -/
theorem key_256 (c s : FVec Ideal S512x128 .f32) (m : IVec S512x128 1) (z : FVec Ideal S512x512 .f32) (i : Fin 512) (l : Fin 128) :
    k0_pay61 c s m z (ix2 i l) = turn (extractStridedSlice S512x128 ![0, 256] z slices_S512x512_o0_256_S512x128) c s m (ix2 i l) := by
  unfold k0_pay61 turn
  rfl

/-- The stored keys' columns 384 to 511 as a turn. -/
theorem key_384 (c s : FVec Ideal S512x128 .f32) (m : IVec S512x128 1) (z : FVec Ideal S512x512 .f32) (i : Fin 512) (l : Fin 128) :
    k0_pay62 c s m z (ix2 i l) = turn (extractStridedSlice S512x128 ![0, 384] z slices_S512x512_o0_384_S512x128) c s m (ix2 i l) := by
  unfold k0_pay62 turn
  rfl

/-- What is stored of the first component of head 0's queries, as a turn. -/
theorem query_0_first (a : FVec Ideal S512x1024 .bf16) (c s : FVec Ideal S512x128 .f32) (v m : IVec S512x128 1) (w : Vec Ideal S1024x512 .bf16) :
    k0_pay46 a c s v m w = (truncf .bf16 (select v (mulf (turn (extractStridedSlice S512x128 ![0, 0] (k0_pay44 a w) slices_S512x512_o0_0_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay46 k0_pay45 turn
  rfl

/-- What is stored of the second component of head 0's queries, as a turn. -/
theorem query_0_second (a : FVec Ideal S512x1024 .bf16) (c s : FVec Ideal S512x128 .f32) (v m : IVec S512x128 1) (w : Vec Ideal S1024x512 .bf16) :
    k0_pay47 a c s v m w = (truncf .bf16 (select v (mulf (turn (extractStridedSlice S512x128 ![0, 0] (k0_pay44 a w) slices_S512x512_o0_0_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay47 k0_pay45 turn
  rfl

/-- What is stored of the first component of head 1's queries, as a turn. -/
theorem query_1_first (c s : FVec Ideal S512x128 .f32) (v m : IVec S512x128 1) (z : FVec Ideal S512x512 .f32) :
    k0_pay49 c s v m z = (truncf .bf16 (select v (mulf (turn (extractStridedSlice S512x128 ![0, 128] z slices_S512x512_o0_128_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay49 k0_pay48 turn
  rfl

/-- What is stored of the second component of head 1's queries, as a turn. -/
theorem query_1_second (c s : FVec Ideal S512x128 .f32) (v m : IVec S512x128 1) (z : FVec Ideal S512x512 .f32) :
    k0_pay50 c s v m z = (truncf .bf16 (select v (mulf (turn (extractStridedSlice S512x128 ![0, 128] z slices_S512x512_o0_128_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay50 k0_pay48 turn
  rfl

/-- What is stored of the first component of head 2's queries, as a turn. -/
theorem query_2_first (c s : FVec Ideal S512x128 .f32) (v m : IVec S512x128 1) (z : FVec Ideal S512x512 .f32) :
    k0_pay52 c s v m z = (truncf .bf16 (select v (mulf (turn (extractStridedSlice S512x128 ![0, 256] z slices_S512x512_o0_256_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay52 k0_pay51 turn
  rfl

/-- What is stored of the second component of head 2's queries, as a turn. -/
theorem query_2_second (c s : FVec Ideal S512x128 .f32) (v m : IVec S512x128 1) (z : FVec Ideal S512x512 .f32) :
    k0_pay53 c s v m z = (truncf .bf16 (select v (mulf (turn (extractStridedSlice S512x128 ![0, 256] z slices_S512x512_o0_256_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay53 k0_pay51 turn
  rfl

/-- What is stored of the first component of head 3's queries, as a turn. -/
theorem query_3_first (c s : FVec Ideal S512x128 .f32) (v m : IVec S512x128 1) (z : FVec Ideal S512x512 .f32) :
    k0_pay56 c s v m (k0_pay54 z) = (truncf .bf16 (select v (mulf (turn (extractStridedSlice S512x128 ![0, 384] z slices_S512x512_o0_384_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay56 k0_pay55 k0_pay54 turn
  rfl

/-- What is stored of the second component of head 3's queries, as a turn. -/
theorem query_3_second (c s : FVec Ideal S512x128 .f32) (v m : IVec S512x128 1) (z : FVec Ideal S512x512 .f32) :
    k0_pay57 c s v m (k0_pay54 z) = (truncf .bf16 (select v (mulf (turn (extractStridedSlice S512x128 ![0, 384] z slices_S512x512_o0_384_S512x128) c s m)
      (broadcast S512x128 (Scalar.ofBits .f32 0x3E38AA3B#32))) (broadcast S512x128 (Scalar.ofBits .f32 0x00000000#32))) bitsLt_bf16_f32 : FVec Ideal S512x128 .bf16) := by
  unfold k0_pay57 k0_pay55 k0_pay54 turn
  rfl

/-- A load of a section of the tables' lanes. -/
theorem ld_lanes (x : Vec Ideal S512x768 .f32) (o : ℕ) (h : o + 128 ≤ 768) (inb : ∀ a, ![0, o] a + ![512, 128] a ≤ S512x768.size a)
    (i : Fin 512) (l : Fin 128) :
    View.ld x (Rect.unit (s := S512x768) ![0, o] ![512, 128] inb) (ix2 i l) = x (ix2 i ⟨o + l, by omega⟩) := by
  refine View.ld_unit_apply_of x _ _ _ _ _ fun a => ?_
  match a with
  | ⟨0, _⟩ => show i.val = 0 + i.val; omega
  | ⟨1, _⟩ => rfl

/-- The cosines as the frame names them. -/
theorem cos_lane (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (i : Fin 512) (l : Fin 128) : k0_pay102 x0 x1 x2 x3 x4 x5 x6 x7 x8 x9 x10 (ix2 i l) = x3 (ix2 i ⟨256 + l, by omega⟩) := by
  have h : ∀ z : Vec Ideal S512x128 .f32, k0_pay5 z (ix2 i l) = z (ix2 i l) := by
    intro z
    unfold k0_pay5
    pointwise
  unfold k0_pay102
  rw [h]
  exact ld_lanes x3 256 (by omega) _ i l

/-- The signed sines as the frame names them. -/
theorem sin_lane (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (i : Fin 512) (l : Fin 128) : k0_pay103 x0 x1 x2 x3 x4 x5 x6 x7 x8 x9 x10 (ix2 i l) = x3 (ix2 i ⟨384 + l, by omega⟩) := by
  have h : ∀ z : Vec Ideal S512x128 .f32, k0_pay6 z (ix2 i l) = z (ix2 i l) := by
    intro z
    unfold k0_pay6
    pointwise
  unfold k0_pay103
  rw [h]
  exact ld_lanes x3 384 (by omega) _ i l

/-- 128 of the columns that hold the keys, turned, are keys. -/
theorem turn_key (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (T : Fin 512 → ℕ)
    (hc : ∀ (i : Fin 512) (l : Fin 128), x3 (ix2 i ⟨256 + l, by omega⟩) = TableP.cosOf (T i) l)
    (hs : ∀ (i : Fin 512) (l : Fin 128), x3 (ix2 i ⟨384 + l, by omega⟩) = TableP.sinOf (T i) l) (z : FVec Ideal S512x128 .f32) (o : ℕ) (ho : o + 128 ≤ 512) (hdvd : 64 ∣ o) (i : Fin 512)
    (hz : ∀ l : Fin 128, z (ix2 i l) = row x0 x1 x2 i ⟨1408 + (o + l), by omega⟩) (l : Fin 128) :
    turn z (k0_pay102 x0 x1 x2 x3 x4 x5 x6 x7 x8 x9 x10) (k0_pay103 x0 x1 x2 x3 x4 x5 x6 x7 x8 x9 x10) (k0_pay109 x0 x1 x2 x3 x4 x5 x6 x7 x8 x9 x10) (ix2 i l) = SpecP.kb (row x0 x1 x2 i) (T i) ⟨o + l, by omega⟩ := by
  have ht := turn_at z (k0_pay102 x0 x1 x2 x3 x4 x5 x6 x7 x8 x9 x10) (k0_pay103 x0 x1 x2 x3 x4 x5 x6 x7 x8 x9 x10) (k0_pay109 x0 x1 x2 x3 x4 x5 x6 x7 x8 x9 x10) (T i) i (fun l => mask_at i l) (fun l => (cos_lane ..).trans (hc i l))
    (fun l => (sin_lane ..).trans (hs i l)) l
  rw [ht]
  obtain ⟨q, rfl⟩ := hdvd
  unfold SpecP.kb SpecP.partK
  simp only [hz]
  congr 1
  · funext d
    exact congrArg (row x0 x1 x2 i) (Fin.ext (by show 1408 + (64 * q + (l.val / 64 * 64 + d.val)) = 1408 + ((64 * q + l.val) / 64 * 64 + d.val); omega))
  · exact Fin.ext (by show l.val % 64 = (64 * q + l.val) % 64; omega)

/-- Mixer B's keys of the block. -/
theorem kb_at (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (T : Fin 512 → ℕ)
    (hc : ∀ (i : Fin 512) (l : Fin 128), x3 (ix2 i ⟨256 + l, by omega⟩) = TableP.cosOf (T i) l)
    (hs : ∀ (i : Fin 512) (l : Fin 128), x3 (ix2 i ⟨384 + l, by omega⟩) = TableP.sinOf (T i) l) (y : S512x512.Idx) :
    out0_15 x0 x1 x2 x3 x4 x5 x6 x7 x8 x9 x10 y = SpecP.kb (row x0 x1 x2 (y 0)) (T (y 0)) (y 1) := by
  have hp : ∀ (i : Fin 512) (e : Fin 512), k0_pay58 (k0_pay99 x0 x1 x2 x3 x4 x5 x6 x7 x8 x9 x10) (View.ld x2 r0_28) (ix2 i e) = row x0 x1 x2 i ⟨1408 + e, by omega⟩ := by
    intro i e
    have h : ∀ (a : FVec Ideal S512x1024 .bf16) (b : Vec Ideal S1024x512 .bf16), k0_pay58 a b (ix2 i e) = ∑ d : Fin 1024, a (ix2 i d) * b (ix2 d e) := by
      intro a b
      unfold k0_pay58
      pointwise
    rw [h, rows_eq]
    exact sum_cols x0 x1 x2 1408 512 (by omega) _ i e
  unfold out0_15 k0_pay117
  refine View.canon_apply_of_pieces (Val := Elt Ideal) (e := .bf16) (fun y : S512x512.Idx => SpecP.kb (row x0 x1 x2 (y 0)) (T (y 0)) (y 1)) _ ?_ y
    (cover0_15 _ _ _ _ y)
  intro pc hpc
  simp only [List.mem_cons, List.not_mem_nil, or_false] at hpc
  rcases hpc with rfl | rfl | rfl | rfl <;> intro x <;>
    obtain ⟨i, l, rfl⟩ : ∃ (i : Fin 512) (l : Fin 128), x = ix2 i l := ⟨x 0, x 1, eq_ix2 x⟩
  · rw [show r0_32.emb (ix2 i l) = ix2 i (⟨384 + l, by omega⟩ : Fin 512) from by blk_ext []]
    refine (key_384 ..).trans ?_
    have hk := turn_key x0 x1 x2 x3 x4 x5 x6 x7 x8 x9 x10 T hc hs (extractStridedSlice S512x128 ![0, 384] (k0_pay58 (k0_pay99 x0 x1 x2 x3 x4 x5 x6 x7 x8 x9 x10) (View.ld x2 r0_28)) slices_S512x512_o0_384_S512x128) 384 (by omega) (by omega) i
      (fun l => by pointwise; exact hp i ⟨384 + l, by omega⟩) l
    refine hk.trans ?_
    rfl
  · rw [show r0_31.emb (ix2 i l) = ix2 i (⟨256 + l, by omega⟩ : Fin 512) from by blk_ext []]
    refine (key_256 ..).trans ?_
    have hk := turn_key x0 x1 x2 x3 x4 x5 x6 x7 x8 x9 x10 T hc hs (extractStridedSlice S512x128 ![0, 256] (k0_pay58 (k0_pay99 x0 x1 x2 x3 x4 x5 x6 x7 x8 x9 x10) (View.ld x2 r0_28)) slices_S512x512_o0_256_S512x128) 256 (by omega) (by omega) i
      (fun l => by pointwise; exact hp i ⟨256 + l, by omega⟩) l
    refine hk.trans ?_
    rfl
  · rw [show r0_30.emb (ix2 i l) = ix2 i (⟨128 + l, by omega⟩ : Fin 512) from by blk_ext []]
    refine (key_128 ..).trans ?_
    have hk := turn_key x0 x1 x2 x3 x4 x5 x6 x7 x8 x9 x10 T hc hs (extractStridedSlice S512x128 ![0, 128] (k0_pay58 (k0_pay99 x0 x1 x2 x3 x4 x5 x6 x7 x8 x9 x10) (View.ld x2 r0_28)) slices_S512x512_o0_128_S512x128) 128 (by omega) (by omega) i
      (fun l => by pointwise; exact hp i ⟨128 + l, by omega⟩) l
    refine hk.trans ?_
    rfl
  · rw [show r0_29.emb (ix2 i l) = ix2 i (⟨0 + l, by omega⟩ : Fin 512) from by blk_ext []]
    refine (key_0 ..).trans ?_
    have hk := turn_key x0 x1 x2 x3 x4 x5 x6 x7 x8 x9 x10 T hc hs (extractStridedSlice S512x128 ![0, 0] (k0_pay58 (k0_pay99 x0 x1 x2 x3 x4 x5 x6 x7 x8 x9 x10) (View.ld x2 r0_28)) slices_S512x512_o0_0_S512x128) 0 (by omega) (by omega) i
      (fun l => by pointwise; exact hp i ⟨l, by omega⟩) l
    refine hk.trans ?_
    rfl

/-- 128 of the columns that hold the queries, turned and scaled, are the two components of a head. -/
theorem turn_query (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (T : Fin 512 → ℕ)
    (hc : ∀ (i : Fin 512) (l : Fin 128), x3 (ix2 i ⟨256 + l, by omega⟩) = TableP.cosOf (T i) l)
    (hs : ∀ (i : Fin 512) (l : Fin 128), x3 (ix2 i ⟨384 + l, by omega⟩) = TableP.sinOf (T i) l) (z : FVec Ideal S512x128 .f32) (h : ℕ) (hh : h < 4) (i : Fin 512)
    (hz : ∀ l : Fin 128, z (ix2 i l) = row x0 x1 x2 i ⟨896 + (128 * h + l), by omega⟩) (l : Fin 128) :
    mulf (turn z (k0_pay102 x0 x1 x2 x3 x4 x5 x6 x7 x8 x9 x10) (k0_pay103 x0 x1 x2 x3 x4 x5 x6 x7 x8 x9 x10) (k0_pay109 x0 x1 x2 x3 x4 x5 x6 x7 x8 x9 x10)) (broadcast S512x128 (Scalar.ofBits .f32 0x3E38AA3B#32)) (ix2 i l)
      = SpecP.rope (SpecP.partQ (row x0 x1 x2 i) ⟨2 * h + l / 64, by omega⟩) (T i) ⟨l % 64, by omega⟩ * Ideal.ofBits .f32 0x3E38AA3B#32 := by
  have ht := turn_at z (k0_pay102 x0 x1 x2 x3 x4 x5 x6 x7 x8 x9 x10) (k0_pay103 x0 x1 x2 x3 x4 x5 x6 x7 x8 x9 x10) (k0_pay109 x0 x1 x2 x3 x4 x5 x6 x7 x8 x9 x10) (T i) i (fun l => mask_at i l) (fun l => (cos_lane ..).trans (hc i l))
    (fun l => (sin_lane ..).trans (hs i l)) l
  pointwise
  rw [ht]
  unfold SpecP.partQ
  simp only [hz]
  congr 2
  funext d
  exact congrArg (row x0 x1 x2 i) (Fin.ext (by show 896 + (128 * h + (l.val / 64 * 64 + d.val)) = 896 + ((2 * h + l.val / 64) * 64 + d.val); omega))

/-- The first 128 of a head's 256 columns keep the first component. -/
theorem low_query (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (T : Fin 512 → ℕ)
    (hc : ∀ (i : Fin 512) (l : Fin 128), x3 (ix2 i ⟨256 + l, by omega⟩) = TableP.cosOf (T i) l)
    (hs : ∀ (i : Fin 512) (l : Fin 128), x3 (ix2 i ⟨384 + l, by omega⟩) = TableP.sinOf (T i) l) (v : FVec Ideal S512x128 .f32) (h : ℕ) (hh : h < 4) (i : Fin 512)
    (hv : ∀ l : Fin 128, v (ix2 i l) = SpecP.rope (SpecP.partQ (row x0 x1 x2 i) ⟨2 * h + l / 64, by omega⟩) (T i) ⟨l % 64, by omega⟩ * Ideal.ofBits .f32 0x3E38AA3B#32)
    (l : Fin 128) :
    (truncf .bf16 (select (k0_pay106 x0 x1 x2 x3 x4 x5 x6 x7 x8 x9 x10) v (broadcast S512x128 (Scalar.ofBits .f32 0x00000000#32))) bitsLt_bf16_f32 : FVec Ideal S512x128 .bf16) (ix2 i l)
      = SpecP.qb (row x0 x1 x2 i) (T i) ⟨256 * h + l, by omega⟩ := by
  have hm : k0_pay106 x0 x1 x2 x3 x4 x5 x6 x7 x8 x9 x10 (ix2 i l) = if l.val < 64 then 1#1 else 0#1 := low_at i l
  pointwise
  rw [hm, hv]
  unfold SpecP.qb
  by_cases hl : l.val < 64
  · rw [if_pos hl, if_pos (show (256 * h + l.val) % 256 < 64 by omega)]
    show SpecP.rope _ _ _ * _ = _
    congr 2
    · exact congrArg _ (Fin.ext (by show 2 * h + l.val / 64 = 2 * ((256 * h + l.val) / 256); omega))
    · exact Fin.ext (by show l.val % 64 = (256 * h + l.val) % 64; omega)
  · rw [if_neg hl, if_neg (show ¬ (256 * h + l.val) % 256 < 64 by omega), if_pos (show (256 * h + l.val) % 256 < 192 by omega)]
    rfl

/-- The last 128 of a head's 256 columns keep the second component. -/
theorem high_query (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (T : Fin 512 → ℕ)
    (hc : ∀ (i : Fin 512) (l : Fin 128), x3 (ix2 i ⟨256 + l, by omega⟩) = TableP.cosOf (T i) l)
    (hs : ∀ (i : Fin 512) (l : Fin 128), x3 (ix2 i ⟨384 + l, by omega⟩) = TableP.sinOf (T i) l) (v : FVec Ideal S512x128 .f32) (h : ℕ) (hh : h < 4) (i : Fin 512)
    (hv : ∀ l : Fin 128, v (ix2 i l) = SpecP.rope (SpecP.partQ (row x0 x1 x2 i) ⟨2 * h + l / 64, by omega⟩) (T i) ⟨l % 64, by omega⟩ * Ideal.ofBits .f32 0x3E38AA3B#32)
    (l : Fin 128) :
    (truncf .bf16 (select (k0_pay107 x0 x1 x2 x3 x4 x5 x6 x7 x8 x9 x10) v (broadcast S512x128 (Scalar.ofBits .f32 0x00000000#32))) bitsLt_bf16_f32 : FVec Ideal S512x128 .bf16) (ix2 i l)
      = SpecP.qb (row x0 x1 x2 i) (T i) ⟨256 * h + (128 + l), by omega⟩ := by
  have hm : k0_pay107 x0 x1 x2 x3 x4 x5 x6 x7 x8 x9 x10 (ix2 i l) = if l.val < 64 then 0#1 else 1#1 := high_at i l
  pointwise
  rw [hm, hv]
  unfold SpecP.qb
  by_cases hl : l.val < 64
  · rw [if_pos hl, if_neg (show ¬ (256 * h + (128 + l.val)) % 256 < 64 by omega), if_pos (show (256 * h + (128 + l.val)) % 256 < 192 by omega)]
    rfl
  · rw [if_neg hl, if_neg (show ¬ (256 * h + (128 + l.val)) % 256 < 64 by omega), if_neg (show ¬ (256 * h + (128 + l.val)) % 256 < 192 by omega)]
    show SpecP.rope _ _ _ * _ = _
    congr 2
    · exact congrArg _ (Fin.ext (by show 2 * h + l.val / 64 = 2 * ((256 * h + (128 + l.val)) / 256) + 1; omega))
    · exact Fin.ext (by show l.val % 64 = (256 * h + (128 + l.val)) % 64; omega)

/-- Mixer B's queries of the block. -/
theorem qb_at (x0 : Vec Ideal S512x1024 .f32) (x1 : Vec Ideal S1x1024 .f32) (x2 : Vec Ideal S1024x6272 .bf16) (x3 : Vec Ideal S512x768 .f32)
    (x4 : Vec Ideal S8x128 .f32) (x5 : Vec Ideal S512x512 .bf16) (x6 : Vec Ideal S1x384 .f32) (x7 : Vec Ideal S384x2048 .bf16)
    (x8 : Vec Ideal S1x256 .f32) (x9 : Vec Ideal S256x1536 .bf16) (x10 : Vec Ideal S1x3072 .f32) (T : Fin 512 → ℕ)
    (hc : ∀ (i : Fin 512) (l : Fin 128), x3 (ix2 i ⟨256 + l, by omega⟩) = TableP.cosOf (T i) l)
    (hs : ∀ (i : Fin 512) (l : Fin 128), x3 (ix2 i ⟨384 + l, by omega⟩) = TableP.sinOf (T i) l) (y : S512x1024.Idx) :
    out0_14 x0 x1 x2 x3 x4 x5 x6 x7 x8 x9 x10 y = SpecP.qb (row x0 x1 x2 (y 0)) (T (y 0)) (y 1) := by
  have hp : ∀ (i : Fin 512) (e : Fin 512), k0_pay44 (k0_pay99 x0 x1 x2 x3 x4 x5 x6 x7 x8 x9 x10) (View.ld x2 r0_27) (ix2 i e) = row x0 x1 x2 i ⟨896 + e, by omega⟩ := by
    intro i e
    have h : ∀ (a : FVec Ideal S512x1024 .bf16) (b : Vec Ideal S1024x512 .bf16), k0_pay44 a b (ix2 i e) = ∑ d : Fin 1024, a (ix2 i d) * b (ix2 d e) := by
      intro a b
      unfold k0_pay44
      pointwise
    rw [h, rows_eq]
    exact sum_cols x0 x1 x2 896 512 (by omega) _ i e
  have t0 := fun i : Fin 512 => turn_query x0 x1 x2 x3 x4 x5 x6 x7 x8 x9 x10 T hc hs
    (extractStridedSlice S512x128 ![0, 0] (k0_pay44 (k0_pay99 x0 x1 x2 x3 x4 x5 x6 x7 x8 x9 x10) (View.ld x2 r0_27)) slices_S512x512_o0_0_S512x128) 0 (by omega) i
    (fun l => by pointwise; exact hp i ⟨l, by omega⟩)
  have t1 := fun i : Fin 512 => turn_query x0 x1 x2 x3 x4 x5 x6 x7 x8 x9 x10 T hc hs
    (extractStridedSlice S512x128 ![0, 128] (k0_pay44 (k0_pay99 x0 x1 x2 x3 x4 x5 x6 x7 x8 x9 x10) (View.ld x2 r0_27)) slices_S512x512_o0_128_S512x128) 1 (by omega) i
    (fun l => by pointwise; exact hp i ⟨128 + l, by omega⟩)
  have t2 := fun i : Fin 512 => turn_query x0 x1 x2 x3 x4 x5 x6 x7 x8 x9 x10 T hc hs
    (extractStridedSlice S512x128 ![0, 256] (k0_pay44 (k0_pay99 x0 x1 x2 x3 x4 x5 x6 x7 x8 x9 x10) (View.ld x2 r0_27)) slices_S512x512_o0_256_S512x128) 2 (by omega) i
    (fun l => by pointwise; exact hp i ⟨256 + l, by omega⟩)
  have t3 := fun i : Fin 512 => turn_query x0 x1 x2 x3 x4 x5 x6 x7 x8 x9 x10 T hc hs
    (extractStridedSlice S512x128 ![0, 384] (k0_pay44 (k0_pay99 x0 x1 x2 x3 x4 x5 x6 x7 x8 x9 x10) (View.ld x2 r0_27)) slices_S512x512_o0_384_S512x128) 3 (by omega) i
    (fun l => by pointwise; exact hp i ⟨384 + l, by omega⟩)
  unfold out0_14 k0_pay116 k0_pay115
  refine View.canon_apply_of_pieces (Val := Elt Ideal) (e := .bf16) (fun y : S512x1024.Idx => SpecP.qb (row x0 x1 x2 (y 0)) (T (y 0)) (y 1)) _ ?_ y
    (cover0_14 _ _ _ _ _ _ _ _ y)
  intro pc hpc
  simp only [List.mem_cons, List.not_mem_nil, or_false] at hpc
  rcases hpc with rfl | rfl | rfl | rfl | rfl | rfl | rfl | rfl <;> intro x <;>
    obtain ⟨i, l, rfl⟩ : ∃ (i : Fin 512) (l : Fin 128), x = ix2 i l := ⟨x 0, x 1, eq_ix2 x⟩
  · rw [show r0_19.emb (ix2 i l) = ix2 i (⟨256 * 3 + (128 + l), by omega⟩ : Fin 1024) from by blk_ext []]
    refine (congrFun (query_3_second ..) (ix2 i l)).trans ?_
    exact high_query x0 x1 x2 x3 x4 x5 x6 x7 x8 x9 x10 T hc hs _ 3 (by omega) i (t3 i) l
  · rw [show r0_18.emb (ix2 i l) = ix2 i (⟨256 * 3 + l, by omega⟩ : Fin 1024) from by blk_ext []]
    refine (congrFun (query_3_first ..) (ix2 i l)).trans ?_
    exact low_query x0 x1 x2 x3 x4 x5 x6 x7 x8 x9 x10 T hc hs _ 3 (by omega) i (t3 i) l
  · rw [show r0_17.emb (ix2 i l) = ix2 i (⟨256 * 2 + (128 + l), by omega⟩ : Fin 1024) from by blk_ext []]
    refine (congrFun (query_2_second ..) (ix2 i l)).trans ?_
    exact high_query x0 x1 x2 x3 x4 x5 x6 x7 x8 x9 x10 T hc hs _ 2 (by omega) i (t2 i) l
  · rw [show r0_16.emb (ix2 i l) = ix2 i (⟨256 * 2 + l, by omega⟩ : Fin 1024) from by blk_ext []]
    refine (congrFun (query_2_first ..) (ix2 i l)).trans ?_
    exact low_query x0 x1 x2 x3 x4 x5 x6 x7 x8 x9 x10 T hc hs _ 2 (by omega) i (t2 i) l
  · rw [show r0_15.emb (ix2 i l) = ix2 i (⟨256 * 1 + (128 + l), by omega⟩ : Fin 1024) from by blk_ext []]
    refine (congrFun (query_1_second ..) (ix2 i l)).trans ?_
    exact high_query x0 x1 x2 x3 x4 x5 x6 x7 x8 x9 x10 T hc hs _ 1 (by omega) i (t1 i) l
  · rw [show r0_14.emb (ix2 i l) = ix2 i (⟨256 * 1 + l, by omega⟩ : Fin 1024) from by blk_ext []]
    refine (congrFun (query_1_first ..) (ix2 i l)).trans ?_
    exact low_query x0 x1 x2 x3 x4 x5 x6 x7 x8 x9 x10 T hc hs _ 1 (by omega) i (t1 i) l
  · rw [show r0_13.emb (ix2 i l) = ix2 i (⟨256 * 0 + (128 + l), by omega⟩ : Fin 1024) from by blk_ext []]
    refine (congrFun (query_0_second ..) (ix2 i l)).trans ?_
    exact high_query x0 x1 x2 x3 x4 x5 x6 x7 x8 x9 x10 T hc hs _ 0 (by omega) i (t0 i) l
  · rw [show r0_12.emb (ix2 i l) = ix2 i (⟨256 * 0 + l, by omega⟩ : Fin 1024) from by blk_ext []]
    refine (congrFun (query_0_first ..) (ix2 i l)).trans ?_
    exact low_query x0 x1 x2 x3 x4 x5 x6 x7 x8 x9 x10 T hc hs _ 0 (by omega) i (t0 i) l

end Cert.ProjBody

end
-- ==== Proof.ArrayP.lean ====
/- The fused projection's kernel over its grid of blocks of 512 tokens: what the blocks of each point are in the arrays, and the
   arrays the run leaves for the values of the three mixers and for the gates, the functions of `SpecP` of the arguments. -/
module

public import proofs.«01_k».proof.Proof.Gen.KernelPIdeal.Frame
public import proofs.«01_k».proof.Proof.BodyPB
public import Idealize.ShloMosaic.Lib.Pipeline.ValueKit
public import Idealize.ShloMosaic.Lib.Pipeline.Covers

@[expose] public section

set_option maxRecDepth 16384

noncomputable section

namespace Cert.ArrayP

open Cert.KernelPIdeal Cert.KernelPIdeal.Gen Idealize.ShloMosaic Idealize.ShloMosaic.TcCoe Idealize.SL.Sem

variable (m : (ℓ : Loc nD τ sig) → Buf (Elt Ideal) ℓ) (c : Dev nD)

/-- The gain of the normalisation, laid out as a row. -/
theorem V_gain (e : Fin 1024) : V m c main_v96 (ix2 0 e) = m ((c.tc : Thread nD τ).loc main_arg1) (ix1 e) := by
  have h : V m c main_v96 = shapeCast S1x1024 (m ((c.tc : Thread nD τ).loc main_arg1)) shapeCasts_S1024_S1x1024 := by
    unfold V; after_results; try rfl
  rw [h]
  pointwise

/-- The gain of the latent's normalisation, laid out as a row. -/
theorem V_latent_gain (e : Fin 256) : V m c main_v98 (ix2 0 e) = m ((c.tc : Thread nD τ).loc main_arg7) (ix1 e) := by
  have h : V m c main_v98 = shapeCast S1x256 (m ((c.tc : Thread nD τ).loc main_arg7)) shapeCasts_S256_S1x256 := by
    unfold V; after_results; try rfl
  rw [h]
  pointwise

/-- The bias of the gates, laid out as a row. -/
theorem V_bias (e : Fin 3072) : V m c main_v99 (ix2 0 e) = m ((c.tc : Thread nD τ).loc main_arg9) (ix1 e) := by
  have h : V m c main_v99 = shapeCast S1x3072 (m ((c.tc : Thread nD τ).loc main_arg9)) shapeCasts_S3072_S1x3072 := by
    unfold V; after_results; try rfl
  rw [h]
  pointwise

/-- The block of the rows of a point. -/
theorem index0 : ∀ t : Fin grid0.N, win0_0.index t = ![t.val, 0] := by decide +kernel
/-- The block of the gain of a point. -/
theorem index1 : ∀ t : Fin grid0.N, win0_1.index t = ![0, 0] := by decide +kernel
/-- The block of the weights of a point. -/
theorem index2 : ∀ t : Fin grid0.N, win0_2.index t = ![0, 0] := by decide +kernel
/-- The block of the tables of a point: the positions of its tokens. -/
theorem index3 : ∀ t : Fin grid0.N, win0_3.index t = ![if t.val < 32 then t.val % 4 else (t.val - 32) % 8, 0] := by decide +kernel
/-- The block of the latent's gain of a point. -/
theorem index8 : ∀ t : Fin grid0.N, win0_8.index t = ![0, 0] := by decide +kernel
/-- The block of the latent's weights of a point. -/
theorem index9 : ∀ t : Fin grid0.N, win0_9.index t = ![0, 0] := by decide +kernel
/-- The block of the bias of a point. -/
theorem index10 : ∀ t : Fin grid0.N, win0_10.index t = ![0, 0] := by decide +kernel
/-- The block of mixer A's values of a point. -/
theorem index13 : ∀ t : Fin grid0.N, win0_13.index t = ![0, t.val, 0] := by decide +kernel
/-- The block of mixer B's queries of a point. -/
theorem index14 : ∀ t : Fin grid0.N, win0_14.index t = ![t.val, 0] := by decide +kernel
/-- The block of mixer B's keys of a point. -/
theorem index15 : ∀ t : Fin grid0.N, win0_15.index t = ![t.val, 0] := by decide +kernel
/-- The block of mixer B's values of a point. -/
theorem index16 : ∀ t : Fin grid0.N, win0_16.index t = ![t.val, 0] := by decide +kernel
/-- The block of mixer C's values of a point. -/
theorem index19 : ∀ t : Fin grid0.N, win0_19.index t = ![0, t.val, 0] := by decide +kernel
/-- The block of the gates of a point. -/
theorem index20 : ∀ t : Fin grid0.N, win0_20.index t = ![t.val, 0] := by decide +kernel

/-- The blocks of mixer A's values tile them. -/
theorem covers13 : win0_13.Covers := by
  decide +kernel

/-- The blocks of mixer B's queries tile them. -/
theorem covers14 : win0_14.Covers := by
  decide +kernel

/-- The blocks of mixer B's keys tile them. -/
theorem covers15 : win0_15.Covers := by
  decide +kernel

/-- The blocks of mixer B's values tile them. -/
theorem covers16 : win0_16.Covers := by
  decide +kernel

/-- The blocks of mixer C's values tile them. -/
theorem covers19 : win0_19.Covers := by
  decide +kernel

/-- The blocks of the gates tile them. -/
theorem covers20 : win0_20.Covers := by
  decide +kernel

/-- A row of a point is the array's. -/
theorem blk0 (t : Fin cfg0.N) (i : Fin 512) (e : Fin 1024) :
    iblk m c 0 t (ix2 i e) = m ((c.tc : Thread nD τ).loc main_arg0) (ix2 ⟨t.val * 512 + i, by have : t.val < 160 := t.2; omega⟩ e) := by
  have ht : t.val < 160 := t.2
  blk_ext [iblk, V, index0 t]

/-- An entry of the weights of a point is the argument's. -/
theorem blk2 (t : Fin cfg0.N) (d : Fin 1024) (j : Fin 6272) : iblk m c 2 t (ix2 d j) = m ((c.tc : Thread nD τ).loc main_arg2) (ix2 d j) := by
  blk_ext [iblk, V, index2 t]

/-- An entry of the latent's weights of a point is the argument's. -/
theorem blk9 (t : Fin cfg0.N) (k : Fin 256) (j : Fin 1536) : iblk m c 9 t (ix2 k j) = m ((c.tc : Thread nD τ).loc main_arg8) (ix2 k j) := by
  blk_ext [iblk, V, index9 t]

/-- A gain of the normalisation of a point is the argument's. -/
theorem blk1 (t : Fin cfg0.N) (e : Fin 1024) : iblk m c 1 t (ix2 0 e) = m ((c.tc : Thread nD τ).loc main_arg1) (ix1 e) := by
  refine Eq.trans ?_ (V_gain m c e)
  blk_ext [iblk, index1 t]

/-- A gain of the latent's normalisation of a point is the argument's. -/
theorem blk8 (t : Fin cfg0.N) (e : Fin 256) : iblk m c 8 t (ix2 0 e) = m ((c.tc : Thread nD τ).loc main_arg7) (ix1 e) := by
  refine Eq.trans ?_ (V_latent_gain m c e)
  blk_ext [iblk, index8 t]

/-- A bias of the gates of a point is the argument's. -/
theorem blk10 (t : Fin cfg0.N) (e : Fin 3072) : iblk m c 10 t (ix2 0 e) = m ((c.tc : Thread nD τ).loc main_arg9) (ix1 e) := by
  refine Eq.trans ?_ (V_bias m c e)
  blk_ext [iblk, index10 t]

/-- The position of a token of a point. -/
def T (t : ℕ) (i : Fin 512) : ℕ := (if t < 32 then t % 4 else (t - 32) % 8) * 512 + i

/-- It is the token's. -/
theorem T_eq (t : ℕ) (ht : t < 160) (i : Fin 512) : T t i = SpecP.pos ⟨t * 512 + i, by omega⟩ := by
  unfold T SpecP.pos
  show _ = if t * 512 + i.val < 16384 then (t * 512 + i.val) % 2048 else (t * 512 + i.val - 16384) % 4096
  split_ifs <;> omega

/-- It is below the tables' length. -/
theorem T_lt (t : ℕ) (i : Fin 512) : T t i < 4096 := by
  unfold T
  split_ifs <;> omega

/-- A number of the tables of a point is the tables' at the token's position. -/
theorem blk3 (t : Fin cfg0.N) (i : Fin 512) (l : Fin 768) : iblk m c 3 t (ix2 i l) = V m c main_v95 (ix2 ⟨T t.val i, T_lt t.val i⟩ l) := by
  blk_ext [iblk, index3 t, T]

/-- A cosine of a point. -/
theorem blk_cos (t : Fin cfg0.N) (i : Fin 512) (l : Fin 128) : iblk m c 3 t (ix2 i ⟨256 + l, by omega⟩) = TableP.cosOf (T t.val i) l :=
  (blk3 m c t i _).trans (TableP.cos_at m c _ l)

/-- A signed sine of a point. -/
theorem blk_sin (t : Fin cfg0.N) (i : Fin 512) (l : Fin 128) : iblk m c 3 t (ix2 i ⟨384 + l, by omega⟩) = TableP.sinOf (T t.val i) l :=
  (blk3 m c t i _).trans (TableP.sin_at m c _ l)

/-- The projection of a token of a point is the token's. -/
theorem row_eq (t : Fin cfg0.N) (i : Fin 512) :
    ProjBody.row (iblk m c 0 t) (iblk m c 1 t) (iblk m c 2 t) i
      = SpecP.row (m ((c.tc : Thread nD τ).loc main_arg0)) (m ((c.tc : Thread nD τ).loc main_arg1)) (m ((c.tc : Thread nD τ).loc main_arg2)) ⟨t.val * 512 + i, by have : t.val < 160 := t.2; omega⟩ := by
  unfold ProjBody.row SpecP.row
  simp only [blk0, blk1, blk2]

/-- The array the run leaves for mixer A's values. -/
theorem va_eq : (dats m 0 c).arrAt 13 cfg0.N = SpecP.valuesA (m ((c.tc : Thread nD τ).loc main_arg0)) (m ((c.tc : Thread nD τ).loc main_arg1)) (m ((c.tc : Thread nD τ).loc main_arg2)) := by
  refine (dats m 0 c).arrAt_eq_of_covers 13 _ covers13 fun t hf y => ?_
  have ht : t.val < 160 := t.2
  blk_simp
  rw [after0_13]
  obtain ⟨h, i, e, rfl⟩ : ∃ (h : Fin 2) (i : Fin 512) (e : Fin 64), y = ix3 h i e := ⟨y 0, y 1, y 2, eq_ix3 y⟩
  have he : ((cfg0.win 13).blk t).view.emb (ix3 h i e) = ix3 h (⟨t.val * 512 + i, by omega⟩ : Fin 81920) e := by
    blk_ext [index13 t]
  rw [he]
  refine (ProjBody.va_at _ _ _ _ _ _ _ _ _ _ _ (ix3 h i e)).trans ?_
  exact congrArg (fun p => SpecP.va p h e) (row_eq m c t i)

/-- The array the run leaves for mixer B's queries. -/
theorem qb_eq : (dats m 0 c).arrAt 14 cfg0.N = SpecP.queriesB (m ((c.tc : Thread nD τ).loc main_arg0)) (m ((c.tc : Thread nD τ).loc main_arg1)) (m ((c.tc : Thread nD τ).loc main_arg2)) := by
  refine (dats m 0 c).arrAt_eq_of_covers 14 _ covers14 fun t hf y => ?_
  have ht : t.val < 160 := t.2
  blk_simp
  rw [after0_14]
  obtain ⟨i, e, rfl⟩ : ∃ (i : Fin 512) (e : Fin 1024), y = ix2 i e := ⟨y 0, y 1, eq_ix2 y⟩
  have he : ((cfg0.win 14).blk t).view.emb (ix2 i e) = ix2 (⟨t.val * 512 + i, by omega⟩ : Fin 81920) e := by
    blk_ext [index14 t]
  rw [he]
  refine (ProjBody.qb_at _ _ _ _ _ _ _ _ _ _ _ (T t.val) (blk_cos m c t) (blk_sin m c t) (ix2 i e)).trans ?_
  exact congrArg₂ (fun p s => SpecP.qb p s e) (row_eq m c t i) (T_eq t.val ht i)

/-- The array the run leaves for mixer B's keys. -/
theorem kb_eq : (dats m 0 c).arrAt 15 cfg0.N = SpecP.keysB (m ((c.tc : Thread nD τ).loc main_arg0)) (m ((c.tc : Thread nD τ).loc main_arg1)) (m ((c.tc : Thread nD τ).loc main_arg2)) := by
  refine (dats m 0 c).arrAt_eq_of_covers 15 _ covers15 fun t hf y => ?_
  have ht : t.val < 160 := t.2
  blk_simp
  rw [after0_15]
  obtain ⟨i, e, rfl⟩ : ∃ (i : Fin 512) (e : Fin 512), y = ix2 i e := ⟨y 0, y 1, eq_ix2 y⟩
  have he : ((cfg0.win 15).blk t).view.emb (ix2 i e) = ix2 (⟨t.val * 512 + i, by omega⟩ : Fin 81920) e := by
    blk_ext [index15 t]
  rw [he]
  refine (ProjBody.kb_at _ _ _ _ _ _ _ _ _ _ _ (T t.val) (blk_cos m c t) (blk_sin m c t) (ix2 i e)).trans ?_
  exact congrArg₂ (fun p s => SpecP.kb p s e) (row_eq m c t i) (T_eq t.val ht i)

/-- The array the run leaves for mixer B's values. -/
theorem vb_eq : (dats m 0 c).arrAt 16 cfg0.N = SpecP.valuesB (m ((c.tc : Thread nD τ).loc main_arg0)) (m ((c.tc : Thread nD τ).loc main_arg1)) (m ((c.tc : Thread nD τ).loc main_arg2)) := by
  refine (dats m 0 c).arrAt_eq_of_covers 16 _ covers16 fun t hf y => ?_
  have ht : t.val < 160 := t.2
  blk_simp
  rw [after0_16]
  obtain ⟨i, e, rfl⟩ : ∃ (i : Fin 512) (e : Fin 512), y = ix2 i e := ⟨y 0, y 1, eq_ix2 y⟩
  have he : ((cfg0.win 16).blk t).view.emb (ix2 i e) = ix2 (⟨t.val * 512 + i, by omega⟩ : Fin 81920) e := by
    blk_ext [index16 t]
  rw [he]
  refine (ProjBody.vb_at ..).trans ?_
  exact congrArg (fun p => SpecP.vb p e) (row_eq m c t i)

/-- The array the run leaves for mixer C's values. -/
theorem vc_eq : (dats m 0 c).arrAt 19 cfg0.N = SpecP.valuesC (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := by
  refine (dats m 0 c).arrAt_eq_of_covers 19 _ covers19 fun t hf y => ?_
  have ht : t.val < 160 := t.2
  blk_simp
  rw [after0_19]
  obtain ⟨h, i, e, rfl⟩ : ∃ (h : Fin 8) (i : Fin 512) (e : Fin 64), y = ix3 h i e := ⟨y 0, y 1, y 2, eq_ix3 y⟩
  have he : ((cfg0.win 19).blk t).view.emb (ix3 h i e) = ix3 h (⟨t.val * 512 + i, by omega⟩ : Fin 81920) e := by
    blk_ext [index19 t]
  rw [he]
  refine (ProjBody.vc_at _ _ _ _ _ _ _ _ _ _ _ (ix3 h i e)).trans ?_
  simp only [blk8, blk9]
  exact congrArg (fun p => SpecP.vc p _ _ h e) (row_eq m c t i)

/-- The array the run leaves for the gates. -/
theorem gates_eq : (dats m 0 c).arrAt 20 cfg0.N = SpecP.gates (m ((c.tc : Thread nD τ).loc main_arg0)) (m ((c.tc : Thread nD τ).loc main_arg1)) (m ((c.tc : Thread nD τ).loc main_arg2)) (m ((c.tc : Thread nD τ).loc main_arg9)) := by
  refine (dats m 0 c).arrAt_eq_of_covers 20 _ covers20 fun t hf y => ?_
  have ht : t.val < 160 := t.2
  blk_simp
  rw [after0_20]
  obtain ⟨i, j, rfl⟩ : ∃ (i : Fin 512) (j : Fin 3072), y = ix2 i j := ⟨y 0, y 1, eq_ix2 y⟩
  have he : ((cfg0.win 20).blk t).view.emb (ix2 i j) = ix2 (⟨t.val * 512 + i, by omega⟩ : Fin 81920) j := by
    blk_ext [index20 t]
  rw [he]
  refine (ProjBody.gate_at ..).trans ?_
  simp only [blk10]
  exact congrArg (fun p => SpecP.gate p _ j) (row_eq m c t i)

/-- A run of the kernel over the extended reals: the values, mixer B's queries and keys and the gates are the functions of `SpecP`
    of its arguments, which it leaves alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v100_2) = SpecP.valuesA (m ((c : Thread nD τ).loc main_arg0)) (m ((c : Thread nD τ).loc main_arg1)) (m ((c : Thread nD τ).loc main_arg2))
      ∧ r.2.mem ((c : Thread nD τ).loc main_v100_3) = SpecP.queriesB (m ((c : Thread nD τ).loc main_arg0)) (m ((c : Thread nD τ).loc main_arg1)) (m ((c : Thread nD τ).loc main_arg2))
      ∧ r.2.mem ((c : Thread nD τ).loc main_v100_4) = SpecP.keysB (m ((c : Thread nD τ).loc main_arg0)) (m ((c : Thread nD τ).loc main_arg1)) (m ((c : Thread nD τ).loc main_arg2))
      ∧ r.2.mem ((c : Thread nD τ).loc main_v100_5) = SpecP.valuesB (m ((c : Thread nD τ).loc main_arg0)) (m ((c : Thread nD τ).loc main_arg1)) (m ((c : Thread nD τ).loc main_arg2))
      ∧ r.2.mem ((c : Thread nD τ).loc main_v100_8) = SpecP.valuesC (m ((c : Thread nD τ).loc main_arg0)) (m ((c : Thread nD τ).loc main_arg1)) (m ((c : Thread nD τ).loc main_arg2)) (m ((c : Thread nD τ).loc main_arg7)) (m ((c : Thread nD τ).loc main_arg8))
      ∧ r.2.mem ((c : Thread nD τ).loc main_v100_9) = SpecP.gates (m ((c : Thread nD τ).loc main_arg0)) (m ((c : Thread nD τ).loc main_arg1)) (m ((c : Thread nD τ).loc main_arg2)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 13).trans (va_eq m c),
      ((h c).1 14).trans (qb_eq m c),
      ((h c).1 15).trans (kb_eq m c),
      ((h c).1 16).trans (vb_eq m c),
      ((h c).1 19).trans (vc_eq m c),
      ((h c).1 20).trans (gates_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c)⟩)
    (run_main m ρ)

end Cert.ArrayP

end
-- ==== Proof.RefP.lean ====
/- The reference of the fused input projection, step by step (the normalised rows, their product with the weights, the
   latent, the rotary embedding, the sections), each step at an entry; its results are the functions of `SpecP`. -/
module

public import proofs.«01_k».proof.Proof.Gen.ReferencePIdeal.Run
public import proofs.«01_k».proof.Proof.SpecP
public import Idealize.ShloMosaic.Lib.Pointwise

@[expose] public section

set_option maxRecDepth 16384

noncomputable section

namespace Cert.RefP

open Cert.ReferencePIdeal Cert.ReferencePIdeal.Gen Idealize.ShloMosaic

/-- The rows' reciprocal root mean squares. -/
def scale (x : FVec Ideal S81920x1024 .f32) : FVec Ideal S81920x1 .f32 :=
  Host.rsqrt (addf (Host.divf (broadcastInDim S81920x1 ![0] bcast_S81920_S81920x1_0 (Host.reduceAdd (mulf x x) (constant S_ .f32 0x00000000#32) reducesTo_S81920x1024_S81920_d1 h_S_)) (broadcastInDim S81920x1 ![] bcast_S_S81920x1 (constant S_ .f32 0x44800000#32))) (broadcastInDim S81920x1 ![] bcast_S_S81920x1 (constant S_ .f32 0x358637BD#32)))

/-- The rows, scaled and times the gain. -/
def norm (x : FVec Ideal S81920x1024 .f32) (r : FVec Ideal S81920x1 .f32) (g : FVec Ideal S1024 .f32) : FVec Ideal S81920x1024 .f32 :=
  mulf (mulf x (broadcastInDim S81920x1024 ![0, 1] bcast_S81920x1_S81920x1024_0_1 r))
    (broadcastInDim S81920x1024 ![0, 1] bcast_S1x1024_S81920x1024_0_1 (broadcastInDim S1x1024 ![1] bcast_S1024_S1x1024_1 g))

/-- The product of the rows with the weights. -/
def proj (h : FVec Ideal S81920x1024 .f32) (w : FVec Ideal S1024x6272 .bf16) : FVec Ideal S81920x6272 .f32 :=
  Host.dotGeneral dot_S81920x1024_S1024x6272_S81920x6272_1_0_0_1_n_n none h (extf .f32 w bitsLt_bf16_f32)

/-- Mixer A's values. -/
def va (p : FVec Ideal S81920x6272 .f32) : FVec Ideal S2x81920x64 .bf16 :=
  truncf .bf16 (transpose S2x81920x64 [1, 0, 2] (shapeCast S81920x2x64 (extractStridedSlice S81920x128 ![0, 768] p slices_S81920x6272_S81920x128_0_768) shapeCasts_S81920x128_S81920x2x64) transposes_S81920x2x64_S2x81920x64_1_0_2) bitsLt_bf16_f32

/-- Mixer B's values. -/
def vb (p : FVec Ideal S81920x6272 .f32) : FVec Ideal S81920x512 .bf16 :=
  truncf .bf16 (extractStridedSlice S81920x512 ![0, 1920] p slices_S81920x6272_S81920x512_0_1920) bitsLt_bf16_f32

/-- The positions of the short sequences. -/
def short : FVec Ideal S16384 .f32 := shapeCast S16384 (broadcastInDim S8x2048 ![1] bcast_S2048_S8x2048_1 (sitofp .f32 (iotaInDim S2048 32 0))) shapeCasts_S8x2048_S16384

/-- The positions of the long sequences. -/
def long : FVec Ideal S65536 .f32 := shapeCast S65536 (broadcastInDim S16x4096 ![1] bcast_S4096_S16x4096_1 (sitofp .f32 (iotaInDim S4096 32 0))) shapeCasts_S16x4096_S65536

/-- One after the other. -/
def both (a : FVec Ideal S16384 .f32) (b : FVec Ideal S65536 .f32) : FVec Ideal S81920 .f32 :=
  concatenate S81920 0 [⟨S16384, a⟩, ⟨S65536, b⟩] concatenates_S16384_S65536_S81920_d0

/-- The tokens' positions, as numbers. -/
def positions : FVec Ideal S81920 .f32 := both short long

/-- The frequencies. -/
def inv : FVec Ideal S8 .f32 :=
  Host.divf (broadcastInDim S8 ![] bcast_S_S8 (constant S_ .f32 0x3F800000#32))
    (Host.powf (broadcastInDim S8 ![] bcast_S_S8 (constant S_ .f32 0x48F42400#32))
      (Host.divf (addf (broadcastInDim S8 ![] bcast_S_S8 (constant S_ .f32 0x00000000#32)) (mulf (broadcastInDim S8 ![] bcast_S_S8 (constant S_ .f32 0x40000000#32)) (sitofp .f32 (iotaInDim S8 32 0))))
        (broadcastInDim S8 ![] bcast_S_S8 (constant S_ .f32 0x41800000#32))))

/-- The angles from the positions and the frequencies. -/
def ang (q : FVec Ideal S81920 .f32) (f : FVec Ideal S8 .f32) : FVec Ideal S81920x1x1x8 .f32 :=
  broadcastInDim S81920x1x1x8 ![0, 3] bcast_S81920x8_S81920x1x1x8_0_3
    (mulf (broadcastInDim S81920x8 ![0, 1] bcast_S81920x1_S81920x8_0_1 (broadcastInDim S81920x1 ![0] bcast_S81920_S81920x1_0 q))
      (broadcastInDim S81920x8 ![0, 1] bcast_S1x8_S81920x8_0_1 (broadcastInDim S1x8 ![1] bcast_S8_S1x8_1 f)))

/-- The rotary embedding of the components of the heads, from cosines and sines. -/
def turned (y : FVec Ideal S81920x4x2x64 .f32) (c s : FVec Ideal S81920x1x1x8 .f32) : FVec Ideal S81920x4x2x64 .f32 :=
  concatenate S81920x4x2x64 3 [
    ⟨S81920x4x2x8, (subf (mulf (extractStridedSlice S81920x4x2x8 ![0, 0, 0, 0] y slices_S81920x4x2x64_S81920x4x2x8_0_0_0_0) (broadcastInDim S81920x4x2x8 ![0, 1, 2, 3] bcast_S81920x1x1x8_S81920x4x2x8_0_1_2_3 c))
      (mulf (extractStridedSlice S81920x4x2x8 ![0, 0, 0, 8] y slices_S81920x4x2x64_S81920x4x2x8_0_0_0_8) (broadcastInDim S81920x4x2x8 ![0, 1, 2, 3] bcast_S81920x1x1x8_S81920x4x2x8_0_1_2_3 s)) : FVec Ideal S81920x4x2x8 .f32)⟩,
    ⟨S81920x4x2x8, (addf (mulf (extractStridedSlice S81920x4x2x8 ![0, 0, 0, 8] y slices_S81920x4x2x64_S81920x4x2x8_0_0_0_8) (broadcastInDim S81920x4x2x8 ![0, 1, 2, 3] bcast_S81920x1x1x8_S81920x4x2x8_0_1_2_3 c))
      (mulf (extractStridedSlice S81920x4x2x8 ![0, 0, 0, 0] y slices_S81920x4x2x64_S81920x4x2x8_0_0_0_0) (broadcastInDim S81920x4x2x8 ![0, 1, 2, 3] bcast_S81920x1x1x8_S81920x4x2x8_0_1_2_3 s)) : FVec Ideal S81920x4x2x8 .f32)⟩,
    ⟨S81920x4x2x48, (extractStridedSlice S81920x4x2x48 ![0, 0, 0, 16] y slices_S81920x4x2x64_S81920x4x2x48_0_0_0_16 : FVec Ideal S81920x4x2x48 .f32)⟩]
    concatenates_S81920x4x2x8_S81920x4x2x8_S81920x4x2x48_S81920x4x2x64_d3

/-- The features of mixer B's queries, by head and component. -/
def headsQ (p : FVec Ideal S81920x6272 .f32) : FVec Ideal S81920x4x2x64 .f32 :=
  shapeCast S81920x4x2x64 (extractStridedSlice S81920x512 ![0, 896] p slices_S81920x6272_S81920x512_0_896) shapeCasts_S81920x512_S81920x4x2x64

/-- The features of mixer B's keys, by head and component. -/
def headsK (p : FVec Ideal S81920x6272 .f32) : FVec Ideal S81920x4x2x64 .f32 :=
  shapeCast S81920x4x2x64 (extractStridedSlice S81920x512 ![0, 1408] p slices_S81920x6272_S81920x512_0_1408) shapeCasts_S81920x512_S81920x4x2x64

/-- The heads' features, embedded at the tokens' positions. -/
def embedded (y : FVec Ideal S81920x4x2x64 .f32) : FVec Ideal S81920x4x2x64 .f32 :=
  turned y (Host.cos (ang positions inv)) (Host.sin (ang positions inv))

/-- Mixer B's keys. -/
def kb (y : FVec Ideal S81920x4x2x64 .f32) : FVec Ideal S81920x512 .bf16 :=
  truncf .bf16 (shapeCast S81920x512 y shapeCasts_S81920x4x2x64_S81920x512) bitsLt_bf16_f32

/-- The scaled features of mixer B's queries. -/
def scaled (y : FVec Ideal S81920x4x2x64 .f32) : FVec Ideal S81920x4x2x64 .f32 :=
  mulf y (broadcastInDim S81920x4x2x64 ![] bcast_S_S81920x4x2x64 (constant S_ .f32 0x3E38AA3B#32))

/-- The two components of the scaled queries, with zeros between them. -/
def spread (y : FVec Ideal S81920x4x2x64 .f32) : FVec Ideal S81920x4x256 .f32 :=
  concatenate S81920x4x256 2 [
    ⟨S81920x4x64, (shapeCast S81920x4x64 (extractStridedSlice S81920x4x1x64 ![0, 0, 0, 0] y slices_S81920x4x2x64_S81920x4x1x64_0_0_0_0) shapeCasts_S81920x4x1x64_S81920x4x64 : FVec Ideal S81920x4x64 .f32)⟩,
    ⟨S81920x4x64, (broadcastInDim S81920x4x64 ![] bcast_S_S81920x4x64 (constant S_ .f32 0x00000000#32) : FVec Ideal S81920x4x64 .f32)⟩,
    ⟨S81920x4x64, (broadcastInDim S81920x4x64 ![] bcast_S_S81920x4x64 (constant S_ .f32 0x00000000#32) : FVec Ideal S81920x4x64 .f32)⟩,
    ⟨S81920x4x64, (shapeCast S81920x4x64 (extractStridedSlice S81920x4x1x64 ![0, 0, 1, 0] y slices_S81920x4x2x64_S81920x4x1x64_0_0_1_0) shapeCasts_S81920x4x1x64_S81920x4x64 : FVec Ideal S81920x4x64 .f32)⟩]
    concatenates_S81920x4x64_S81920x4x64_S81920x4x64_S81920x4x64_S81920x4x256_d2

/-- Mixer B's queries. -/
def qb (y : FVec Ideal S81920x4x256 .f32) : FVec Ideal S81920x1024 .bf16 :=
  truncf .bf16 (shapeCast S81920x1024 y shapeCasts_S81920x4x256_S81920x1024) bitsLt_bf16_f32

/-- The latent. -/
def latent (p : FVec Ideal S81920x6272 .f32) : FVec Ideal S81920x256 .f32 :=
  extractStridedSlice S81920x256 ![0, 2816] p slices_S81920x6272_S81920x256_0_2816

/-- The latents' reciprocal root mean squares. -/
def scaleL (l : FVec Ideal S81920x256 .f32) : FVec Ideal S81920x1 .f32 :=
  Host.rsqrt (addf (Host.divf (broadcastInDim S81920x1 ![0] bcast_S81920_S81920x1_0 (Host.reduceAdd (mulf l l) (constant S_ .f32 0x00000000#32) reducesTo_S81920x256_S81920_d1 h_S_)) (broadcastInDim S81920x1 ![] bcast_S_S81920x1 (constant S_ .f32 0x43800000#32))) (broadcastInDim S81920x1 ![] bcast_S_S81920x1 (constant S_ .f32 0x358637BD#32)))

/-- The latents, scaled and times their gain. -/
def normL (l : FVec Ideal S81920x256 .f32) (r : FVec Ideal S81920x1 .f32) (g : FVec Ideal S256 .f32) : FVec Ideal S81920x256 .f32 :=
  mulf (mulf l (broadcastInDim S81920x256 ![0, 1] bcast_S81920x1_S81920x256_0_1 r))
    (broadcastInDim S81920x256 ![0, 1] bcast_S1x256_S81920x256_0_1 (broadcastInDim S1x256 ![1] bcast_S256_S1x256_1 g))

/-- Mixer C's values from the normalised latents. -/
def vc (h : FVec Ideal S81920x256 .f32) (w : FVec Ideal S256x1536 .bf16) : FVec Ideal S8x81920x64 .bf16 :=
  truncf .bf16 (transpose S8x81920x64 [1, 0, 2] (shapeCast S81920x8x64 (Host.dotGeneral dot_S81920x256_S256x512_S81920x512_1_0_0_1_n_n none h (extf .f32 (extractStridedSlice S256x512 ![0, 1024] w slices_S256x1536_S256x512_0_1024) bitsLt_bf16_f32)) shapeCasts_S81920x512_S81920x8x64) transposes_S81920x8x64_S8x81920x64_1_0_2) bitsLt_bf16_f32

/-- The gates. -/
def gates (p : FVec Ideal S81920x6272 .f32) (b : FVec Ideal S3072 .f32) : FVec Ideal S81920x3072 .bf16 :=
  truncf .bf16 (Host.divf (broadcastInDim S81920x3072 ![] bcast_S_S81920x3072 (constant S_ .f32 0x3F800000#32)) (addf (broadcastInDim S81920x3072 ![] bcast_S_S81920x3072 (constant S_ .f32 0x3F800000#32)) (Host.exp (Host.negf (addf (extractStridedSlice S81920x3072 ![0, 3200] p slices_S81920x6272_S81920x3072_0_3200) (broadcastInDim S81920x3072 ![0, 1] bcast_S1x3072_S81920x3072_0_1 (broadcastInDim S1x3072 ![1] bcast_S3072_S1x3072_1 b))))))) bitsLt_bf16_f32

/-- The projection of the normalised rows. -/
def full (x : FVec Ideal S81920x1024 .f32) (g : FVec Ideal S1024 .f32) (w : FVec Ideal S1024x6272 .bf16) : FVec Ideal S81920x6272 .f32 :=
  proj (norm x (scale x) g) w

/-- A row's reciprocal root mean square. -/
theorem scale_at (x : FVec Ideal S81920x1024 .f32) (n : Fin 81920) :
    scale x (ix2 n 0) = SpecM.rms (Ideal.ofBits .f32 0x44800000#32) (fun e : Fin 1024 => x (ix2 n e)) := by
  unfold scale SpecM.rms
  pointwise

/-- An entry of a scaled row. -/
theorem norm_at (x : FVec Ideal S81920x1024 .f32) (r : FVec Ideal S81920x1 .f32) (g : FVec Ideal S1024 .f32) (n : Fin 81920) (d : Fin 1024) :
    norm x r g (ix2 n d) = x (ix2 n d) * r (ix2 n 0) * g (ix1 d) := by
  unfold norm
  pointwise

/-- An entry of the product. -/
theorem proj_at (h : FVec Ideal S81920x1024 .f32) (w : FVec Ideal S1024x6272 .bf16) (n : Fin 81920) (j : Fin 6272) :
    proj h w (ix2 n j) = ∑ d : Fin 1024, h (ix2 n d) * w (ix2 d j) := by
  unfold proj
  pointwise

/-- A column of a token's projection. -/
theorem full_at (x : FVec Ideal S81920x1024 .f32) (g : FVec Ideal S1024 .f32) (w : FVec Ideal S1024x6272 .bf16) (n : Fin 81920) (j : Fin 6272) :
    full x g w (ix2 n j) = SpecP.row x g w n j := by
  unfold full
  rw [proj_at]
  simp only [norm_at, scale_at]
  rfl

/-- A value of mixer A. -/
theorem va_at (p : FVec Ideal S81920x6272 .f32) (h : Fin 2) (n : Fin 81920) (e : Fin 64) :
    va p (ix3 h n e) = SpecP.va (fun j => p (ix2 n j)) h e := by
  unfold va SpecP.va
  pointwise

/-- A value of mixer B. -/
theorem vb_at (p : FVec Ideal S81920x6272 .f32) (n : Fin 81920) (e : Fin 512) : vb p (ix2 n e) = SpecP.vb (fun j => p (ix2 n j)) e := by
  unfold vb SpecP.vb
  pointwise

/-- A position in a short sequence. -/
theorem short_at (n : Fin 16384) : short (ix1 n) = FloatOps.sitofp (F := Ideal) .f32 (BitVec.ofNat 32 (n.val % 2048)) := by
  unfold short
  pointwise

/-- A position in a long sequence. -/
theorem long_at (n : Fin 65536) : long (ix1 n) = FloatOps.sitofp (F := Ideal) .f32 (BitVec.ofNat 32 (n.val % 4096)) := by
  unfold long
  pointwise

/-- A token's entry of the two. -/
theorem both_at (a : FVec Ideal S16384 .f32) (b : FVec Ideal S65536 .f32) (n : Fin 81920) :
    both a b (ix1 n) = if h : n.val < 16384 then a (ix1 ⟨n, h⟩) else b (ix1 ⟨n - 16384, by omega⟩) := by
  unfold both
  pointwise

/-- A token's position. -/
theorem positions_at (n : Fin 81920) : positions (ix1 n) = FloatOps.sitofp (F := Ideal) .f32 (BitVec.ofNat 32 (SpecP.pos n)) := by
  rw [positions, both_at, SpecP.pos]
  split
  · rw [short_at]
  · rw [long_at]

/-- An angle. -/
theorem ang_at (n : Fin 81920) (f : Fin 8) : ang positions inv (ix4 n 0 0 f) = SpecP.angle (SpecP.pos n) f := by
  have h : ∀ q : FVec Ideal S81920 .f32, ang q inv (ix4 n 0 0 f) = q (ix1 n) * inv (ix1 f) := by
    intro q
    unfold ang
    pointwise
  rw [h, positions_at]
  unfold inv SpecP.angle
  pointwise

/-- A feature turned. -/
theorem turned_at (y : FVec Ideal S81920x4x2x64 .f32) (c s : FVec Ideal S81920x1x1x8 .f32) (n : Fin 81920) (h : Fin 4) (k : Fin 2) (d : Fin 64) :
    turned y c s (ix4 n h k d) =
      if e : d.val < 8 then y (ix4 n h k d) * c (ix4 n 0 0 ⟨d, e⟩) - y (ix4 n h k ⟨d + 8, by omega⟩) * s (ix4 n 0 0 ⟨d, e⟩)
      else if e' : d.val < 16 then y (ix4 n h k d) * c (ix4 n 0 0 ⟨d - 8, by omega⟩) + y (ix4 n h k ⟨d - 8, by omega⟩) * s (ix4 n 0 0 ⟨d - 8, by omega⟩)
      else y (ix4 n h k d) := by
  unfold turned
  pointwise
  repeat' split
  all_goals first | omega | skip
  · rw [show (⟨8 + d.val, by omega⟩ : Fin 64) = ⟨d + 8, by omega⟩ from Fin.ext (Nat.add_comm _ _)]
  · rw [show (⟨8 + (d.val - 8), by omega⟩ : Fin 64) = d from Fin.ext (by simp only; omega)]
  · rw [show (⟨16 + (d.val - 8 - 8), by omega⟩ : Fin 64) = d from Fin.ext (by simp only; omega)]

/-- A feature of mixer B's queries. -/
theorem headsQ_at (p : FVec Ideal S81920x6272 .f32) (n : Fin 81920) (h : Fin 4) (k : Fin 2) (d : Fin 64) :
    headsQ p (ix4 n h k d) = SpecP.partQ (fun j => p (ix2 n j)) ⟨2 * h + k, by omega⟩ d := by
  unfold headsQ SpecP.partQ
  pointwise
  congr 2
  exact Fin.ext (by first | omega | (simp only; omega))

/-- A feature of mixer B's keys. -/
theorem headsK_at (p : FVec Ideal S81920x6272 .f32) (n : Fin 81920) (h : Fin 4) (k : Fin 2) (d : Fin 64) :
    headsK p (ix4 n h k d) = SpecP.partK (fun j => p (ix2 n j)) ⟨2 * h + k, by omega⟩ d := by
  unfold headsK SpecP.partK
  pointwise
  congr 2
  exact Fin.ext (by first | omega | (simp only; omega))

/-- A feature embedded. -/
theorem embedded_at (y : FVec Ideal S81920x4x2x64 .f32) (n : Fin 81920) (h : Fin 4) (k : Fin 2) (d : Fin 64) :
    embedded y (ix4 n h k d) = SpecP.rope (fun d => y (ix4 n h k d)) (SpecP.pos n) d := by
  have hc : ∀ f : Fin 8, Host.cos (ang positions inv) (ix4 n 0 0 f) = Ideal.cos (SpecP.angle (SpecP.pos n) f) := fun f => by rw [← ang_at]; rfl
  have hs : ∀ f : Fin 8, Host.sin (ang positions inv) (ix4 n 0 0 f) = Ideal.sin (SpecP.angle (SpecP.pos n) f) := fun f => by rw [← ang_at]; rfl
  unfold embedded
  rw [turned_at, SpecP.rope]
  simp only [hc, hs]

/-- A column of mixer B's keys. -/
theorem kb_at (y : FVec Ideal S81920x4x2x64 .f32) (n : Fin 81920) (e : Fin 512) :
    kb y (ix2 n e) = y (ix4 n ⟨e / 128, by omega⟩ ⟨e / 64 % 2, by omega⟩ ⟨e % 64, by omega⟩) := by
  unfold kb
  pointwise
  try (congr 2 <;> exact Fin.ext (by first | omega | (simp only; omega)))

/-- A scaled feature. -/
theorem scaled_at (y : FVec Ideal S81920x4x2x64 .f32) (n : Fin 81920) (h : Fin 4) (k : Fin 2) (d : Fin 64) :
    scaled y (ix4 n h k d) = y (ix4 n h k d) * Ideal.ofBits .f32 0x3E38AA3B#32 := by
  unfold scaled
  pointwise

/-- A lane of a head's query. -/
theorem spread_at (y : FVec Ideal S81920x4x2x64 .f32) (n : Fin 81920) (h : Fin 4) (l : Fin 256) :
    spread y (ix3 n h l) = if l.val < 64 then y (ix4 n h 0 ⟨l % 64, by omega⟩) else if l.val < 192 then 0 else y (ix4 n h 1 ⟨l % 64, by omega⟩) := by
  unfold spread
  pointwise
  repeat' split
  all_goals first | omega | rfl | (congr 2; exact Fin.ext (by first | omega | (simp only; omega)))

/-- A column of mixer B's queries. -/
theorem qb_at (y : FVec Ideal S81920x4x256 .f32) (n : Fin 81920) (e : Fin 1024) :
    qb y (ix2 n e) = y (ix3 n ⟨e / 256, by omega⟩ ⟨e % 256, by omega⟩) := by
  unfold qb
  pointwise
  try (congr 2 <;> exact Fin.ext (by first | omega | (simp only; omega)))

/-- An entry of the latent. -/
theorem latent_at (p : FVec Ideal S81920x6272 .f32) (n : Fin 81920) (k : Fin 256) : latent p (ix2 n k) = SpecP.latent (fun j => p (ix2 n j)) k := by
  unfold latent SpecP.latent
  pointwise

/-- A latent's reciprocal root mean square. -/
theorem scaleL_at (l : FVec Ideal S81920x256 .f32) (n : Fin 81920) :
    scaleL l (ix2 n 0) = SpecM.rms (Ideal.ofBits .f32 0x43800000#32) (fun k : Fin 256 => l (ix2 n k)) := by
  unfold scaleL SpecM.rms
  pointwise

/-- An entry of a scaled latent. -/
theorem normL_at (l : FVec Ideal S81920x256 .f32) (r : FVec Ideal S81920x1 .f32) (g : FVec Ideal S256 .f32) (n : Fin 81920) (k : Fin 256) :
    normL l r g (ix2 n k) = l (ix2 n k) * r (ix2 n 0) * g (ix1 k) := by
  unfold normL
  pointwise

/-- A value of mixer C. -/
theorem vc_at (l : FVec Ideal S81920x256 .f32) (w : FVec Ideal S256x1536 .bf16) (h : Fin 8) (n : Fin 81920) (e : Fin 64) :
    vc l w (ix3 h n e) = ∑ k : Fin 256, l (ix2 n k) * w (ix2 k ⟨1024 + (h * 64 + e), by omega⟩) := by
  unfold vc
  pointwise

/-- A gate. -/
theorem gates_at (p : FVec Ideal S81920x6272 .f32) (b : FVec Ideal S3072 .f32) (n : Fin 81920) (j : Fin 3072) :
    gates p b (ix2 n j) = SpecP.gate (fun j => p (ix2 n j)) (fun j => b (ix1 j)) j := by
  unfold gates SpecP.gate Ideal.logistic
  pointwise

/-- The projections of a token, as one function. -/
theorem full_row (x : FVec Ideal S81920x1024 .f32) (g : FVec Ideal S1024 .f32) (w : FVec Ideal S1024x6272 .bf16) (n : Fin 81920) :
    (fun j => full x g w (ix2 n j)) = SpecP.row x g w n := funext fun j => full_at x g w n j

/-- Mixer A's values are the reference's. -/
theorem va_eq (x : FVec Ideal S81920x1024 .f32) (g : FVec Ideal S1024 .f32) (w : FVec Ideal S1024x6272 .bf16) :
    va (full x g w) = SpecP.valuesA x g w := by
  funext y
  obtain ⟨h, n, e, rfl⟩ : ∃ (h : Fin 2) (n : Fin 81920) (e : Fin 64), y = ix3 h n e := ⟨y 0, y 1, y 2, eq_ix3 y⟩
  rw [va_at, full_row]
  rfl

/-- Mixer B's values are the reference's. -/
theorem vb_eq (x : FVec Ideal S81920x1024 .f32) (g : FVec Ideal S1024 .f32) (w : FVec Ideal S1024x6272 .bf16) :
    vb (full x g w) = SpecP.valuesB x g w := by
  funext y
  obtain ⟨n, e, rfl⟩ : ∃ (n : Fin 81920) (e : Fin 512), y = ix2 n e := ⟨y 0, y 1, eq_ix2 y⟩
  rw [vb_at, full_row]
  rfl

/-- Mixer B's keys are the reference's. -/
theorem kb_eq (x : FVec Ideal S81920x1024 .f32) (g : FVec Ideal S1024 .f32) (w : FVec Ideal S1024x6272 .bf16) :
    kb (embedded (headsK (full x g w))) = SpecP.keysB x g w := by
  funext y
  obtain ⟨n, e, rfl⟩ : ∃ (n : Fin 81920) (e : Fin 512), y = ix2 n e := ⟨y 0, y 1, eq_ix2 y⟩
  rw [kb_at, embedded_at]
  simp only [headsK_at, full_row]
  have hp : (⟨2 * (e.val / 128) + e.val / 64 % 2, by omega⟩ : Fin 8) = ⟨e.val / 64, by omega⟩ := Fin.ext (by simp only; omega)
  rw [hp]
  rfl

/-- Mixer B's queries are the reference's. -/
theorem qb_eq (x : FVec Ideal S81920x1024 .f32) (g : FVec Ideal S1024 .f32) (w : FVec Ideal S1024x6272 .bf16) :
    qb (spread (scaled (embedded (headsQ (full x g w))))) = SpecP.queriesB x g w := by
  funext y
  obtain ⟨n, e, rfl⟩ : ∃ (n : Fin 81920) (e : Fin 1024), y = ix2 n e := ⟨y 0, y 1, eq_ix2 y⟩
  rw [qb_at, spread_at]
  simp only [scaled_at, embedded_at, headsQ_at, full_row]
  have hd : (⟨e.val % 256 % 64, by omega⟩ : Fin 64) = ⟨e.val % 64, by omega⟩ := Fin.ext (by simp only; omega)
  rw [hd]
  rfl

/-- Mixer C's values are the reference's. -/
theorem vc_eq (x : FVec Ideal S81920x1024 .f32) (g : FVec Ideal S1024 .f32) (w : FVec Ideal S1024x6272 .bf16) (gl : FVec Ideal S256 .f32)
    (wl : FVec Ideal S256x1536 .bf16) :
    vc (normL (latent (full x g w)) (scaleL (latent (full x g w))) gl) wl = SpecP.valuesC x g w gl wl := by
  funext y
  obtain ⟨h, n, e, rfl⟩ : ∃ (h : Fin 8) (n : Fin 81920) (e : Fin 64), y = ix3 h n e := ⟨y 0, y 1, y 2, eq_ix3 y⟩
  rw [vc_at]
  simp only [normL_at, scaleL_at, latent_at, full_row]
  rfl

/-- The gates are the reference's. -/
theorem gates_eq (x : FVec Ideal S81920x1024 .f32) (g : FVec Ideal S1024 .f32) (w : FVec Ideal S1024x6272 .bf16) (b : FVec Ideal S3072 .f32) :
    gates (full x g w) b = SpecP.gates x g w b := by
  funext y
  obtain ⟨n, j, rfl⟩ : ∃ (n : Fin 81920) (j : Fin 3072), y = ix2 n j := ⟨y 0, y 1, eq_ix2 y⟩
  rw [gates_at, full_row]
  rfl

end Cert.RefP

end
-- ==== Proof.ClaimP.lean ====
/- The values, mixer B's queries and keys, and the gates of the fused input projection: the claims of its kernel and of its reference, assembled. -/
module

public import proofs.«01_k».proof.Defs
public import proofs.«01_k».proof.Proof.Gen.KernelP.Frame
public import proofs.«01_k».proof.Proof.ArrayP
public import proofs.«01_k».proof.Proof.RefP
public import Idealize.ShloMosaic.Lib.QuiescentFlight

@[expose] public section

set_option maxRecDepth 16384

noncomputable section

namespace Cert.ClaimP

open Idealize.ShloMosaic Idealize.ShloMosaic.TcCoe Idealize.SL.Sem

local instance : Cert.KernelP.Facts := Cert.KernelP.Gen.facts
local instance : Cert.KernelPIdeal.Facts := Cert.KernelPIdeal.Gen.facts
local instance : Cert.ReferencePIdeal.Facts := Cert.ReferencePIdeal.Gen.facts

/-- The kernel runs, leaves its arguments alone and ends quiet. -/
theorem kernel : quiescent_KernelP := fun m ρ _ => Cert.KernelP.Gen.frame m ρ

/-- So does it over the extended reals. -/
theorem kernelIdeal : quiescent_KernelPIdeal := fun m ρ _ => Cert.KernelPIdeal.Gen.frame m ρ

/-- A run of the reference: its results are the functions of `SpecP` of its arguments, which it leaves alone. -/
theorem reference_run (m : (ℓ : Loc Cert.ReferencePIdeal.nD Cert.ReferencePIdeal.τ Cert.ReferencePIdeal.sig) → Buf (Elt Ideal) ℓ)
    (ρ : Dev Cert.ReferencePIdeal.nD → PrngReg) :
    θ_run Cert.ReferencePIdeal.defs (onTc (τ := Cert.ReferencePIdeal.τ) (Cert.ReferencePIdeal.main (F := Ideal))) ⟨m, fun _ => 0, ρ⟩
      fun r => ∀ c : Dev Cert.ReferencePIdeal.nD,
        r.2.mem ((c.tc : Thread _ _).loc Cert.ReferencePIdeal.main_v142)
            = SpecP.valuesA (m ((c.tc : Thread _ _).loc Cert.ReferencePIdeal.main_arg0)) (m ((c.tc : Thread _ _).loc Cert.ReferencePIdeal.main_arg1)) (m ((c.tc : Thread _ _).loc Cert.ReferencePIdeal.main_arg2))
        ∧ r.2.mem ((c.tc : Thread _ _).loc Cert.ReferencePIdeal.main_v143)
            = SpecP.queriesB (m ((c.tc : Thread _ _).loc Cert.ReferencePIdeal.main_arg0)) (m ((c.tc : Thread _ _).loc Cert.ReferencePIdeal.main_arg1)) (m ((c.tc : Thread _ _).loc Cert.ReferencePIdeal.main_arg2))
        ∧ r.2.mem ((c.tc : Thread _ _).loc Cert.ReferencePIdeal.main_v144)
            = SpecP.keysB (m ((c.tc : Thread _ _).loc Cert.ReferencePIdeal.main_arg0)) (m ((c.tc : Thread _ _).loc Cert.ReferencePIdeal.main_arg1)) (m ((c.tc : Thread _ _).loc Cert.ReferencePIdeal.main_arg2))
        ∧ r.2.mem ((c.tc : Thread _ _).loc Cert.ReferencePIdeal.main_v145)
            = SpecP.valuesB (m ((c.tc : Thread _ _).loc Cert.ReferencePIdeal.main_arg0)) (m ((c.tc : Thread _ _).loc Cert.ReferencePIdeal.main_arg1)) (m ((c.tc : Thread _ _).loc Cert.ReferencePIdeal.main_arg2))
        ∧ r.2.mem ((c.tc : Thread _ _).loc Cert.ReferencePIdeal.main_v146)
            = SpecP.valuesC (m ((c.tc : Thread _ _).loc Cert.ReferencePIdeal.main_arg0)) (m ((c.tc : Thread _ _).loc Cert.ReferencePIdeal.main_arg1)) (m ((c.tc : Thread _ _).loc Cert.ReferencePIdeal.main_arg2)) (m ((c.tc : Thread _ _).loc Cert.ReferencePIdeal.main_arg7)) (m ((c.tc : Thread _ _).loc Cert.ReferencePIdeal.main_arg8))
        ∧ r.2.mem ((c.tc : Thread _ _).loc Cert.ReferencePIdeal.main_v147)
            = SpecP.gates (m ((c.tc : Thread _ _).loc Cert.ReferencePIdeal.main_arg0)) (m ((c.tc : Thread _ _).loc Cert.ReferencePIdeal.main_arg1)) (m ((c.tc : Thread _ _).loc Cert.ReferencePIdeal.main_arg2)) (m ((c.tc : Thread _ _).loc Cert.ReferencePIdeal.main_arg9))
        ∧ r.2.mem ((c.tc : Thread _ _).loc Cert.ReferencePIdeal.main_arg0) = m ((c.tc : Thread _ _).loc Cert.ReferencePIdeal.main_arg0)
        ∧ r.2.mem ((c.tc : Thread _ _).loc Cert.ReferencePIdeal.main_arg1) = m ((c.tc : Thread _ _).loc Cert.ReferencePIdeal.main_arg1)
        ∧ r.2.mem ((c.tc : Thread _ _).loc Cert.ReferencePIdeal.main_arg2) = m ((c.tc : Thread _ _).loc Cert.ReferencePIdeal.main_arg2)
        ∧ r.2.mem ((c.tc : Thread _ _).loc Cert.ReferencePIdeal.main_arg3) = m ((c.tc : Thread _ _).loc Cert.ReferencePIdeal.main_arg3)
        ∧ r.2.mem ((c.tc : Thread _ _).loc Cert.ReferencePIdeal.main_arg4) = m ((c.tc : Thread _ _).loc Cert.ReferencePIdeal.main_arg4)
        ∧ r.2.mem ((c.tc : Thread _ _).loc Cert.ReferencePIdeal.main_arg5) = m ((c.tc : Thread _ _).loc Cert.ReferencePIdeal.main_arg5)
        ∧ r.2.mem ((c.tc : Thread _ _).loc Cert.ReferencePIdeal.main_arg6) = m ((c.tc : Thread _ _).loc Cert.ReferencePIdeal.main_arg6)
        ∧ r.2.mem ((c.tc : Thread _ _).loc Cert.ReferencePIdeal.main_arg7) = m ((c.tc : Thread _ _).loc Cert.ReferencePIdeal.main_arg7)
        ∧ r.2.mem ((c.tc : Thread _ _).loc Cert.ReferencePIdeal.main_arg8) = m ((c.tc : Thread _ _).loc Cert.ReferencePIdeal.main_arg8)
        ∧ r.2.mem ((c.tc : Thread _ _).loc Cert.ReferencePIdeal.main_arg9) = m ((c.tc : Thread _ _).loc Cert.ReferencePIdeal.main_arg9) :=
  (θ_run Cert.ReferencePIdeal.defs _ _).mono
    (fun _ h c => ⟨(h c).1.trans (RefP.va_eq _ _ _), (h c).2.1.trans (RefP.qb_eq _ _ _), (h c).2.2.1.trans (RefP.kb_eq _ _ _),
      (h c).2.2.2.1.trans (RefP.vb_eq _ _ _), (h c).2.2.2.2.1.trans (RefP.vc_eq _ _ _ _ _), (h c).2.2.2.2.2.1.trans (RefP.gates_eq _ _ _ _), (h c).2.2.2.2.2.2⟩)
    (Cert.ReferencePIdeal.Value.run (F := Ideal) m ρ)

/-- The reference runs, leaves its arguments alone and ends quiet. -/
theorem reference : quiescent_ReferencePIdeal := fun m ρ _ =>
  (θ_run Cert.ReferencePIdeal.defs _ _).mono (fun r h => ⟨fun c => (h c).2.2.2.2.2.2, sem_eq_zero_of_no_sems (by decide) r.2⟩) (reference_run m ρ)

/-- The kernel was read over the extended reals as it is written: no operation was replaced. -/
theorem preserves : preserves_KernelP_KernelPIdeal := trivial

/-- From the same arguments, kernel and reference end with the same values, the same queries and keys of mixer B, and the same gates. -/
theorem algebraic : algebraic_KernelPIdeal_ReferencePIdeal := by
  intro m ρ m' ρ' _ hagree
  refine ⟨fun c => SpecP.valuesA (m ((c.tc : Thread _ _).loc Cert.KernelPIdeal.main_arg0)) (m ((c.tc : Thread _ _).loc Cert.KernelPIdeal.main_arg1)) (m ((c.tc : Thread _ _).loc Cert.KernelPIdeal.main_arg2)),
    fun c => SpecP.queriesB (m ((c.tc : Thread _ _).loc Cert.KernelPIdeal.main_arg0)) (m ((c.tc : Thread _ _).loc Cert.KernelPIdeal.main_arg1)) (m ((c.tc : Thread _ _).loc Cert.KernelPIdeal.main_arg2)),
    fun c => SpecP.keysB (m ((c.tc : Thread _ _).loc Cert.KernelPIdeal.main_arg0)) (m ((c.tc : Thread _ _).loc Cert.KernelPIdeal.main_arg1)) (m ((c.tc : Thread _ _).loc Cert.KernelPIdeal.main_arg2)),
    fun c => SpecP.valuesB (m ((c.tc : Thread _ _).loc Cert.KernelPIdeal.main_arg0)) (m ((c.tc : Thread _ _).loc Cert.KernelPIdeal.main_arg1)) (m ((c.tc : Thread _ _).loc Cert.KernelPIdeal.main_arg2)),
    fun c => SpecP.valuesC (m ((c.tc : Thread _ _).loc Cert.KernelPIdeal.main_arg0)) (m ((c.tc : Thread _ _).loc Cert.KernelPIdeal.main_arg1)) (m ((c.tc : Thread _ _).loc Cert.KernelPIdeal.main_arg2)) (m ((c.tc : Thread _ _).loc Cert.KernelPIdeal.main_arg7)) (m ((c.tc : Thread _ _).loc Cert.KernelPIdeal.main_arg8)),
    fun c => SpecP.gates (m ((c.tc : Thread _ _).loc Cert.KernelPIdeal.main_arg0)) (m ((c.tc : Thread _ _).loc Cert.KernelPIdeal.main_arg1)) (m ((c.tc : Thread _ _).loc Cert.KernelPIdeal.main_arg2)) (m ((c.tc : Thread _ _).loc Cert.KernelPIdeal.main_arg9)),
    ArrayP.run m ρ, ?_⟩
  refine (θ_run Cert.ReferencePIdeal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (reference_run m' ρ')
  · rw [(hagree c).1, (hagree c).2.1, (hagree c).2.2.1]
  · rw [(hagree c).1, (hagree c).2.1, (hagree c).2.2.1]
  · rw [(hagree c).1, (hagree c).2.1, (hagree c).2.2.1]
  · rw [(hagree c).1, (hagree c).2.1, (hagree c).2.2.1]
  · rw [(hagree c).1, (hagree c).2.1, (hagree c).2.2.1, (hagree c).2.2.2.2.2.2.2.1, (hagree c).2.2.2.2.2.2.2.2.1]
  · rw [(hagree c).1, (hagree c).2.1, (hagree c).2.2.1, (hagree c).2.2.2.2.2.2.2.2.2]

end Cert.ClaimP

end
-- ==== Proof.lean ====
/- The claims of the certificate, assembled from those of the six calls. -/
module

public import proofs.«01_k».proof.Defs
public import proofs.«01_k».proof.Proof.ClaimA
public import proofs.«01_k».proof.Proof.ClaimB
public import proofs.«01_k».proof.Proof.ClaimC
public import proofs.«01_k».proof.Proof.ClaimM
public import proofs.«01_k».proof.Proof.ClaimN
public import proofs.«01_k».proof.Proof.ClaimP

@[expose] public section

noncomputable section

namespace Cert.Proof

/-- Everything claimed. -/
theorem claim : Cert.Claim :=
  ⟨Cert.KernelA.Gen.facts, Cert.KernelAIdeal.Gen.facts, Cert.ReferenceAIdeal.Gen.facts,
    Cert.KernelB.Gen.facts, Cert.KernelBIdeal.Gen.facts, Cert.ReferenceBIdeal.Gen.facts,
    Cert.KernelC.Gen.facts, Cert.KernelCIdeal.Gen.facts, Cert.ReferenceCIdeal.Gen.facts,
    Cert.KernelM.Gen.facts, Cert.KernelMIdeal.Gen.facts, Cert.ReferenceMIdeal.Gen.facts,
    Cert.KernelN.Gen.facts, Cert.KernelNIdeal.Gen.facts, Cert.ReferenceNIdeal.Gen.facts,
    Cert.KernelP.Gen.facts, Cert.KernelPIdeal.Gen.facts, Cert.ReferencePIdeal.Gen.facts,
    Cert.Pre_finite_a.Gen.facts, Cert.Pre_finite_b.Gen.facts, Cert.Pre_finite_c.Gen.facts,
    ClaimA.kernel, ClaimA.kernelIdeal, ClaimA.kernelIdeal_pre, ClaimA.reference, ClaimA.reference_pre,
    ClaimB.kernel, ClaimB.kernelIdeal, ClaimB.kernelIdeal_pre, ClaimB.reference, ClaimB.reference_pre,
    ClaimC.kernel, ClaimC.kernelIdeal, ClaimC.kernelIdeal_pre, ClaimC.reference, ClaimC.reference_pre,
    ClaimM.kernel, ClaimM.kernelIdeal, ClaimM.reference, ClaimN.kernel, ClaimN.kernelIdeal, ClaimN.reference,
    ClaimP.kernel, ClaimP.kernelIdeal, ClaimP.reference,
    ClaimA.preserves, ClaimA.algebraic, ClaimB.preserves, ClaimB.algebraic, ClaimC.preserves, ClaimC.algebraic,
    ClaimM.preserves, ClaimM.algebraic, ClaimN.preserves, ClaimN.algebraic, ClaimP.preserves, ClaimP.algebraic⟩

end Cert.Proof

end
